-- ==== Defs.lean ====
def Pre_KernelIdeal (m : (ℓ : Loc Cert.KernelIdeal.nD Cert.KernelIdeal.τ Cert.KernelIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3)
      ∧ r.2.mem ((c.tc : Thread Cert.Kernel40.nD Cert.Kernel40.τ).loc Cert.Kernel40.main_arg4) = m ((c.tc : Thread Cert.Kernel40.nD Cert.Kernel40.τ).loc Cert.Kernel40.main_arg4)
      ∧ r.2.mem ((c.tc : Thread Cert.Kernel40.nD Cert.Kernel40.τ).loc Cert.Kernel40.main_arg5) = m ((c.tc : Thread Cert.Kernel40.nD Cert.Kernel40.τ).loc Cert.Kernel40.main_arg5)
      ∧ r.2.mem ((c.tc : Thread Cert.Kernel40.nD Cert.Kernel40.τ).loc Cert.Kernel40.main_arg6) = m ((c.tc : Thread Cert.Kernel40.nD Cert.Kernel40.τ).loc Cert.Kernel40.main_arg6)
      ∧ r.2.mem ((c.tc : Thread Cert.Kernel40.nD Cert.Kernel40.τ).loc Cert.Kernel40.main_arg7) = m ((c.tc : Thread Cert.Kernel40.nD Cert.Kernel40.τ).loc Cert.Kernel40.main_arg7))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
      ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
      ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5)
      ∧ r.2.mem ((c.tc : Thread Cert.Kernel40Ideal.nD Cert.Kernel40Ideal.τ).loc Cert.Kernel40Ideal.main_arg6) = m ((c.tc : Thread Cert.Kernel40Ideal.nD Cert.Kernel40Ideal.τ).loc Cert.Kernel40Ideal.main_arg6)
      ∧ r.2.mem ((c.tc : Thread Cert.Kernel40Ideal.nD Cert.Kernel40Ideal.τ).loc Cert.Kernel40Ideal.main_arg7) = m ((c.tc : Thread Cert.Kernel40Ideal.nD Cert.Kernel40Ideal.τ).loc Cert.Kernel40Ideal.main_arg7))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3)
      ∧ r.2.mem ((c.tc : Thread Cert.Reference40Ideal.nD Cert.Reference40Ideal.τ).loc Cert.Reference40Ideal.main_arg4) = m ((c.tc : Thread Cert.Reference40Ideal.nD Cert.Reference40Ideal.τ).loc Cert.Reference40Ideal.main_arg4)
      ∧ r.2.mem ((c.tc : Thread Cert.Reference40Ideal.nD Cert.Reference40Ideal.τ).loc Cert.Reference40Ideal.main_arg5) = m ((c.tc : Thread Cert.Reference40Ideal.nD Cert.Reference40Ideal.τ).loc Cert.Reference40Ideal.main_arg5)
      ∧ r.2.mem ((c.tc : Thread Cert.Reference40Ideal.nD Cert.Reference40Ideal.τ).loc Cert.Reference40Ideal.main_arg6) = m ((c.tc : Thread Cert.Reference40Ideal.nD Cert.Reference40Ideal.τ).loc Cert.Reference40Ideal.main_arg6)
      ∧ r.2.mem ((c.tc : Thread Cert.Reference40Ideal.nD Cert.Reference40Ideal.τ).loc Cert.Reference40Ideal.main_arg7) = m ((c.tc : Thread Cert.Reference40Ideal.nD Cert.Reference40Ideal.τ).loc Cert.Reference40Ideal.main_arg7))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v4) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v4) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v5) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v3) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v4) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v6) = v2 c
          ∧ r.2.mem ((c.tc : Thread Cert.Reference27Ideal.nD Cert.Reference27Ideal.τ).loc Cert.Reference27Ideal.main_v12) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v1) = v0 c
          ∧ r.2.mem ((c.tc : Thread Cert.Reference29Ideal.nD Cert.Reference29Ideal.τ).loc Cert.Reference29Ideal.main_v25) = v1 c
          ∧ r.2.mem ((c.tc : Thread Cert.Reference29Ideal.nD Cert.Reference29Ideal.τ).loc Cert.Reference29Ideal.main_v6) = v2 c
          ∧ r.2.mem ((c.tc : Thread Cert.Reference29Ideal.nD Cert.Reference29Ideal.τ).loc Cert.Reference29Ideal.main_v12) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v0) = v0 c
          ∧ r.2.mem ((c.tc : Thread Cert.Reference30Ideal.nD Cert.Reference30Ideal.τ).loc Cert.Reference30Ideal.main_v24) = v1 c
          ∧ r.2.mem ((c.tc : Thread Cert.Reference30Ideal.nD Cert.Reference30Ideal.τ).loc Cert.Reference30Ideal.main_v5) = v2 c
          ∧ r.2.mem ((c.tc : Thread Cert.Reference30Ideal.nD Cert.Reference30Ideal.τ).loc Cert.Reference30Ideal.main_v11) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v0) = v0 c
          ∧ r.2.mem ((c.tc : Thread Cert.Reference31Ideal.nD Cert.Reference31Ideal.τ).loc Cert.Reference31Ideal.main_v24) = v1 c
          ∧ r.2.mem ((c.tc : Thread Cert.Reference31Ideal.nD Cert.Reference31Ideal.τ).loc Cert.Reference31Ideal.main_v5) = v2 c
          ∧ r.2.mem ((c.tc : Thread Cert.Reference31Ideal.nD Cert.Reference31Ideal.τ).loc Cert.Reference31Ideal.main_v11) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v0) = v0 c
          ∧ r.2.mem ((c.tc : Thread Cert.Reference32Ideal.nD Cert.Reference32Ideal.τ).loc Cert.Reference32Ideal.main_v24) = v1 c
          ∧ r.2.mem ((c.tc : Thread Cert.Reference32Ideal.nD Cert.Reference32Ideal.τ).loc Cert.Reference32Ideal.main_v5) = v2 c
          ∧ r.2.mem ((c.tc : Thread Cert.Reference32Ideal.nD Cert.Reference32Ideal.τ).loc Cert.Reference32Ideal.main_v11) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v0_0)) (v1 : (c : Dev Cert.Kernel33Ideal.nD) → Buf (Elt Ideal) ((c.tc : Thread Cert.Kernel33Ideal.nD Cert.Kernel33Ideal.τ).loc Cert.Kernel33Ideal.main_v0_1)) (v2 : (c : Dev Cert.Kernel33Ideal.nD) → Buf (Elt Ideal) ((c.tc : Thread Cert.Kernel33Ideal.nD Cert.Kernel33Ideal.τ).loc Cert.Kernel33Ideal.main_v0_2)) (v3 : (c : Dev Cert.Kernel33Ideal.nD) → Buf (Elt Ideal) ((c.tc : Thread Cert.Kernel33Ideal.nD Cert.Kernel33Ideal.τ).loc Cert.Kernel33Ideal.main_v0_3)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0_0) = v0 c
          ∧ r.2.mem ((c.tc : Thread Cert.Kernel33Ideal.nD Cert.Kernel33Ideal.τ).loc Cert.Kernel33Ideal.main_v0_1) = v1 c
          ∧ r.2.mem ((c.tc : Thread Cert.Kernel33Ideal.nD Cert.Kernel33Ideal.τ).loc Cert.Kernel33Ideal.main_v0_2) = v2 c
          ∧ r.2.mem ((c.tc : Thread Cert.Kernel33Ideal.nD Cert.Kernel33Ideal.τ).loc Cert.Kernel33Ideal.main_v0_3) = v3 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v0) = v0 c
          ∧ r.2.mem ((c.tc : Thread Cert.Reference33Ideal.nD Cert.Reference33Ideal.τ).loc Cert.Reference33Ideal.main_v24) = v1 c
          ∧ r.2.mem ((c.tc : Thread Cert.Reference33Ideal.nD Cert.Reference33Ideal.τ).loc Cert.Reference33Ideal.main_v5) = v2 c
          ∧ r.2.mem ((c.tc : Thread Cert.Reference33Ideal.nD Cert.Reference33Ideal.τ).loc Cert.Reference33Ideal.main_v11) = v3 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v0) = v0 c
          ∧ r.2.mem ((c.tc : Thread Cert.Reference34Ideal.nD Cert.Reference34Ideal.τ).loc Cert.Reference34Ideal.main_v24) = v1 c
          ∧ r.2.mem ((c.tc : Thread Cert.Reference34Ideal.nD Cert.Reference34Ideal.τ).loc Cert.Reference34Ideal.main_v5) = v2 c
          ∧ r.2.mem ((c.tc : Thread Cert.Reference34Ideal.nD Cert.Reference34Ideal.τ).loc Cert.Reference34Ideal.main_v11) = v3 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v0) = v0 c
          ∧ r.2.mem ((c.tc : Thread Cert.Reference35Ideal.nD Cert.Reference35Ideal.τ).loc Cert.Reference35Ideal.main_v24) = v1 c
          ∧ r.2.mem ((c.tc : Thread Cert.Reference35Ideal.nD Cert.Reference35Ideal.τ).loc Cert.Reference35Ideal.main_v5) = v2 c
          ∧ r.2.mem ((c.tc : Thread Cert.Reference35Ideal.nD Cert.Reference35Ideal.τ).loc Cert.Reference35Ideal.main_v11) = v3 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v1) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v1) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v1) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)) →
    ∃ (v0 : (c : Dev Cert.Kernel39Ideal.nD) → Buf (Elt Ideal) ((c.tc : Thread Cert.Kernel39Ideal.nD Cert.Kernel39Ideal.τ).loc Cert.Kernel39Ideal.main_v0)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0) = v0 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v1) = v0 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)
      ∧ m' ((c.tc : Thread Cert.Reference40Ideal.nD Cert.Reference40Ideal.τ).loc Cert.Reference40Ideal.main_arg4) = m ((c.tc : Thread Cert.Kernel40Ideal.nD Cert.Kernel40Ideal.τ).loc Cert.Kernel40Ideal.main_arg4)
      ∧ m' ((c.tc : Thread Cert.Reference40Ideal.nD Cert.Reference40Ideal.τ).loc Cert.Reference40Ideal.main_arg5) = m ((c.tc : Thread Cert.Kernel40Ideal.nD Cert.Kernel40Ideal.τ).loc Cert.Kernel40Ideal.main_arg5)
      ∧ m' ((c.tc : Thread Cert.Reference40Ideal.nD Cert.Reference40Ideal.τ).loc Cert.Reference40Ideal.main_arg6) = m ((c.tc : Thread Cert.Kernel40Ideal.nD Cert.Kernel40Ideal.τ).loc Cert.Kernel40Ideal.main_arg6)
      ∧ m' ((c.tc : Thread Cert.Reference40Ideal.nD Cert.Reference40Ideal.τ).loc Cert.Reference40Ideal.main_arg7) = m ((c.tc : Thread Cert.Kernel40Ideal.nD Cert.Kernel40Ideal.τ).loc Cert.Kernel40Ideal.main_arg7)) →
    ∃ (v0 : (c : Dev Cert.Kernel40Ideal.nD) → Buf (Elt Ideal) ((c.tc : Thread Cert.Kernel40Ideal.nD Cert.Kernel40Ideal.τ).loc Cert.Kernel40Ideal.main_v2_0)) (v1 : (c : Dev Cert.Kernel40Ideal.nD) → Buf (Elt Ideal) ((c.tc : Thread Cert.Kernel40Ideal.nD Cert.Kernel40Ideal.τ).loc Cert.Kernel40Ideal.main_v2_1)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v2_0) = v0 c
          ∧ r.2.mem ((c.tc : Thread Cert.Kernel40Ideal.nD Cert.Kernel40Ideal.τ).loc Cert.Kernel40Ideal.main_v2_1) = v1 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3)
          ∧ r.2.mem ((c.tc : Thread Cert.Kernel40Ideal.nD Cert.Kernel40Ideal.τ).loc Cert.Kernel40Ideal.main_arg4) = m ((c.tc : Thread Cert.Kernel40Ideal.nD Cert.Kernel40Ideal.τ).loc Cert.Kernel40Ideal.main_arg4)
          ∧ r.2.mem ((c.tc : Thread Cert.Kernel40Ideal.nD Cert.Kernel40Ideal.τ).loc Cert.Kernel40Ideal.main_arg5) = m ((c.tc : Thread Cert.Kernel40Ideal.nD Cert.Kernel40Ideal.τ).loc Cert.Kernel40Ideal.main_arg5)
          ∧ r.2.mem ((c.tc : Thread Cert.Kernel40Ideal.nD Cert.Kernel40Ideal.τ).loc Cert.Kernel40Ideal.main_arg6) = m ((c.tc : Thread Cert.Kernel40Ideal.nD Cert.Kernel40Ideal.τ).loc Cert.Kernel40Ideal.main_arg6)
          ∧ r.2.mem ((c.tc : Thread Cert.Kernel40Ideal.nD Cert.Kernel40Ideal.τ).loc Cert.Kernel40Ideal.main_arg7) = m ((c.tc : Thread Cert.Kernel40Ideal.nD Cert.Kernel40Ideal.τ).loc Cert.Kernel40Ideal.main_arg7))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v49) = v0 c
          ∧ r.2.mem ((c.tc : Thread Cert.Reference40Ideal.nD Cert.Reference40Ideal.τ).loc Cert.Reference40Ideal.main_v32) = v1 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3)
          ∧ r.2.mem ((c.tc : Thread Cert.Reference40Ideal.nD Cert.Reference40Ideal.τ).loc Cert.Reference40Ideal.main_arg4) = m' ((c.tc : Thread Cert.Reference40Ideal.nD Cert.Reference40Ideal.τ).loc Cert.Reference40Ideal.main_arg4)
          ∧ r.2.mem ((c.tc : Thread Cert.Reference40Ideal.nD Cert.Reference40Ideal.τ).loc Cert.Reference40Ideal.main_arg5) = m' ((c.tc : Thread Cert.Reference40Ideal.nD Cert.Reference40Ideal.τ).loc Cert.Reference40Ideal.main_arg5)
          ∧ r.2.mem ((c.tc : Thread Cert.Reference40Ideal.nD Cert.Reference40Ideal.τ).loc Cert.Reference40Ideal.main_arg6) = m' ((c.tc : Thread Cert.Reference40Ideal.nD Cert.Reference40Ideal.τ).loc Cert.Reference40Ideal.main_arg6)
          ∧ r.2.mem ((c.tc : Thread Cert.Reference40Ideal.nD Cert.Reference40Ideal.τ).loc Cert.Reference40Ideal.main_arg7) = m' ((c.tc : Thread Cert.Reference40Ideal.nD Cert.Reference40Ideal.τ).loc Cert.Reference40Ideal.main_arg7))

def Claim : Prop :=
  ∃ (hKernelIdeal : Cert.KernelIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts),
    quiescent_KernelIdeal (hKernelIdeal := hKernelIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
-- ==== KernelIdeal.lean ====
abbrev S16384x6144 : Shape := ⟨2, ![16384, 6144]⟩
abbrev S16384 : Shape := ⟨1, ![16384]⟩
abbrev S16384x2048 : Shape := ⟨2, ![16384, 2048]⟩
abbrev S16384x1 : Shape := ⟨2, ![16384, 1]⟩
abbrev S_ : Shape := ⟨0, ![]⟩
abbrev S127 : Shape := ⟨1, ![127]⟩
abbrev S1 : Shape := ⟨1, ![1]⟩
abbrev S128 : Shape := ⟨1, ![128]⟩
abbrev S1x128 : Shape := ⟨2, ![1, 128]⟩
abbrev S16384x128 : Shape := ⟨2, ![16384, 128]⟩
abbrev S4 : Shape := ⟨1, ![4]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S1x128x1 : Shape := ⟨3, ![1, 128, 1]⟩
abbrev S4x128x1 : Shape := ⟨3, ![4, 128, 1]⟩
abbrev S4x128x256x512 : Shape := ⟨4, ![4, 128, 256, 512]⟩
abbrev S512x1536 : Shape := ⟨2, ![512, 1536]⟩
abbrev S512x128 : Shape := ⟨2, ![512, 128]⟩
abbrev S1x1x1 : Shape := ⟨3, ![1, 1, 1]⟩
abbrev S512x512 : Shape := ⟨2, ![512, 512]⟩
abbrev S1x4x256x512 : Shape := ⟨4, ![1, 4, 256, 512]⟩
abbrev S1x256x512 : Shape := ⟨3, ![1, 256, 512]⟩
abbrev S1x1 : Shape := ⟨2, ![1, 1]⟩
abbrev S128x256 : Shape := ⟨2, ![128, 256]⟩
abbrev S128x512 : Shape := ⟨2, ![128, 512]⟩
abbrev S256x512 : Shape := ⟨2, ![256, 512]⟩
abbrev S1x1x256x512 : Shape := ⟨4, ![1, 1, 256, 512]⟩
abbrev S512x3072 : Shape := ⟨2, ![512, 3072]⟩
abbrev S512x1024 : Shape := ⟨2, ![512, 1024]⟩
abbrev S2x4x256x512 : Shape := ⟨4, ![2, 4, 256, 512]⟩
abbrev S2x128x128 : Shape := ⟨3, ![2, 128, 128]⟩
abbrev S2x128x1 : Shape := ⟨3, ![2, 128, 1]⟩
abbrev S2x1x1 : Shape := ⟨3, ![2, 1, 1]⟩
abbrev S2x256x512 : Shape := ⟨3, ![2, 256, 512]⟩

abbrev nBuf : Space → Nat
  | .hbm => 156
  | .vmem => 44
  | .smem => 0
  | _ => 0

abbrev hbmTy0_0 (i : Nat) : BufTy := match i % 128 with
  | 0 => ⟨S16384x6144, .bf16⟩
  | 1 => ⟨S16384, .i32⟩
  | 2 => ⟨S16384x2048, .bf16⟩
  | 3 => ⟨S16384, .f32⟩
  | 4 => ⟨S16384x1, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S127, .f32⟩
  | 13 => ⟨S_, .f32⟩
  | 14 => ⟨S127, .f32⟩
  | 15 => ⟨S127, .f32⟩
  | 16 => ⟨S1, .f32⟩
  | 17 => ⟨S_, .f32⟩
  | 18 => ⟨S127, .f32⟩
  | 19 => ⟨S127, .f32⟩
  | 20 => ⟨S127, .f32⟩
  | 21 => ⟨S127, .f32⟩
  | 22 => ⟨S1, .f32⟩
  | 23 => ⟨S127, .f32⟩
  | 24 => ⟨S127, .f32⟩
  | 25 => ⟨S127, .f32⟩
  | 26 => ⟨S1, .f32⟩
  | 27 => ⟨S128, .f32⟩
  | 28 => ⟨S_, .f32⟩
  | 29 => ⟨S128, .f32⟩
  | 30 => ⟨S128, .f32⟩
  | 31 => ⟨S_, .f32⟩
  | 32 => ⟨S128, .f32⟩
  | 33 => ⟨S128, .f32⟩
  | 34 => ⟨S1x128, .f32⟩
  | 35 => ⟨S16384x128, .f32⟩
  | 36 => ⟨S16384x128, .f32⟩
  | 37 => ⟨S16384x128, .f32⟩
  | 38 => ⟨S16384x128, .f32⟩
  | 39 => ⟨S16384x128, .f32⟩
  | 40 => ⟨S4, .f32⟩
  | 41 => ⟨S_, .f32⟩
  | 42 => ⟨S4, .f32⟩
  | 43 => ⟨S4, .f32⟩
  | 44 => ⟨S_, .f32⟩
  | 45 => ⟨S4, .f32⟩
  | 46 => ⟨S4, .f32⟩
  | 47 => ⟨S4, .f32⟩
  | 48 => ⟨S4, .f32⟩
  | 49 => ⟨S128, .f32⟩
  | 50 => ⟨S128x1, .f32⟩
  | 51 => ⟨S1x128, .f32⟩
  | 52 => ⟨S128x128, .f32⟩
  | 53 => ⟨S128x128, .f32⟩
  | 54 => ⟨S128x128, .f32⟩
  | 55 => ⟨S1x128x128, .f32⟩
  | 56 => ⟨S_, .f32⟩
  | 57 => ⟨S1x128x128, .f32⟩
  | 58 => ⟨S1x128x128, .i1⟩
  | 59 => ⟨S_, .f32⟩
  | 60 => ⟨S128x128, .f32⟩
  | 61 => ⟨S128x128, .f32⟩
  | 62 => ⟨S1x128x128, .f32⟩
  | 63 => ⟨S4x1x1, .f32⟩
  | 64 => ⟨S4x128x128, .f32⟩
  | 65 => ⟨S4x128x128, .f32⟩
  | 66 => ⟨S4x128x128, .f32⟩
  | 67 => ⟨S4x128x128, .f32⟩
  | 68 => ⟨S_, .f32⟩
  | 69 => ⟨S_, .f32⟩
  | 70 => ⟨S4x128x128, .i1⟩
  | 71 => ⟨S4x128x128, .f32⟩
  | 72 => ⟨S4x128x128, .f32⟩
  | 73 => ⟨S_, .f32⟩
  | 74 => ⟨S128, .f32⟩
  | 75 => ⟨S128, .f32⟩
  | 76 => ⟨S1x128x1, .f32⟩
  | 77 => ⟨S4x1x1, .f32⟩
  | 78 => ⟨S4x128x1, .f32⟩
  | 79 => ⟨S4x128x1, .f32⟩
  | 80 => ⟨S4x128x1, .f32⟩
  | 81 => ⟨S4x128x1, .f32⟩
  | 82 => ⟨S_, .f32⟩
  | 83 => ⟨S128, .f32⟩
  | 84 => ⟨S128, .f32⟩
  | 85 => ⟨S1x128x1, .f32⟩
  | 86 => ⟨S4x1x1, .f32⟩
  | 87 => ⟨S4x128x1, .f32⟩
  | 88 => ⟨S4x128x1, .f32⟩
  | 89 => ⟨S4x128x1, .f32⟩
  | 90 => ⟨S4x128x1, .f32⟩
  | 91 => ⟨S_, .f32⟩
  | 92 => ⟨S4, .f32⟩
  | 93 => ⟨S4, .f32⟩
  | 94 => ⟨S4, .f32⟩
  | 95 => ⟨S4x1x1, .f32⟩
  | 96 => ⟨S16384x2048, .bf16⟩
  | 97 => ⟨S16384x2048, .bf16⟩
  | 98 => ⟨S4x128x256x512, .bf16⟩
  | 99 => ⟨S4, .f32⟩
  | 100 => ⟨S_, .f32⟩
  | 101 => ⟨S4, .f32⟩
  | 102 => ⟨S4, .f32⟩
  | 103 => ⟨S_, .f32⟩
  | 104 => ⟨S4, .f32⟩
  | 105 => ⟨S4, .f32⟩
  | 106 => ⟨S4, .f32⟩
  | 107 => ⟨S4, .f32⟩
  | 108 => ⟨S128, .f32⟩
  | 109 => ⟨S128x1, .f32⟩
  | 110 => ⟨S1x128, .f32⟩
  | 111 => ⟨S128x128, .f32⟩
  | 112 => ⟨S128x128, .f32⟩
  | 113 => ⟨S128x128, .f32⟩
  | 114 => ⟨S1x128x128, .f32⟩
  | 115 => ⟨S_, .f32⟩
  | 116 => ⟨S1x128x128, .f32⟩
  | 117 => ⟨S1x128x128, .i1⟩
  | 118 => ⟨S_, .f32⟩
  | 119 => ⟨S128x128, .f32⟩
  | 120 => ⟨S128x128, .f32⟩
  | 121 => ⟨S1x128x128, .f32⟩
  | 122 => ⟨S4x1x1, .f32⟩
  | 123 => ⟨S4x128x128, .f32⟩
  | 124 => ⟨S4x128x128, .f32⟩
  | 125 => ⟨S4x128x128, .f32⟩
  | 126 => ⟨S4x128x128, .f32⟩
  | 127 => ⟨S_, .f32⟩
  | _ => ⟨S16384x6144, .bf16⟩

abbrev hbmTy0_1 (i : Nat) : BufTy := match i % 128 with
  | 0 => ⟨S_, .f32⟩
  | 1 => ⟨S4x128x128, .i1⟩
  | 2 => ⟨S4x128x128, .f32⟩
  | 3 => ⟨S4x128x128, .f32⟩
  | 4 => ⟨S_, .f32⟩
  | 5 => ⟨S128, .f32⟩
  | 6 => ⟨S128, .f32⟩
  | 7 => ⟨S1x128x1, .f32⟩
  | 8 => ⟨S4x1x1, .f32⟩
  | 9 => ⟨S4x128x1, .f32⟩
  | 10 => ⟨S4x128x1, .f32⟩
  | 11 => ⟨S4x128x1, .f32⟩
  | 12 => ⟨S4x128x1, .f32⟩
  | 13 => ⟨S_, .f32⟩
  | 14 => ⟨S128, .f32⟩
  | 15 => ⟨S128, .f32⟩
  | 16 => ⟨S1x128x1, .f32⟩
  | 17 => ⟨S4x1x1, .f32⟩
  | 18 => ⟨S4x128x1, .f32⟩
  | 19 => ⟨S4x128x1, .f32⟩
  | 20 => ⟨S4x128x1, .f32⟩
  | 21 => ⟨S4x128x1, .f32⟩
  | 22 => ⟨S_, .f32⟩
  | 23 => ⟨S4, .f32⟩
  | 24 => ⟨S4, .f32⟩
  | 25 => ⟨S4, .f32⟩
  | 26 => ⟨S4x1x1, .f32⟩
  | 27 => ⟨S16384x6144, .bf16⟩
  | _ => ⟨S16384x6144, .bf16⟩

abbrev hbmTy (i : Nat) : BufTy := match i / 128 with
  | 0 => hbmTy0_0 i
  | 1 => hbmTy0_1 i
  | _ => ⟨S16384x6144, .bf16⟩

abbrev bufTy : (tb : Table) → Fin (tcTables nBuf tb) → BufTy
  | .hbm, ⟨i, _⟩ => hbmTy i
  | .local _ .vmem, ⟨0, _⟩ => ⟨S512x1536, .bf16⟩
  | .local _ .vmem, ⟨1, _⟩ => ⟨S512x1536, .bf16⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x128x128, .f32⟩
  | .local _ .vmem, ⟨7, _⟩ => ⟨S1x128x128, .f32⟩
  | .local _ .vmem, ⟨8, _⟩ => ⟨S1x128x1, .f32⟩
  | .local _ .vmem, ⟨9, _⟩ => ⟨S1x128x1, .f32⟩
  | .local _ .vmem, ⟨10, _⟩ => ⟨S1x128x1, .f32⟩
  | .local _ .vmem, ⟨11, _⟩ => ⟨S1x128x1, .f32⟩
  | .local _ .vmem, ⟨12, _⟩ => ⟨S1x1x1, .f32⟩
  | .local _ .vmem, ⟨13, _⟩ => ⟨S1x1x1, .f32⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S1x4x256x512, .bf16⟩
  | .local _ .vmem, ⟨19, _⟩ => ⟨S1x4x256x512, .bf16⟩
  | .local _ .vmem, ⟨20, _⟩ => ⟨S1x256x512, .f32⟩
  | .local _ .vmem, ⟨21, _⟩ => ⟨S512x3072, .bf16⟩
  | .local _ .vmem, ⟨22, _⟩ => ⟨S512x3072, .bf16⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x1024, .bf16⟩
  | .local _ .vmem, ⟨28, _⟩ => ⟨S512x1024, .bf16⟩
  | .local _ .vmem, ⟨29, _⟩ => ⟨S512x1024, .bf16⟩
  | .local _ .vmem, ⟨30, _⟩ => ⟨S512x1024, .bf16⟩
  | .local _ .vmem, ⟨31, _⟩ => ⟨S2x4x256x512, .bf16⟩
  | .local _ .vmem, ⟨32, _⟩ => ⟨S2x4x256x512, .bf16⟩
  | .local _ .vmem, ⟨33, _⟩ => ⟨S2x128x128, .f32⟩
  | .local _ .vmem, ⟨34, _⟩ => ⟨S2x128x128, .f32⟩
  | .local _ .vmem, ⟨35, _⟩ => ⟨S2x128x1, .f32⟩
  | .local _ .vmem, ⟨36, _⟩ => ⟨S2x128x1, .f32⟩
  | .local _ .vmem, ⟨37, _⟩ => ⟨S2x128x1, .f32⟩
  | .local _ .vmem, ⟨38, _⟩ => ⟨S2x128x1, .f32⟩
  | .local _ .vmem, ⟨39, _⟩ => ⟨S2x1x1, .f32⟩
  | .local _ .vmem, ⟨40, _⟩ => ⟨S2x1x1, .f32⟩
  | .local _ .vmem, ⟨41, _⟩ => ⟨S512x3072, .bf16⟩
  | .local _ .vmem, ⟨42, _⟩ => ⟨S512x3072, .bf16⟩
  | .local _ .vmem, ⟨43, _⟩ => ⟨S2x256x512, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_cst : Ref sig .tc := ⟨.hbm, 10, rfl⟩
abbrev main_call0_v3 : Ref sig .tc := ⟨.hbm, 11, rfl⟩
abbrev main_call0_v4 : Ref sig .tc := ⟨.hbm, 12, rfl⟩
abbrev main_call0_cst_0 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_cst_1 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_v15 : Ref sig .tc := ⟨.hbm, 25, rfl⟩
abbrev main_call0_v16 : Ref sig .tc := ⟨.hbm, 26, rfl⟩
abbrev main_v2 : Ref sig .tc := ⟨.hbm, 27, rfl⟩
abbrev main_cst_1 : Ref sig .tc := ⟨.hbm, 28, rfl⟩
abbrev main_v3 : Ref sig .tc := ⟨.hbm, 29, rfl⟩
abbrev main_v4 : Ref sig .tc := ⟨.hbm, 30, rfl⟩
abbrev main_cst_2 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_3 : Ref sig .tc := ⟨.hbm, 41, rfl⟩
abbrev main_v14 : Ref sig .tc := ⟨.hbm, 42, rfl⟩
abbrev main_v15 : Ref sig .tc := ⟨.hbm, 43, rfl⟩
abbrev main_cst_4 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_5 : Ref sig .tc := ⟨.hbm, 56, rfl⟩
abbrev main_v27 : Ref sig .tc := ⟨.hbm, 57, rfl⟩
abbrev main_v28 : Ref sig .tc := ⟨.hbm, 58, rfl⟩
abbrev main_cst_6 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_cst_7 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v37 : Ref sig .tc := ⟨.hbm, 72, rfl⟩
abbrev main_cst_8 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_9 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_10 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58_0 : Ref sig .tc := ⟨.hbm, 96, rfl⟩
abbrev main_v58_1 : Ref sig .tc := ⟨.hbm, 97, rfl⟩
abbrev main_v58_2 : Ref sig .tc := ⟨.hbm, 98, rfl⟩
abbrev main_v59 : Ref sig .tc := ⟨.hbm, 99, rfl⟩
abbrev main_cst_11 : Ref sig .tc := ⟨.hbm, 100, rfl⟩
abbrev main_v60 : Ref sig .tc := ⟨.hbm, 101, rfl⟩
abbrev main_v61 : Ref sig .tc := ⟨.hbm, 102, rfl⟩
abbrev main_cst_12 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_13 : Ref sig .tc := ⟨.hbm, 115, rfl⟩
abbrev main_v73 : Ref sig .tc := ⟨.hbm, 116, rfl⟩
abbrev main_v74 : Ref sig .tc := ⟨.hbm, 117, rfl⟩
abbrev main_cst_14 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_cst_15 : Ref sig .tc := ⟨.hbm, 127, rfl⟩
abbrev main_call2_v0 : Ref sig .tc := ⟨.hbm, 128, rfl⟩
abbrev main_call2_v1 : Ref sig .tc := ⟨.hbm, 129, rfl⟩
abbrev main_call2_v2 : Ref sig .tc := ⟨.hbm, 130, rfl⟩
abbrev main_v83 : Ref sig .tc := ⟨.hbm, 131, rfl⟩
abbrev main_cst_16 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_cst_17 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_cst_18 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg3_1 : Ref sig .tc := ⟨.vmem, 28, rfl⟩
abbrev cc1_stg4_0 : Ref sig .tc := ⟨.vmem, 29, rfl⟩
abbrev cc1_stg4_1 : Ref sig .tc := ⟨.vmem, 30, rfl⟩
abbrev cc1_stg5_0 : Ref sig .tc := ⟨.vmem, 31, rfl⟩
abbrev cc1_stg5_1 : Ref sig .tc := ⟨.vmem, 32, rfl⟩
abbrev cc1_stg6_0 : Ref sig .tc := ⟨.vmem, 33, rfl⟩
abbrev cc1_stg6_1 : Ref sig .tc := ⟨.vmem, 34, rfl⟩
abbrev cc1_stg7_0 : Ref sig .tc := ⟨.vmem, 35, rfl⟩
abbrev cc1_stg7_1 : Ref sig .tc := ⟨.vmem, 36, rfl⟩
abbrev cc1_stg8_0 : Ref sig .tc := ⟨.vmem, 37, rfl⟩
abbrev cc1_stg8_1 : Ref sig .tc := ⟨.vmem, 38, rfl⟩
abbrev cc1_stg9_0 : Ref sig .tc := ⟨.vmem, 39, rfl⟩
abbrev cc1_stg9_1 : Ref sig .tc := ⟨.vmem, 40, rfl⟩
abbrev cc1_stg10_0 : Ref sig .tc := ⟨.vmem, 41, rfl⟩
abbrev cc1_stg10_1 : Ref sig .tc := ⟨.vmem, 42, rfl⟩
abbrev cc1_scratch0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33
abbrev cc1_sem7_0 : DmaSem sig := 34
abbrev cc1_sem7_1 : DmaSem sig := 35
abbrev cc1_sem8_0 : DmaSem sig := 36
abbrev cc1_sem8_1 : DmaSem sig := 37
abbrev cc1_sem9_0 : DmaSem sig := 38
abbrev cc1_sem9_1 : DmaSem sig := 39
abbrev cc1_sem10_0 : DmaSem sig := 40
abbrev cc1_sem10_1 : DmaSem sig := 41

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev grid1 : Pipeline.Grid := ⟨2, ![2, 32], ![false, false]⟩

def cc1_transform_0 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![v0.toNat, c0_i32.toNat]

def cc1_transform_3 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_4 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

def cc1_transform_5 (i : grid1.Coords) : Fin 4 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  ![v0.toNat, arg0.toNat]

abbrev stage1_0 : Fin 2 → Memref sig .tc .vmem S512x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2x4x256x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S2x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S2x128x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2x128x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S2x1x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev stage1_10 : Fin 2 → Memref sig .tc .vmem S512x3072 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]
-- ==== Kernel2.lean ====
abbrev S16384x4096 : Shape := ⟨2, ![16384, 4096]⟩
abbrev S16384x1024 : Shape := ⟨2, ![16384, 1024]⟩
abbrev S4096x1024 : Shape := ⟨2, ![4096, 1024]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S4096x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S_, .f32⟩
  | .hbm, ⟨3, _⟩ => ⟨S4096x1024, .f32⟩
  | .hbm, ⟨4, _⟩ => ⟨S16384x4096, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x1024, .f32⟩
  | .hbm, ⟨10, _⟩ => ⟨S16384x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel3.lean ====
abbrev S16384x1024 : Shape := ⟨2, ![16384, 1024]⟩
abbrev S4096x1024 : Shape := ⟨2, ![4096, 1024]⟩
abbrev S16384x4096 : Shape := ⟨2, ![16384, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S16384x1024, .bf16⟩
  | .hbm, ⟨1, _⟩ => ⟨S4096x1024, .bf16⟩
  | .hbm, ⟨2, _⟩ => ⟨S16384x4096, .bf16⟩
  | .hbm, ⟨3, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S16384x1024 : Shape := ⟨2, ![16384, 1024]⟩
abbrev S4096x1024 : Shape := ⟨2, ![4096, 1024]⟩
abbrev S16384x4096 : Shape := ⟨2, ![16384, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4096x1024, .bf16⟩
  | .hbm, ⟨2, _⟩ => ⟨S16384x4096, .bf16⟩
  | .hbm, ⟨3, _⟩ => ⟨S16384x4096, .f32⟩
  | .hbm, ⟨4, _⟩ => ⟨S4096x1024, .f32⟩
  | .hbm, ⟨5, _⟩ => ⟨S_, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .i1⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x1024, .f32⟩
  | .hbm, ⟨18, _⟩ => ⟨S16384x1024, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel4.lean ====
abbrev S16384x4096 : Shape := ⟨2, ![16384, 4096]⟩
abbrev S16384x1024 : Shape := ⟨2, ![16384, 1024]⟩
abbrev S4096x1024 : Shape := ⟨2, ![4096, 1024]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S4096x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S16384x4096 : Shape := ⟨2, ![16384, 4096]⟩
abbrev S16384x1024 : Shape := ⟨2, ![16384, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 12
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x1024, .bf16⟩
  | .hbm, ⟨2, _⟩ => ⟨S_, .f32⟩
  | .hbm, ⟨3, _⟩ => ⟨S4096x1024, .f32⟩
  | .hbm, ⟨4, _⟩ => ⟨S16384x1024, .f32⟩
  | .hbm, ⟨5, _⟩ => ⟨S1024x4096, .f32⟩
  | .hbm, ⟨6, _⟩ => ⟨S16384x4096, .f32⟩
  | .hbm, ⟨7, _⟩ => ⟨S16384x4096, .f32⟩
  | .hbm, ⟨8, _⟩ => ⟨S4096x1024, .f32⟩
  | .hbm, ⟨9, _⟩ => ⟨S1024x4096, .f32⟩
  | .hbm, ⟨10, _⟩ => ⟨S4096x1024, .f32⟩
  | .hbm, ⟨11, _⟩ => ⟨S4096x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S16384x4096 : Shape := ⟨2, ![16384, 4096]⟩
abbrev S4096x1024 : Shape := ⟨2, ![4096, 1024]⟩
abbrev S16384x1024 : Shape := ⟨2, ![16384, 1024]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S16384x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S16384x4096 : Shape := ⟨2, ![16384, 4096]⟩
abbrev S4096x1024 : Shape := ⟨2, ![4096, 1024]⟩
abbrev S_ : Shape := ⟨0, ![]⟩
abbrev S16384x1024 : Shape := ⟨2, ![16384, 1024]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S_, .f32⟩
  | .hbm, ⟨3, _⟩ => ⟨S16384x1024, .f32⟩
  | .hbm, ⟨4, _⟩ => ⟨S4096x1024, .f32⟩
  | .hbm, ⟨5, _⟩ => ⟨S1024x4096, .f32⟩
  | .hbm, ⟨6, _⟩ => ⟨S16384x4096, .f32⟩
  | .hbm, ⟨7, _⟩ => ⟨S16384x4096, .f32⟩
  | .hbm, ⟨8, _⟩ => ⟨S16384x1024, .f32⟩
  | .hbm, ⟨9, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S16384x6144 : Shape := ⟨2, ![16384, 6144]⟩
abbrev S16384x1024 : Shape := ⟨2, ![16384, 1024]⟩
abbrev S6144x1024 : Shape := ⟨2, ![6144, 1024]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x6144, .bf16⟩
  | .hbm, ⟨1, _⟩ => ⟨S16384x1024, .bf16⟩
  | .hbm, ⟨2, _⟩ => ⟨S6144x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S16384x6144 : Shape := ⟨2, ![16384, 6144]⟩
abbrev S16384x1024 : Shape := ⟨2, ![16384, 1024]⟩
abbrev S_ : Shape := ⟨0, ![]⟩
abbrev S6144x1024 : Shape := ⟨2, ![6144, 1024]⟩
abbrev S1024x6144 : Shape := ⟨2, ![1024, 6144]⟩

abbrev nBuf : Space → Nat
  | .hbm => 12
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S16384x1024, .bf16⟩
  | .hbm, ⟨2, _⟩ => ⟨S_, .f32⟩
  | .hbm, ⟨3, _⟩ => ⟨S6144x1024, .f32⟩
  | .hbm, ⟨4, _⟩ => ⟨S16384x1024, .f32⟩
  | .hbm, ⟨5, _⟩ => ⟨S1024x6144, .f32⟩
  | .hbm, ⟨6, _⟩ => ⟨S16384x6144, .f32⟩
  | .hbm, ⟨7, _⟩ => ⟨S16384x6144, .f32⟩
  | .hbm, ⟨8, _⟩ => ⟨S6144x1024, .f32⟩
  | .hbm, ⟨9, _⟩ => ⟨S1024x6144, .f32⟩
  | .hbm, ⟨10, _⟩ => ⟨S6144x1024, .f32⟩
  | .hbm, ⟨11, _⟩ => ⟨S6144x1024, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S16384x6144 : Shape := ⟨2, ![16384, 6144]⟩
abbrev S6144x1024 : Shape := ⟨2, ![6144, 1024]⟩
abbrev S16384x1024 : Shape := ⟨2, ![16384, 1024]⟩
abbrev S512x6144 : Shape := ⟨2, ![512, 6144]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x6144, .bf16⟩
  | .hbm, ⟨1, _⟩ => ⟨S6144x1024, .bf16⟩
  | .hbm, ⟨2, _⟩ => ⟨S16384x1024, .bf16⟩
  | .local _ .vmem, ⟨0, _⟩ => ⟨S512x6144, .bf16⟩
  | .local _ .vmem, ⟨1, _⟩ => ⟨S512x6144, .bf16⟩
  | .local _ .vmem, ⟨2, _⟩ => ⟨S6144x1024, .bf16⟩
  | .local _ .vmem, ⟨3, _⟩ => ⟨S512x1024, .bf16⟩
  | .local _ .vmem, ⟨4, _⟩ => ⟨S512x1024, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![32, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S6144x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S16384x6144 : Shape := ⟨2, ![16384, 6144]⟩
abbrev S6144x1024 : Shape := ⟨2, ![6144, 1024]⟩
abbrev S_ : Shape := ⟨0, ![]⟩
abbrev S16384x1024 : Shape := ⟨2, ![16384, 1024]⟩
abbrev S1024x6144 : Shape := ⟨2, ![1024, 6144]⟩

abbrev nBuf : Space → Nat
  | .hbm => 10
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S6144x1024, .bf16⟩
  | .hbm, ⟨2, _⟩ => ⟨S_, .f32⟩
  | .hbm, ⟨3, _⟩ => ⟨S16384x1024, .f32⟩
  | .hbm, ⟨4, _⟩ => ⟨S6144x1024, .f32⟩
  | .hbm, ⟨5, _⟩ => ⟨S1024x6144, .f32⟩
  | .hbm, ⟨6, _⟩ => ⟨S16384x6144, .f32⟩
  | .hbm, ⟨7, _⟩ => ⟨S16384x6144, .f32⟩
  | .hbm, ⟨8, _⟩ => ⟨S16384x1024, .f32⟩
  | .hbm, ⟨9, _⟩ => ⟨S16384x1024, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S16384x2048 : Shape := ⟨2, ![16384, 2048]⟩
abbrev S16384x1024 : Shape := ⟨2, ![16384, 1024]⟩
abbrev S2048x1024 : Shape := ⟨2, ![2048, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S_, .f32⟩
  | .hbm, ⟨3, _⟩ => ⟨S2048x1024, .f32⟩
  | .hbm, ⟨4, _⟩ => ⟨S16384x1024, .f32⟩
  | .hbm, ⟨5, _⟩ => ⟨S1024x2048, .f32⟩
  | .hbm, ⟨6, _⟩ => ⟨S16384x2048, .f32⟩
  | .hbm, ⟨7, _⟩ => ⟨S16384x2048, .f32⟩
  | .hbm, ⟨8, _⟩ => ⟨S2048x1024, .f32⟩
  | .hbm, ⟨9, _⟩ => ⟨S1024x2048, .f32⟩
  | .hbm, ⟨10, _⟩ => ⟨S2048x1024, .f32⟩
  | .hbm, ⟨11, _⟩ => ⟨S2048x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel9.lean ====
abbrev S16384x2048 : Shape := ⟨2, ![16384, 2048]⟩
abbrev S2048x1024 : Shape := ⟨2, ![2048, 1024]⟩
abbrev S16384x1024 : Shape := ⟨2, ![16384, 1024]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S16384x2048 : Shape := ⟨2, ![16384, 2048]⟩
abbrev S2048x1024 : Shape := ⟨2, ![2048, 1024]⟩
abbrev S_ : Shape := ⟨0, ![]⟩
abbrev S16384x1024 : Shape := ⟨2, ![16384, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S_, .f32⟩
  | .hbm, ⟨3, _⟩ => ⟨S16384x1024, .f32⟩
  | .hbm, ⟨4, _⟩ => ⟨S2048x1024, .f32⟩
  | .hbm, ⟨5, _⟩ => ⟨S1024x2048, .f32⟩
  | .hbm, ⟨6, _⟩ => ⟨S16384x2048, .f32⟩
  | .hbm, ⟨7, _⟩ => ⟨S16384x2048, .f32⟩
  | .hbm, ⟨8, _⟩ => ⟨S16384x1024, .f32⟩
  | .hbm, ⟨9, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S16384x1536 : Shape := ⟨2, ![16384, 1536]⟩
abbrev S16384x1024 : Shape := ⟨2, ![16384, 1024]⟩
abbrev S1536x1024 : Shape := ⟨2, ![1536, 1024]⟩
abbrev S2048x1536 : Shape := ⟨2, ![2048, 1536]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1536, .bf16⟩
  | .hbm, ⟨1, _⟩ => ⟨S16384x1024, .bf16⟩
  | .hbm, ⟨2, _⟩ => ⟨S1536x1024, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .f32⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S16384x1536 : Shape := ⟨2, ![16384, 1536]⟩
abbrev S16384x1024 : Shape := ⟨2, ![16384, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S16384x1024, .bf16⟩
  | .hbm, ⟨2, _⟩ => ⟨S_, .f32⟩
  | .hbm, ⟨3, _⟩ => ⟨S1536x1024, .f32⟩
  | .hbm, ⟨4, _⟩ => ⟨S16384x1024, .f32⟩
  | .hbm, ⟨5, _⟩ => ⟨S1024x1536, .f32⟩
  | .hbm, ⟨6, _⟩ => ⟨S16384x1536, .f32⟩
  | .hbm, ⟨7, _⟩ => ⟨S16384x1536, .f32⟩
  | .hbm, ⟨8, _⟩ => ⟨S1536x1024, .f32⟩
  | .hbm, ⟨9, _⟩ => ⟨S1024x1536, .f32⟩
  | .hbm, ⟨10, _⟩ => ⟨S1536x1024, .f32⟩
  | .hbm, ⟨11, _⟩ => ⟨S1536x1024, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S16384x1536 : Shape := ⟨2, ![16384, 1536]⟩
abbrev S1536x1024 : Shape := ⟨2, ![1536, 1024]⟩
abbrev S16384x1024 : Shape := ⟨2, ![16384, 1024]⟩
abbrev S2048x1536 : Shape := ⟨2, ![2048, 1536]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1536, .bf16⟩
  | .hbm, ⟨1, _⟩ => ⟨S1536x1024, .bf16⟩
  | .hbm, ⟨2, _⟩ => ⟨S16384x1024, .bf16⟩
  | .local _ .vmem, ⟨0, _⟩ => ⟨S2048x1536, .bf16⟩
  | .local _ .vmem, ⟨1, _⟩ => ⟨S2048x1536, .bf16⟩
  | .local _ .vmem, ⟨2, _⟩ => ⟨S1536x1024, .bf16⟩
  | .local _ .vmem, ⟨3, _⟩ => ⟨S2048x1024, .bf16⟩
  | .local _ .vmem, ⟨4, _⟩ => ⟨S2048x1024, .bf16⟩
  | _, _ => ⟨S16384x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1536x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S16384x1536 : Shape := ⟨2, ![16384, 1536]⟩
abbrev S1536x1024 : Shape := ⟨2, ![1536, 1024]⟩
abbrev S_ : Shape := ⟨0, ![]⟩
abbrev S16384x1024 : Shape := ⟨2, ![16384, 1024]⟩
abbrev S1024x1536 : Shape := ⟨2, ![1024, 1536]⟩

abbrev nBuf : Space → Nat
  | .hbm => 10
  | .vmem => 0
  | .smem => 0
  | _ => 0

abbrev bufTy : (tb : Table) → Fin (tcTables nBuf tb) → BufTy
  | .hbm, ⟨0, _⟩ => ⟨S16384x1536, .bf16⟩
  | .hbm, ⟨1, _⟩ => ⟨S1536x1024, .bf16⟩
  | .hbm, ⟨2, _⟩ => ⟨S_, .f32⟩
  | .hbm, ⟨3, _⟩ => ⟨S16384x1024, .f32⟩
  | .hbm, ⟨4, _⟩ => ⟨S1536x1024, .f32⟩
  | .hbm, ⟨5, _⟩ => ⟨S1024x1536, .f32⟩
  | .hbm, ⟨6, _⟩ => ⟨S16384x1536, .f32⟩
  | .hbm, ⟨7, _⟩ => ⟨S16384x1536, .f32⟩
  | .hbm, ⟨8, _⟩ => ⟨S16384x1024, .f32⟩
  | .hbm, ⟨9, _⟩ => ⟨S16384x1024, .bf16⟩
  | _, _ => ⟨S16384x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S16384x2048 : Shape := ⟨2, ![16384, 2048]⟩
abbrev S16384x1024 : Shape := ⟨2, ![16384, 1024]⟩
abbrev S2048x1024 : Shape := ⟨2, ![2048, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S2048x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S16384x2048 : Shape := ⟨2, ![16384, 2048]⟩
abbrev S16384x1024 : Shape := ⟨2, ![16384, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x1024, .bf16⟩
  | .hbm, ⟨2, _⟩ => ⟨S_, .f32⟩
  | .hbm, ⟨3, _⟩ => ⟨S2048x1024, .f32⟩
  | .hbm, ⟨4, _⟩ => ⟨S16384x2048, .f32⟩
  | .hbm, ⟨5, _⟩ => ⟨S16384x1024, .f32⟩
  | .hbm, ⟨6, _⟩ => ⟨S16384x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S16384x1024 : Shape := ⟨2, ![16384, 1024]⟩
abbrev S2048x1024 : Shape := ⟨2, ![2048, 1024]⟩
abbrev S16384x2048 : Shape := ⟨2, ![16384, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .bf16⟩
  | .hbm, ⟨2, _⟩ => ⟨S16384x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x2048, .bf16⟩
  | .local _ .vmem, ⟨4, _⟩ => ⟨S2048x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S16384x1024 : Shape := ⟨2, ![16384, 1024]⟩
abbrev S2048x1024 : Shape := ⟨2, ![2048, 1024]⟩
abbrev S_ : Shape := ⟨0, ![]⟩
abbrev S16384x2048 : Shape := ⟨2, ![16384, 2048]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .bf16⟩
  | .hbm, ⟨2, _⟩ => ⟨S_, .f32⟩
  | .hbm, ⟨3, _⟩ => ⟨S16384x2048, .f32⟩
  | .hbm, ⟨4, _⟩ => ⟨S2048x1024, .f32⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference14Ideal.lean ====
abbrev S16384x1024 : Shape := ⟨2, ![16384, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S_, .f32⟩
  | .hbm, ⟨3, _⟩ => ⟨S1024x1024, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S16384x1024 : Shape := ⟨2, ![16384, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S_, .f32⟩
  | .hbm, ⟨3, _⟩ => ⟨S16384x1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S16384x1024 : Shape := ⟨2, ![16384, 1024]⟩
abbrev S16384x512 : Shape := ⟨2, ![16384, 512]⟩
abbrev S1024x512 : Shape := ⟨2, ![1024, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S16384x1024 : Shape := ⟨2, ![16384, 1024]⟩
abbrev S16384x512 : Shape := ⟨2, ![16384, 512]⟩
abbrev S_ : Shape := ⟨0, ![]⟩
abbrev S1024x512 : Shape := ⟨2, ![1024, 512]⟩
abbrev S512x1024 : Shape := ⟨2, ![512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x512, .bf16⟩
  | .hbm, ⟨2, _⟩ => ⟨S_, .f32⟩
  | .hbm, ⟨3, _⟩ => ⟨S1024x512, .f32⟩
  | .hbm, ⟨4, _⟩ => ⟨S16384x512, .f32⟩
  | .hbm, ⟨5, _⟩ => ⟨S512x1024, .f32⟩
  | .hbm, ⟨6, _⟩ => ⟨S16384x1024, .f32⟩
  | .hbm, ⟨7, _⟩ => ⟨S16384x1024, .f32⟩
  | .hbm, ⟨8, _⟩ => ⟨S1024x512, .f32⟩
  | .hbm, ⟨9, _⟩ => ⟨S512x1024, .f32⟩
  | .hbm, ⟨10, _⟩ => ⟨S1024x512, .f32⟩
  | .hbm, ⟨11, _⟩ => ⟨S1024x512, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel17.lean ====
abbrev S16384x1024 : Shape := ⟨2, ![16384, 1024]⟩
abbrev S1024x512 : Shape := ⟨2, ![1024, 512]⟩
abbrev S16384x512 : Shape := ⟨2, ![16384, 512]⟩
abbrev S2048x1024 : Shape := ⟨2, ![2048, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x512, .bf16⟩
  | .hbm, ⟨2, _⟩ => ⟨S16384x512, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S16384x1024 : Shape := ⟨2, ![16384, 1024]⟩
abbrev S1024x512 : Shape := ⟨2, ![1024, 512]⟩
abbrev S_ : Shape := ⟨0, ![]⟩
abbrev S16384x512 : Shape := ⟨2, ![16384, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x512, .bf16⟩
  | .hbm, ⟨2, _⟩ => ⟨S_, .f32⟩
  | .hbm, ⟨3, _⟩ => ⟨S16384x512, .f32⟩
  | .hbm, ⟨4, _⟩ => ⟨S1024x512, .f32⟩
  | .hbm, ⟨5, _⟩ => ⟨S512x1024, .f32⟩
  | .hbm, ⟨6, _⟩ => ⟨S16384x1024, .f32⟩
  | .hbm, ⟨7, _⟩ => ⟨S16384x1024, .f32⟩
  | .hbm, ⟨8, _⟩ => ⟨S16384x512, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S16384x1024 : Shape := ⟨2, ![16384, 1024]⟩
abbrev S16384x256 : Shape := ⟨2, ![16384, 256]⟩
abbrev S1024x256 : Shape := ⟨2, ![1024, 256]⟩
abbrev S2048x1024 : Shape := ⟨2, ![2048, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S1024x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .bf16⟩
  | .local _ .vmem, ⟨5, _⟩ => ⟨S1024x256, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S16384x1024 : Shape := ⟨2, ![16384, 1024]⟩
abbrev S16384x256 : Shape := ⟨2, ![16384, 256]⟩
abbrev S_ : Shape := ⟨0, ![]⟩
abbrev S1024x256 : Shape := ⟨2, ![1024, 256]⟩
abbrev S256x1024 : Shape := ⟨2, ![256, 1024]⟩

abbrev nBuf : Space → Nat
  | .hbm => 12
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x256, .bf16⟩
  | .hbm, ⟨2, _⟩ => ⟨S_, .f32⟩
  | .hbm, ⟨3, _⟩ => ⟨S1024x256, .f32⟩
  | .hbm, ⟨4, _⟩ => ⟨S16384x256, .f32⟩
  | .hbm, ⟨5, _⟩ => ⟨S256x1024, .f32⟩
  | .hbm, ⟨6, _⟩ => ⟨S16384x1024, .f32⟩
  | .hbm, ⟨7, _⟩ => ⟨S16384x1024, .f32⟩
  | .hbm, ⟨8, _⟩ => ⟨S1024x256, .f32⟩
  | .hbm, ⟨9, _⟩ => ⟨S256x1024, .f32⟩
  | .hbm, ⟨10, _⟩ => ⟨S1024x256, .f32⟩
  | .hbm, ⟨11, _⟩ => ⟨S1024x256, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel19.lean ====
abbrev S16384x1024 : Shape := ⟨2, ![16384, 1024]⟩
abbrev S6144x1024 : Shape := ⟨2, ![6144, 1024]⟩
abbrev S16384x6144 : Shape := ⟨2, ![16384, 6144]⟩
abbrev S2048x1024 : Shape := ⟨2, ![2048, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S6144x1024, .bf16⟩
  | .hbm, ⟨2, _⟩ => ⟨S16384x6144, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x2048, .bf16⟩
  | .local _ .vmem, ⟨5, _⟩ => ⟨S2048x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S16384x1024 : Shape := ⟨2, ![16384, 1024]⟩
abbrev S6144x1024 : Shape := ⟨2, ![6144, 1024]⟩
abbrev S1024x6144 : Shape := ⟨2, ![1024, 6144]⟩
abbrev S16384x6144 : Shape := ⟨2, ![16384, 6144]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S6144x1024, .bf16⟩
  | .hbm, ⟨2, _⟩ => ⟨S16384x1024, .f32⟩
  | .hbm, ⟨3, _⟩ => ⟨S6144x1024, .f32⟩
  | .hbm, ⟨4, _⟩ => ⟨S1024x6144, .f32⟩
  | .hbm, ⟨5, _⟩ => ⟨S16384x6144, .f32⟩
  | .hbm, ⟨6, _⟩ => ⟨S16384x6144, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel20.lean ====
abbrev S16384x1024 : Shape := ⟨2, ![16384, 1024]⟩
abbrev S4096x1024 : Shape := ⟨2, ![4096, 1024]⟩
abbrev S16384x4096 : Shape := ⟨2, ![16384, 4096]⟩
abbrev S2048x1024 : Shape := ⟨2, ![2048, 1024]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S16384x1024, .bf16⟩
  | .hbm, ⟨1, _⟩ => ⟨S4096x1024, .bf16⟩
  | .hbm, ⟨2, _⟩ => ⟨S16384x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2048x2048, .bf16⟩
  | .local _ .vmem, ⟨5, _⟩ => ⟨S2048x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S16384x1024 : Shape := ⟨2, ![16384, 1024]⟩
abbrev S4096x1024 : Shape := ⟨2, ![4096, 1024]⟩
abbrev S1024x4096 : Shape := ⟨2, ![1024, 4096]⟩
abbrev S16384x4096 : Shape := ⟨2, ![16384, 4096]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S4096x1024, .bf16⟩
  | .hbm, ⟨2, _⟩ => ⟨S16384x1024, .f32⟩
  | .hbm, ⟨3, _⟩ => ⟨S4096x1024, .f32⟩
  | .hbm, ⟨4, _⟩ => ⟨S1024x4096, .f32⟩
  | .hbm, ⟨5, _⟩ => ⟨S16384x4096, .f32⟩
  | .hbm, ⟨6, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel21.lean ====
abbrev S16384x4096 : Shape := ⟨2, ![16384, 4096]⟩
abbrev S4096x1024 : Shape := ⟨2, ![4096, 1024]⟩
abbrev S16384x1024 : Shape := ⟨2, ![16384, 1024]⟩
abbrev S2048x2048 : Shape := ⟨2, ![2048, 2048]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S16384x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S16384x4096 : Shape := ⟨2, ![16384, 4096]⟩
abbrev S4096x1024 : Shape := ⟨2, ![4096, 1024]⟩
abbrev S_ : Shape := ⟨0, ![]⟩
abbrev S16384x1024 : Shape := ⟨2, ![16384, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4096x1024, .bf16⟩
  | .hbm, ⟨2, _⟩ => ⟨S16384x4096, .f32⟩
  | .hbm, ⟨3, _⟩ => ⟨S4096x1024, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x1024, .f32⟩
  | .hbm, ⟨9, _⟩ => ⟨S16384x1024, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel22.lean ====
abbrev S16384x1024 : Shape := ⟨2, ![16384, 1024]⟩
abbrev S2048x1024 : Shape := ⟨2, ![2048, 1024]⟩
abbrev S16384x2048 : Shape := ⟨2, ![16384, 2048]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .bf16⟩
  | .hbm, ⟨2, _⟩ => ⟨S16384x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x2048, .bf16⟩
  | .local _ .vmem, ⟨4, _⟩ => ⟨S2048x2048, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S16384x1024 : Shape := ⟨2, ![16384, 1024]⟩
abbrev S2048x1024 : Shape := ⟨2, ![2048, 1024]⟩
abbrev S1024x2048 : Shape := ⟨2, ![1024, 2048]⟩
abbrev S16384x2048 : Shape := ⟨2, ![16384, 2048]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S2048x1024, .bf16⟩
  | .hbm, ⟨2, _⟩ => ⟨S16384x1024, .f32⟩
  | .hbm, ⟨3, _⟩ => ⟨S2048x1024, .f32⟩
  | .hbm, ⟨4, _⟩ => ⟨S1024x2048, .f32⟩
  | .hbm, ⟨5, _⟩ => ⟨S16384x2048, .f32⟩
  | .hbm, ⟨6, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel23.lean ====
abbrev S16384x2048 : Shape := ⟨2, ![16384, 2048]⟩
abbrev S2048x1024 : Shape := ⟨2, ![2048, 1024]⟩
abbrev S16384x1024 : Shape := ⟨2, ![16384, 1024]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x1024, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S16384x2048 : Shape := ⟨2, ![16384, 2048]⟩
abbrev S2048x1024 : Shape := ⟨2, ![2048, 1024]⟩
abbrev S16384x1024 : Shape := ⟨2, ![16384, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x1024, .bf16⟩
  | .hbm, ⟨2, _⟩ => ⟨S16384x2048, .f32⟩
  | .hbm, ⟨3, _⟩ => ⟨S2048x1024, .f32⟩
  | .hbm, ⟨4, _⟩ => ⟨S16384x1024, .f32⟩
  | .hbm, ⟨5, _⟩ => ⟨S16384x1024, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel24.lean ====
abbrev S16384x1024 : Shape := ⟨2, ![16384, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S16384x1024 : Shape := ⟨2, ![16384, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .bf16⟩
  | .hbm, ⟨2, _⟩ => ⟨S16384x1024, .f32⟩
  | .hbm, ⟨3, _⟩ => ⟨S1024x1024, .f32⟩
  | .hbm, ⟨4, _⟩ => ⟨S16384x1024, .f32⟩
  | .hbm, ⟨5, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel25.lean ====
abbrev S16384x512 : Shape := ⟨2, ![16384, 512]⟩
abbrev S1024x512 : Shape := ⟨2, ![1024, 512]⟩
abbrev S16384x1024 : Shape := ⟨2, ![16384, 1024]⟩
abbrev S2048x512 : Shape := ⟨2, ![2048, 512]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x512, .bf16⟩
  | .hbm, ⟨1, _⟩ => ⟨S1024x512, .bf16⟩
  | .hbm, ⟨2, _⟩ => ⟨S16384x1024, .bf16⟩
  | .local _ .vmem, ⟨0, _⟩ => ⟨S2048x512, .bf16⟩
  | .local _ .vmem, ⟨1, _⟩ => ⟨S2048x512, .bf16⟩
  | .local _ .vmem, ⟨2, _⟩ => ⟨S1024x512, .bf16⟩
  | .local _ .vmem, ⟨3, _⟩ => ⟨S2048x1024, .bf16⟩
  | .local _ .vmem, ⟨4, _⟩ => ⟨S2048x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S16384x512 : Shape := ⟨2, ![16384, 512]⟩
abbrev S1024x512 : Shape := ⟨2, ![1024, 512]⟩
abbrev S512x1024 : Shape := ⟨2, ![512, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S1024x512, .bf16⟩
  | .hbm, ⟨2, _⟩ => ⟨S16384x512, .f32⟩
  | .hbm, ⟨3, _⟩ => ⟨S1024x512, .f32⟩
  | .hbm, ⟨4, _⟩ => ⟨S512x1024, .f32⟩
  | .hbm, ⟨5, _⟩ => ⟨S16384x1024, .f32⟩
  | .hbm, ⟨6, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel26.lean ====
abbrev S16384x256 : Shape := ⟨2, ![16384, 256]⟩
abbrev S1024x256 : Shape := ⟨2, ![1024, 256]⟩
abbrev S16384x1024 : Shape := ⟨2, ![16384, 1024]⟩
abbrev S2048x256 : Shape := ⟨2, ![2048, 256]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S16384x256, .bf16⟩
  | .hbm, ⟨1, _⟩ => ⟨S1024x256, .bf16⟩
  | .hbm, ⟨2, _⟩ => ⟨S16384x1024, .bf16⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S2048x1024, .bf16⟩
  | .local _ .vmem, ⟨4, _⟩ => ⟨S2048x1024, .bf16⟩
  | _, _ => ⟨S16384x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S16384x256 : Shape := ⟨2, ![16384, 256]⟩
abbrev S1024x256 : Shape := ⟨2, ![1024, 256]⟩
abbrev S256x1024 : Shape := ⟨2, ![256, 1024]⟩
abbrev S16384x1024 : Shape := ⟨2, ![16384, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x256, .bf16⟩
  | .hbm, ⟨1, _⟩ => ⟨S1024x256, .bf16⟩
  | .hbm, ⟨2, _⟩ => ⟨S16384x256, .f32⟩
  | .hbm, ⟨3, _⟩ => ⟨S1024x256, .f32⟩
  | .hbm, ⟨4, _⟩ => ⟨S256x1024, .f32⟩
  | .hbm, ⟨5, _⟩ => ⟨S16384x1024, .f32⟩
  | .hbm, ⟨6, _⟩ => ⟨S16384x1024, .bf16⟩
  | _, _ => ⟨S16384x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel27.lean ====
abbrev S8x256x1024 : Shape := ⟨3, ![8, 256, 1024]⟩
abbrev S256x1024 : Shape := ⟨2, ![256, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel28.lean ====
abbrev S8x128x1024 : Shape := ⟨3, ![8, 128, 1024]⟩
abbrev S128x1024 : Shape := ⟨2, ![128, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel29.lean ====
abbrev S8x512x1024 : Shape := ⟨3, ![8, 512, 1024]⟩
abbrev S512x1024 : Shape := ⟨2, ![512, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference29Ideal.lean ====
abbrev S8x512x1024 : Shape := ⟨3, ![8, 512, 1024]⟩
abbrev S512x1024 : Shape := ⟨2, ![512, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .hbm, ⟨2, _⟩ => ⟨S512x1024, .f32⟩
  | .hbm, ⟨3, _⟩ => ⟨S512x1024, .f32⟩
  | .hbm, ⟨4, _⟩ => ⟨S8x512x1024, .f32⟩
  | .hbm, ⟨5, _⟩ => ⟨S_, .f32⟩
  | .hbm, ⟨6, _⟩ => ⟨S512x1024, .f32⟩
  | .hbm, ⟨7, _⟩ => ⟨S_, .f32⟩
  | .hbm, ⟨8, _⟩ => ⟨S512x1024, .f32⟩
  | .hbm, ⟨9, _⟩ => ⟨S512x1024, .f32⟩
  | .hbm, ⟨10, _⟩ => ⟨S_, .f32⟩
  | .hbm, ⟨11, _⟩ => ⟨S512x1024, .f32⟩
  | .hbm, ⟨12, _⟩ => ⟨S512x1024, .f32⟩
  | .hbm, ⟨13, _⟩ => ⟨S512x1024, .f32⟩
  | .hbm, ⟨14, _⟩ => ⟨S_, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S_, .f32⟩
  | .hbm, ⟨19, _⟩ => ⟨S512x1024, .f32⟩
  | .hbm, ⟨20, _⟩ => ⟨S512x1024, .f32⟩
  | .hbm, ⟨21, _⟩ => ⟨S512x1024, .f32⟩
  | .hbm, ⟨22, _⟩ => ⟨S_, .f32⟩
  | .hbm, ⟨23, _⟩ => ⟨S512x1024, .f32⟩
  | .hbm, ⟨24, _⟩ => ⟨S512x1024, .f32⟩
  | .hbm, ⟨25, _⟩ => ⟨S_, .f32⟩
  | .hbm, ⟨26, _⟩ => ⟨S512x1024, .f32⟩
  | .hbm, ⟨27, _⟩ => ⟨S512x1024, .f32⟩
  | .hbm, ⟨28, _⟩ => ⟨S512x1024, .f32⟩
  | .hbm, ⟨29, _⟩ => ⟨S_, .f32⟩
  | .hbm, ⟨30, _⟩ => ⟨S512x1024, .f32⟩
  | .hbm, ⟨31, _⟩ => ⟨S512x1024, .f32⟩
  | .hbm, ⟨32, _⟩ => ⟨S512x1024, .f32⟩
  | .hbm, ⟨33, _⟩ => ⟨S_, .f32⟩
  | .hbm, ⟨34, _⟩ => ⟨S512x1024, .f32⟩
  | .hbm, ⟨35, _⟩ => ⟨S512x1024, .f32⟩
  | .hbm, ⟨36, _⟩ => ⟨S512x1024, .f32⟩
  | .hbm, ⟨37, _⟩ => ⟨S_, .f32⟩
  | .hbm, ⟨38, _⟩ => ⟨S512x1024, .f32⟩
  | .hbm, ⟨39, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel30.lean ====
abbrev S8x16x1024 : Shape := ⟨3, ![8, 16, 1024]⟩
abbrev S16x1024 : Shape := ⟨2, ![16, 1024]⟩
abbrev S1x16x1024 : Shape := ⟨3, ![1, 16, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .local _ .vmem, ⟨0, _⟩ => ⟨S8x16x1024, .f32⟩
  | .local _ .vmem, ⟨1, _⟩ => ⟨S16x1024, .f32⟩
  | .local _ .vmem, ⟨2, _⟩ => ⟨S16x1024, .f32⟩
  | .local _ .vmem, ⟨3, _⟩ => ⟨S16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S8x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference30Ideal.lean ====
abbrev S8x16x1024 : Shape := ⟨3, ![8, 16, 1024]⟩
abbrev S16x1024 : Shape := ⟨2, ![16, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x16x1024, .f32⟩
  | .hbm, ⟨1, _⟩ => ⟨S16x1024, .f32⟩
  | .hbm, ⟨2, _⟩ => ⟨S16x1024, .f32⟩
  | .hbm, ⟨3, _⟩ => ⟨S16x1024, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S_, .f32⟩
  | .hbm, ⟨25, _⟩ => ⟨S16x1024, .f32⟩
  | .hbm, ⟨26, _⟩ => ⟨S16x1024, .f32⟩
  | .hbm, ⟨27, _⟩ => ⟨S16x1024, .f32⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1024, .f32⟩
  | .hbm, ⟨36, _⟩ => ⟨S_, .f32⟩
  | .hbm, ⟨37, _⟩ => ⟨S16x1024, .f32⟩
  | .hbm, ⟨38, _⟩ => ⟨S16x1024, .f32⟩
  | _, _ => ⟨S8x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel31.lean ====
abbrev S1x1024x1600 : Shape := ⟨3, ![1, 1024, 1600]⟩
abbrev S1024x1600 : Shape := ⟨2, ![1024, 1600]⟩
abbrev S1x32x1600 : Shape := ⟨3, ![1, 32, 1600]⟩
abbrev S32x1600 : Shape := ⟨2, ![32, 1600]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1600, .f32⟩
  | .hbm, ⟨1, _⟩ => ⟨S1024x1600, .f32⟩
  | .hbm, ⟨2, _⟩ => ⟨S1024x1600, .f32⟩
  | .hbm, ⟨3, _⟩ => ⟨S1024x1600, .f32⟩
  | .hbm, ⟨4, _⟩ => ⟨S1024x1600, .f32⟩
  | .hbm, ⟨5, _⟩ => ⟨S1024x1600, .f32⟩
  | .hbm, ⟨6, _⟩ => ⟨S1024x1600, .f32⟩
  | .hbm, ⟨7, _⟩ => ⟨S1024x1600, .f32⟩
  | .local _ .vmem, ⟨0, _⟩ => ⟨S1x32x1600, .f32⟩
  | .local _ .vmem, ⟨1, _⟩ => ⟨S1x32x1600, .f32⟩
  | .local _ .vmem, ⟨2, _⟩ => ⟨S32x1600, .f32⟩
  | .local _ .vmem, ⟨3, _⟩ => ⟨S32x1600, .f32⟩
  | .local _ .vmem, ⟨4, _⟩ => ⟨S32x1600, .f32⟩
  | .local _ .vmem, ⟨5, _⟩ => ⟨S32x1600, .f32⟩
  | .local _ .vmem, ⟨6, _⟩ => ⟨S32x1600, .f32⟩
  | .local _ .vmem, ⟨7, _⟩ => ⟨S32x1600, .f32⟩
  | .local _ .vmem, ⟨8, _⟩ => ⟨S32x1600, .f32⟩
  | .local _ .vmem, ⟨9, _⟩ => ⟨S32x1600, .f32⟩
  | .local _ .vmem, ⟨10, _⟩ => ⟨S32x1600, .f32⟩
  | .local _ .vmem, ⟨11, _⟩ => ⟨S32x1600, .f32⟩
  | .local _ .vmem, ⟨12, _⟩ => ⟨S32x1600, .f32⟩
  | .local _ .vmem, ⟨13, _⟩ => ⟨S32x1600, .f32⟩
  | .local _ .vmem, ⟨14, _⟩ => ⟨S32x1600, .f32⟩
  | .local _ .vmem, ⟨15, _⟩ => ⟨S32x1600, .f32⟩
  | _, _ => ⟨S1x1024x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x32x1600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1600 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1600 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1600 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1600 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference31Ideal.lean ====
abbrev S1x1024x1600 : Shape := ⟨3, ![1, 1024, 1600]⟩
abbrev S1024x1600 : Shape := ⟨2, ![1024, 1600]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x1600, .f32⟩
  | .hbm, ⟨1, _⟩ => ⟨S1024x1600, .f32⟩
  | .hbm, ⟨2, _⟩ => ⟨S1024x1600, .f32⟩
  | .hbm, ⟨3, _⟩ => ⟨S1024x1600, .f32⟩
  | .hbm, ⟨4, _⟩ => ⟨S_, .f32⟩
  | .hbm, ⟨5, _⟩ => ⟨S1024x1600, .f32⟩
  | .hbm, ⟨6, _⟩ => ⟨S_, .f32⟩
  | .hbm, ⟨7, _⟩ => ⟨S1024x1600, .f32⟩
  | .hbm, ⟨8, _⟩ => ⟨S1024x1600, .f32⟩
  | .hbm, ⟨9, _⟩ => ⟨S_, .f32⟩
  | .hbm, ⟨10, _⟩ => ⟨S1024x1600, .f32⟩
  | .hbm, ⟨11, _⟩ => ⟨S1024x1600, .f32⟩
  | .hbm, ⟨12, _⟩ => ⟨S1024x1600, .f32⟩
  | .hbm, ⟨13, _⟩ => ⟨S_, .f32⟩
  | .hbm, ⟨14, _⟩ => ⟨S1024x1600, .f32⟩
  | .hbm, ⟨15, _⟩ => ⟨S1024x1600, .f32⟩
  | .hbm, ⟨16, _⟩ => ⟨S1024x1600, .f32⟩
  | .hbm, ⟨17, _⟩ => ⟨S_, .f32⟩
  | .hbm, ⟨18, _⟩ => ⟨S1024x1600, .f32⟩
  | .hbm, ⟨19, _⟩ => ⟨S1024x1600, .f32⟩
  | .hbm, ⟨20, _⟩ => ⟨S1024x1600, .f32⟩
  | .hbm, ⟨21, _⟩ => ⟨S_, .f32⟩
  | .hbm, ⟨22, _⟩ => ⟨S1024x1600, .f32⟩
  | .hbm, ⟨23, _⟩ => ⟨S1024x1600, .f32⟩
  | .hbm, ⟨24, _⟩ => ⟨S_, .f32⟩
  | .hbm, ⟨25, _⟩ => ⟨S1024x1600, .f32⟩
  | .hbm, ⟨26, _⟩ => ⟨S1024x1600, .f32⟩
  | .hbm, ⟨27, _⟩ => ⟨S1024x1600, .f32⟩
  | .hbm, ⟨28, _⟩ => ⟨S_, .f32⟩
  | .hbm, ⟨29, _⟩ => ⟨S1024x1600, .f32⟩
  | .hbm, ⟨30, _⟩ => ⟨S1024x1600, .f32⟩
  | .hbm, ⟨31, _⟩ => ⟨S1024x1600, .f32⟩
  | .hbm, ⟨32, _⟩ => ⟨S_, .f32⟩
  | .hbm, ⟨33, _⟩ => ⟨S1024x1600, .f32⟩
  | .hbm, ⟨34, _⟩ => ⟨S1024x1600, .f32⟩
  | .hbm, ⟨35, _⟩ => ⟨S1024x1600, .f32⟩
  | .hbm, ⟨36, _⟩ => ⟨S_, .f32⟩
  | .hbm, ⟨37, _⟩ => ⟨S1024x1600, .f32⟩
  | .hbm, ⟨38, _⟩ => ⟨S1024x1600, .f32⟩
  | _, _ => ⟨S1x1024x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel32.lean ====
abbrev S1x1024x512 : Shape := ⟨3, ![1, 1024, 512]⟩
abbrev S1024x512 : Shape := ⟨2, ![1024, 512]⟩
abbrev S1x128x512 : Shape := ⟨3, ![1, 128, 512]⟩
abbrev S128x512 : Shape := ⟨2, ![128, 512]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S1x128x512, .f32⟩
  | .local _ .vmem, ⟨1, _⟩ => ⟨S1x128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference32Ideal.lean ====
abbrev S1x1024x512 : Shape := ⟨3, ![1, 1024, 512]⟩
abbrev S1024x512 : Shape := ⟨2, ![1024, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S_, .f32⟩
  | .hbm, ⟨14, _⟩ => ⟨S1024x512, .f32⟩
  | .hbm, ⟨15, _⟩ => ⟨S1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S_, .f32⟩
  | .hbm, ⟨37, _⟩ => ⟨S1024x512, .f32⟩
  | .hbm, ⟨38, _⟩ => ⟨S1024x512, .f32⟩
  | _, _ => ⟨S1x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel33.lean ====
abbrev S1x512x128 : Shape := ⟨3, ![1, 512, 128]⟩
abbrev S512x128 : Shape := ⟨2, ![512, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .local _ .vmem, ⟨0, _⟩ => ⟨S1x512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | _, _ => ⟨S1x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference33Ideal.lean ====
abbrev S1x512x128 : Shape := ⟨3, ![1, 512, 128]⟩
abbrev S512x128 : Shape := ⟨2, ![512, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S_, .f32⟩
  | .hbm, ⟨7, _⟩ => ⟨S512x128, .f32⟩
  | .hbm, ⟨8, _⟩ => ⟨S512x128, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S512x128, .f32⟩
  | .hbm, ⟨13, _⟩ => ⟨S_, .f32⟩
  | .hbm, ⟨14, _⟩ => ⟨S512x128, .f32⟩
  | .hbm, ⟨15, _⟩ => ⟨S512x128, .f32⟩
  | .hbm, ⟨16, _⟩ => ⟨S512x128, .f32⟩
  | .hbm, ⟨17, _⟩ => ⟨S_, .f32⟩
  | .hbm, ⟨18, _⟩ => ⟨S512x128, .f32⟩
  | .hbm, ⟨19, _⟩ => ⟨S512x128, .f32⟩
  | .hbm, ⟨20, _⟩ => ⟨S512x128, .f32⟩
  | .hbm, ⟨21, _⟩ => ⟨S_, .f32⟩
  | .hbm, ⟨22, _⟩ => ⟨S512x128, .f32⟩
  | .hbm, ⟨23, _⟩ => ⟨S512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S512x128, .f32⟩
  | .hbm, ⟨28, _⟩ => ⟨S_, .f32⟩
  | .hbm, ⟨29, _⟩ => ⟨S512x128, .f32⟩
  | .hbm, ⟨30, _⟩ => ⟨S512x128, .f32⟩
  | .hbm, ⟨31, _⟩ => ⟨S512x128, .f32⟩
  | .hbm, ⟨32, _⟩ => ⟨S_, .f32⟩
  | .hbm, ⟨33, _⟩ => ⟨S512x128, .f32⟩
  | .hbm, ⟨34, _⟩ => ⟨S512x128, .f32⟩
  | .hbm, ⟨35, _⟩ => ⟨S512x128, .f32⟩
  | .hbm, ⟨36, _⟩ => ⟨S_, .f32⟩
  | .hbm, ⟨37, _⟩ => ⟨S512x128, .f32⟩
  | .hbm, ⟨38, _⟩ => ⟨S512x128, .f32⟩
  | _, _ => ⟨S1x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel34.lean ====
abbrev S1x256x128 : Shape := ⟨3, ![1, 256, 128]⟩
abbrev S256x128 : Shape := ⟨2, ![256, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S1x256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | _, _ => ⟨S1x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference34Ideal.lean ====
abbrev S1x256x128 : Shape := ⟨3, ![1, 256, 128]⟩
abbrev S256x128 : Shape := ⟨2, ![256, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S_, .f32⟩
  | .hbm, ⟨5, _⟩ => ⟨S256x128, .f32⟩
  | .hbm, ⟨6, _⟩ => ⟨S_, .f32⟩
  | .hbm, ⟨7, _⟩ => ⟨S256x128, .f32⟩
  | .hbm, ⟨8, _⟩ => ⟨S256x128, .f32⟩
  | .hbm, ⟨9, _⟩ => ⟨S_, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S_, .f32⟩
  | .hbm, ⟨14, _⟩ => ⟨S256x128, .f32⟩
  | .hbm, ⟨15, _⟩ => ⟨S256x128, .f32⟩
  | .hbm, ⟨16, _⟩ => ⟨S256x128, .f32⟩
  | .hbm, ⟨17, _⟩ => ⟨S_, .f32⟩
  | .hbm, ⟨18, _⟩ => ⟨S256x128, .f32⟩
  | .hbm, ⟨19, _⟩ => ⟨S256x128, .f32⟩
  | .hbm, ⟨20, _⟩ => ⟨S256x128, .f32⟩
  | .hbm, ⟨21, _⟩ => ⟨S_, .f32⟩
  | .hbm, ⟨22, _⟩ => ⟨S256x128, .f32⟩
  | .hbm, ⟨23, _⟩ => ⟨S256x128, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S256x128, .f32⟩
  | .hbm, ⟨28, _⟩ => ⟨S_, .f32⟩
  | .hbm, ⟨29, _⟩ => ⟨S256x128, .f32⟩
  | .hbm, ⟨30, _⟩ => ⟨S256x128, .f32⟩
  | .hbm, ⟨31, _⟩ => ⟨S256x128, .f32⟩
  | .hbm, ⟨32, _⟩ => ⟨S_, .f32⟩
  | .hbm, ⟨33, _⟩ => ⟨S256x128, .f32⟩
  | .hbm, ⟨34, _⟩ => ⟨S256x128, .f32⟩
  | .hbm, ⟨35, _⟩ => ⟨S256x128, .f32⟩
  | .hbm, ⟨36, _⟩ => ⟨S_, .f32⟩
  | .hbm, ⟨37, _⟩ => ⟨S256x128, .f32⟩
  | .hbm, ⟨38, _⟩ => ⟨S256x128, .f32⟩
  | _, _ => ⟨S1x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel35.lean ====
abbrev S1x2x128 : Shape := ⟨3, ![1, 2, 128]⟩
abbrev S2x128 : Shape := ⟨2, ![2, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S2x128, .f32⟩
  | .hbm, ⟨5, _⟩ => ⟨S2x128, .f32⟩
  | .hbm, ⟨6, _⟩ => ⟨S2x128, .f32⟩
  | .hbm, ⟨7, _⟩ => ⟨S2x128, .f32⟩
  | .local _ .vmem, ⟨0, _⟩ => ⟨S1x2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | .local _ .vmem, ⟨7, _⟩ => ⟨S2x128, .f32⟩
  | _, _ => ⟨S1x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference35Ideal.lean ====
abbrev S1x2x128 : Shape := ⟨3, ![1, 2, 128]⟩
abbrev S2x128 : Shape := ⟨2, ![2, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1x2x128, .f32⟩
  | .hbm, ⟨1, _⟩ => ⟨S2x128, .f32⟩
  | .hbm, ⟨2, _⟩ => ⟨S2x128, .f32⟩
  | .hbm, ⟨3, _⟩ => ⟨S2x128, .f32⟩
  | .hbm, ⟨4, _⟩ => ⟨S_, .f32⟩
  | .hbm, ⟨5, _⟩ => ⟨S2x128, .f32⟩
  | .hbm, ⟨6, _⟩ => ⟨S_, .f32⟩
  | .hbm, ⟨7, _⟩ => ⟨S2x128, .f32⟩
  | .hbm, ⟨8, _⟩ => ⟨S2x128, .f32⟩
  | .hbm, ⟨9, _⟩ => ⟨S_, .f32⟩
  | .hbm, ⟨10, _⟩ => ⟨S2x128, .f32⟩
  | .hbm, ⟨11, _⟩ => ⟨S2x128, .f32⟩
  | .hbm, ⟨12, _⟩ => ⟨S2x128, .f32⟩
  | .hbm, ⟨13, _⟩ => ⟨S_, .f32⟩
  | .hbm, ⟨14, _⟩ => ⟨S2x128, .f32⟩
  | .hbm, ⟨15, _⟩ => ⟨S2x128, .f32⟩
  | .hbm, ⟨16, _⟩ => ⟨S2x128, .f32⟩
  | .hbm, ⟨17, _⟩ => ⟨S_, .f32⟩
  | .hbm, ⟨18, _⟩ => ⟨S2x128, .f32⟩
  | .hbm, ⟨19, _⟩ => ⟨S2x128, .f32⟩
  | .hbm, ⟨20, _⟩ => ⟨S2x128, .f32⟩
  | .hbm, ⟨21, _⟩ => ⟨S_, .f32⟩
  | .hbm, ⟨22, _⟩ => ⟨S2x128, .f32⟩
  | .hbm, ⟨23, _⟩ => ⟨S2x128, .f32⟩
  | .hbm, ⟨24, _⟩ => ⟨S_, .f32⟩
  | .hbm, ⟨25, _⟩ => ⟨S2x128, .f32⟩
  | .hbm, ⟨26, _⟩ => ⟨S2x128, .f32⟩
  | .hbm, ⟨27, _⟩ => ⟨S2x128, .f32⟩
  | .hbm, ⟨28, _⟩ => ⟨S_, .f32⟩
  | .hbm, ⟨29, _⟩ => ⟨S2x128, .f32⟩
  | .hbm, ⟨30, _⟩ => ⟨S2x128, .f32⟩
  | .hbm, ⟨31, _⟩ => ⟨S2x128, .f32⟩
  | .hbm, ⟨32, _⟩ => ⟨S_, .f32⟩
  | .hbm, ⟨33, _⟩ => ⟨S2x128, .f32⟩
  | .hbm, ⟨34, _⟩ => ⟨S2x128, .f32⟩
  | .hbm, ⟨35, _⟩ => ⟨S2x128, .f32⟩
  | .hbm, ⟨36, _⟩ => ⟨S_, .f32⟩
  | .hbm, ⟨37, _⟩ => ⟨S2x128, .f32⟩
  | .hbm, ⟨38, _⟩ => ⟨S2x128, .f32⟩
  | _, _ => ⟨S1x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel36.lean ====
abbrev S8x1600x1024 : Shape := ⟨3, ![8, 1600, 1024]⟩
abbrev S1600x1024 : Shape := ⟨2, ![1600, 1024]⟩
abbrev S8x400x1024 : Shape := ⟨3, ![8, 400, 1024]⟩
abbrev S400x1024 : Shape := ⟨2, ![400, 1024]⟩
abbrev S1x400x1024 : Shape := ⟨3, ![1, 400, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x1600x1024, .bf16⟩
  | .hbm, ⟨1, _⟩ => ⟨S1600x1024, .f32⟩
  | .local _ .vmem, ⟨0, _⟩ => ⟨S8x400x1024, .bf16⟩
  | .local _ .vmem, ⟨1, _⟩ => ⟨S8x400x1024, .bf16⟩
  | .local _ .vmem, ⟨2, _⟩ => ⟨S400x1024, .f32⟩
  | .local _ .vmem, ⟨3, _⟩ => ⟨S400x1024, .f32⟩
  | _, _ => ⟨S8x1600x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x400x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference36Ideal.lean ====
abbrev S8x1600x1024 : Shape := ⟨3, ![8, 1600, 1024]⟩
abbrev S_ : Shape := ⟨0, ![]⟩
abbrev S1600x1024 : Shape := ⟨2, ![1600, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x1600x1024, .bf16⟩
  | .hbm, ⟨1, _⟩ => ⟨S8x1600x1024, .f32⟩
  | .hbm, ⟨2, _⟩ => ⟨S_, .f32⟩
  | .hbm, ⟨3, _⟩ => ⟨S1600x1024, .f32⟩
  | _, _ => ⟨S8x1600x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel37.lean ====
abbrev S8x512x1024 : Shape := ⟨3, ![8, 512, 1024]⟩
abbrev S512x1024 : Shape := ⟨2, ![512, 1024]⟩
abbrev S8x64x1024 : Shape := ⟨3, ![8, 64, 1024]⟩
abbrev S64x1024 : Shape := ⟨2, ![64, 1024]⟩
abbrev S1x64x1024 : Shape := ⟨3, ![1, 64, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x512x1024, .bf16⟩
  | .hbm, ⟨1, _⟩ => ⟨S512x1024, .f32⟩
  | .local _ .vmem, ⟨0, _⟩ => ⟨S8x64x1024, .bf16⟩
  | .local _ .vmem, ⟨1, _⟩ => ⟨S8x64x1024, .bf16⟩
  | .local _ .vmem, ⟨2, _⟩ => ⟨S64x1024, .f32⟩
  | .local _ .vmem, ⟨3, _⟩ => ⟨S64x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference37Ideal.lean ====
abbrev S8x512x1024 : Shape := ⟨3, ![8, 512, 1024]⟩
abbrev S_ : Shape := ⟨0, ![]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S8x512x1024, .f32⟩
  | .hbm, ⟨2, _⟩ => ⟨S_, .f32⟩
  | .hbm, ⟨3, _⟩ => ⟨S512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel38.lean ====
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 2
  | .vmem => 2
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .local _ .vmem, ⟨0, _⟩ => ⟨S8x128x512, .bf16⟩
  | .local _ .vmem, ⟨1, _⟩ => ⟨S128x512, .f32⟩
  | _, _ => ⟨S8x128x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference38Ideal.lean ====
abbrev S8x128x512 : Shape := ⟨3, ![8, 128, 512]⟩
abbrev S_ : Shape := ⟨0, ![]⟩
abbrev S128x512 : Shape := ⟨2, ![128, 512]⟩

abbrev nBuf : Space → Nat
  | .hbm => 4
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S8x128x512, .f32⟩
  | .hbm, ⟨2, _⟩ => ⟨S_, .f32⟩
  | .hbm, ⟨3, _⟩ => ⟨S128x512, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel39.lean ====
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 2
  | .vmem => 2
  | .smem => 0
  | _ => 0

abbrev bufTy : (tb : Table) → Fin (tcTables nBuf tb) → BufTy
  | .hbm, ⟨0, _⟩ => ⟨S8x128x256, .bf16⟩
  | .hbm, ⟨1, _⟩ => ⟨S128x256, .f32⟩
  | .local _ .vmem, ⟨0, _⟩ => ⟨S8x128x256, .bf16⟩
  | .local _ .vmem, ⟨1, _⟩ => ⟨S128x256, .f32⟩
  | _, _ => ⟨S8x128x256, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference39Ideal.lean ====
abbrev S8x128x256 : Shape := ⟨3, ![8, 128, 256]⟩
abbrev S_ : Shape := ⟨0, ![]⟩
abbrev S128x256 : Shape := ⟨2, ![128, 256]⟩

abbrev nBuf : Space → Nat
  | .hbm => 4
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S8x128x256, .f32⟩
  | .hbm, ⟨2, _⟩ => ⟨S_, .f32⟩
  | .hbm, ⟨3, _⟩ => ⟨S128x256, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel40.lean ====
abbrev S16384x1024 : Shape := ⟨2, ![16384, 1024]⟩
abbrev S1x1024 : Shape := ⟨2, ![1, 1024]⟩
abbrev S4x4096x1024 : Shape := ⟨3, ![4, 4096, 1024]⟩
abbrev S16x1024x1024 : Shape := ⟨3, ![16, 1024, 1024]⟩
abbrev S512x1024 : Shape := ⟨2, ![512, 1024]⟩
abbrev S4x128x1024 : Shape := ⟨3, ![4, 128, 1024]⟩
abbrev S16x32x1024 : Shape := ⟨3, ![16, 32, 1024]⟩
abbrev S8x512x128 : Shape := ⟨3, ![8, 512, 128]⟩
abbrev S1x128x1024 : Shape := ⟨3, ![1, 128, 1024]⟩
abbrev S128x1024 : Shape := ⟨2, ![128, 1024]⟩
abbrev S128x128 : Shape := ⟨2, ![128, 128]⟩
abbrev S1x512x128 : Shape := ⟨3, ![1, 512, 128]⟩
abbrev S512x128 : Shape := ⟨2, ![512, 128]⟩
abbrev S1x32x1024 : Shape := ⟨3, ![1, 32, 1024]⟩
abbrev S32x1024 : Shape := ⟨2, ![32, 1024]⟩
abbrev S32x128 : Shape := ⟨2, ![32, 128]⟩
abbrev S512 : Shape := ⟨1, ![512]⟩
abbrev S512x1 : Shape := ⟨2, ![512, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S1x1024, .f32⟩
  | .hbm, ⟨8, _⟩ => ⟨S4x4096x1024, .bf16⟩
  | .hbm, ⟨9, _⟩ => ⟨S16x1024x1024, .bf16⟩
  | .hbm, ⟨10, _⟩ => ⟨S16384x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S4x128x1024, .bf16⟩
  | .local _ .vmem, ⟨11, _⟩ => ⟨S4x128x1024, .bf16⟩
  | .local _ .vmem, ⟨12, _⟩ => ⟨S16x32x1024, .bf16⟩
  | .local _ .vmem, ⟨13, _⟩ => ⟨S16x32x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S8x512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference40Ideal.lean ====
abbrev S16384x1024 : Shape := ⟨2, ![16384, 1024]⟩
abbrev S1x1024 : Shape := ⟨2, ![1, 1024]⟩
abbrev S4x4096x1024 : Shape := ⟨3, ![4, 4096, 1024]⟩
abbrev S4096x4x1024 : Shape := ⟨3, ![4096, 4, 1024]⟩
abbrev S16x1024x1024 : Shape := ⟨3, ![16, 1024, 1024]⟩
abbrev S1024x16x1024 : Shape := ⟨3, ![1024, 16, 1024]⟩
abbrev S_ : Shape := ⟨0, ![]⟩
abbrev S16384 : Shape := ⟨1, ![16384]⟩
abbrev S16384x1 : Shape := ⟨2, ![16384, 1]⟩
abbrev S1024 : Shape := ⟨1, ![1024]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .bf16⟩
  | .hbm, ⟨3, _⟩ => ⟨S16384x1024, .bf16⟩
  | .hbm, ⟨4, _⟩ => ⟨S16384x1024, .bf16⟩
  | .hbm, ⟨5, _⟩ => ⟨S16384x1024, .bf16⟩
  | .hbm, ⟨6, _⟩ => ⟨S16384x1024, .bf16⟩
  | .hbm, ⟨7, _⟩ => ⟨S1x1024, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S4x4096x1024, .f32⟩
  | .hbm, ⟨15, _⟩ => ⟨S4096x4x1024, .f32⟩
  | .hbm, ⟨16, _⟩ => ⟨S16384x1024, .f32⟩
  | .hbm, ⟨17, _⟩ => ⟨S16384x1024, .f32⟩
  | .hbm, ⟨18, _⟩ => ⟨S16384x1024, .f32⟩
  | .hbm, ⟨19, _⟩ => ⟨S16x1024x1024, .f32⟩
  | .hbm, ⟨20, _⟩ => ⟨S1024x16x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S_, .f32⟩
  | .hbm, ⟨25, _⟩ => ⟨S16384, .f32⟩
  | .hbm, ⟨26, _⟩ => ⟨S16384x1, .f32⟩
  | .hbm, ⟨27, _⟩ => ⟨S_, .f32⟩
  | .hbm, ⟨28, _⟩ => ⟨S16384x1, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S_, .f32⟩
  | .hbm, ⟨50, _⟩ => ⟨S16384, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S_, .f32⟩
  | .hbm, ⟨59, _⟩ => ⟨S16384, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Proof.Frame.Region0.lean ====
/- The forward retention call (region 0) at the contents `V` it is entered from: the windows blocks, the run of its body in
   each of its two cases, what the points leave in the outputs and in the carried state, and the obligation of a point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the blocks here have long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_ret_fwd` (pipeline 0), at the entry contents `V` — class R -/

/-! ## The windows' blocks -/

/-- Window `w`'s block at point `t`, read off its array as the region finds it (`V`). -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 32) — by arithmetic of the point. -/
theorem hcond0_0 : ∀ t : Fin cfg0.N, cond0_0 (grid0.coords t) ↔ t.val % 32 = 0 :=
  (fun t => by
    have ht : t.val < 128 := Nat.lt_of_lt_of_eq t.isLt N_0
    have e0 : (grid0.coords t 0).val = t.val / 32 % 4 := Pipeline.Grid.coords_val t 0 (by decide) rfl
    have e1 : (grid0.coords t 1).val = t.val / 1 % 32 := Pipeline.Grid.coords_val t 1 (by decide) rfl
    simp only [cond0_0, e0, e1]
    word_cmp
   : ∀ t : Fin grid0.N, cond0_0 (grid0.coords t) ↔ t.val % 32 = 0)

/-! ## The kernel body on any staging memrefs: a subtype the run finds -/

/-- One staging buffer of output window 7, through which its contents are stated (`View.read_writes_of_cover`: the
    choice does not matter). -/
abbrev VO0_7 : View sig .tc .vmem S512x512 .bf16 := (Memref.whole cc0_stg7_0 : Memref sig .tc .vmem S512x512 .bf16).view
/-- One staging buffer of output window 8, through which its contents are stated (`View.read_writes_of_cover`: the
    choice does not matter). -/
abbrev VO0_8 : View sig .tc .vmem S512x512 .bf16 := (Memref.whole cc0_stg8_0 : Memref sig .tc .vmem S512x512 .bf16).view
/-- One staging buffer of output window 9, through which its contents are stated (`View.read_writes_of_cover`: the
    choice does not matter). -/
abbrev VO0_9 : View sig .tc .vmem S1x4x256x512 .bf16 := (Memref.whole cc0_stg9_0 : Memref sig .tc .vmem S1x4x256x512 .bf16).view
/-- Each window's current staging memref at point `t`, spelled as the pipeline passes it (`bodyAt0`), and its wholeness. -/
abbrev ms0_0 (t : Fin cfg0.N) : Memref sig .tc .vmem S512x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x512 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x4x256x512 .bf16 := win0_9.stage (cfg0.slots t 9)
abbrev hs0_9 (t : Fin cfg0.N) : (ms0_9 t).IsWhole := hstage0_9 ((cfg0.slots t 9).cast nbuf0_9)
/-- The scratch operands: whole scoped buffers of the kernel's own, passed beside the windows. -/
abbrev scM0_0 : Memref sig .tc .vmem S1x256x512 .f32 := Memref.whole cc0_scratch0
/-- The scratch `arg12` the kernel carries between points, as a view: what it holds is stated through it. -/
abbrev VS0_0 : View sig .tc .vmem S1x256x512 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_scratch0), ((c : Thread nD τ).loc cc1_scratch0) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first) IN CASE A (`scf.if` 0 taken: points 0, 32, 64, 96), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) :
    Σ' (L7 : List (View.Piece (Elt F) S512x512 .bf16)), Σ' (L8 : List (View.Piece (Elt F) S512x512 .bf16)), Σ' (L9 : List (View.Piece (Elt F) S1x4x256x512 .bf16)), { LS0 : List (View.Piece (Elt F) S1x256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_ret_fwd i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_ret_fwd_eq_skeleton]; unfold cc0_ret_fwd_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    iexists _; iexact HS0

/-- Case A's pieces for output 7 tile its block (4 stores of `S128x512`, checked by the kernel's evaluation: Lib/Ring.lean `Piece.tiledL`, linear in the pieces, through a loop's `@[irreducible]` trip theorem too), so they cover it. -/
theorem cover0_A_7 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6).1 S128x512.size (by sl_kernel_rfl) y

/-- What case A leaves in output 7's staging buffer: its pieces read back over junk. -/
def out0_A_7 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) : Vec F S512x512 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6).1)

/-- Case A's pieces for output 8 tile its block (4 stores of `S128x512`, checked by the kernel's evaluation: Lib/Ring.lean `Piece.tiledL`, linear in the pieces, through a loop's `@[irreducible]` trip theorem too), so they cover it. -/
theorem cover0_A_8 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) (y : S512x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.1 S128x512.size (by sl_kernel_rfl) y

/-- What case A leaves in output 8's staging buffer: its pieces read back over junk. -/
def out0_A_8 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) : Vec F S512x512 .bf16 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.1)

/-- Case A's pieces for output 9 tile its block (4 stores of `S1x1x256x512`, checked by the kernel's evaluation: Lib/Ring.lean `Piece.tiledL`, linear in the pieces, through a loop's `@[irreducible]` trip theorem too), so they cover it. -/
theorem cover0_A_9 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) (y : S1x4x256x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.1 S1x1x256x512.size (by sl_kernel_rfl) y

/-- What case A leaves in output 9's staging buffer: its pieces read back over junk. -/
def out0_A_9 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) : Vec F S1x4x256x512 .bf16 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.1)

/-- Case A's pieces for scratch `arg12`, which the kernel carries between points, cover it: 5 pieces of `S1x256x512` tiling it (Lib/Ring.lean `Piece.tiledL`). -/
theorem scover0_A_0 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) (y : S1x256x512.Idx) :
    ∃ pc ∈ (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.2.1 S1x256x512.size (by sl_kernel_rfl) y

/-- What case A leaves in scratch `arg12`: its pieces read back over junk. -/
def sout0_A_0 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) : Vec F S1x256x512 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 hc0 x0 x1 x2 x3 x4 x5 x6).2.2.2.1)

-- (the run's proof term is large: the definition's epilogue — `abstractNestedProofs` — walks it past the default budget)
set_option maxHeartbeats 1000000 in
/-- What the body's stores leave in each output's staging memref, as pieces (last first) IN CASE B (`scf.if` 0 not taken: points 1, 2, … 127: 124 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : ¬cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) (xs0 : Vec F S1x256x512 .f32) :
    Σ' (L7 : List (View.Piece (Elt F) S512x512 .bf16)), Σ' (L8 : List (View.Piece (Elt F) S512x512 .bf16)), Σ' (L9 : List (View.Piece (Elt F) S1x4x256x512 .bf16)), { LS0 : List (View.Piece (Elt F) S1x256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f LS0)) -∗ K ⟨⟩))
          ⊢ wp frame (wpE (defs₀ (F := F)) Variants.none c none) E (cc0_ret_fwd i arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_ret_fwd_eq_skeleton]; unfold cc0_ret_fwd_skel
    simp only [k0_part10_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg12.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [H8]; · iexists _; iexact H8
    isplitl [H9]; · iexists _; iexact H9
    iexists _; iexact HS0

/-- Case B's pieces for output 7 tile its block (4 stores of `S128x512`, checked by the kernel's evaluation: Lib/Ring.lean `Piece.tiledL`, linear in the pieces, through a loop's `@[irreducible]` trip theorem too), so they cover it. -/
theorem cover0_B_7 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : ¬cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) (xs0 : Vec F S1x256x512 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).1 S128x512.size (by sl_kernel_rfl) y

/-- What case B leaves in output 7's staging buffer: its pieces read back over junk. -/
def out0_B_7 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : ¬cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) (xs0 : Vec F S1x256x512 .f32) : Vec F S512x512 .bf16 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).1)

/-- Case B's pieces for output 8 tile its block (4 stores of `S128x512`, checked by the kernel's evaluation: Lib/Ring.lean `Piece.tiledL`, linear in the pieces, through a loop's `@[irreducible]` trip theorem too), so they cover it. -/
theorem cover0_B_8 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : ¬cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) (xs0 : Vec F S1x256x512 .f32) (y : S512x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).2.1 S128x512.size (by sl_kernel_rfl) y

/-- What case B leaves in output 8's staging buffer: its pieces read back over junk. -/
def out0_B_8 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : ¬cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) (xs0 : Vec F S1x256x512 .f32) : Vec F S512x512 .bf16 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).2.1)

/-- Case B's pieces for output 9 tile its block (4 stores of `S1x1x256x512`, checked by the kernel's evaluation: Lib/Ring.lean `Piece.tiledL`, linear in the pieces, through a loop's `@[irreducible]` trip theorem too), so they cover it. -/
theorem cover0_B_9 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : ¬cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) (xs0 : Vec F S1x256x512 .f32) (y : S1x4x256x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).2.2.1 S1x1x256x512.size (by sl_kernel_rfl) y

/-- What case B leaves in output 9's staging buffer: its pieces read back over junk. -/
def out0_B_9 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : ¬cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) (xs0 : Vec F S1x256x512 .f32) : Vec F S1x4x256x512 .bf16 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).2.2.1)

/-- Case B's pieces for scratch `arg12`, which the kernel carries between points, cover it: 4 pieces of `S1x256x512` tiling it (Lib/Ring.lean `Piece.tiledL`). -/
theorem scover0_B_0 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : ¬cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) (xs0 : Vec F S1x256x512 .f32) (y : S1x256x512.Idx) :
    ∃ pc ∈ (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).2.2.2.1 S1x256x512.size (by sl_kernel_rfl) y

/-- What case B leaves in scratch `arg12`: its pieces read back over junk. -/
def sout0_B_0 (c : Dev nD) (i : grid0.Coords) (arg2 : Memref sig .tc .vmem S512x1536 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S1x128x128 .f32) (harg5 : arg5.IsWhole) (arg6 : Memref sig .tc .vmem S1x128x1 .f32) (harg6 : arg6.IsWhole) (arg7 : Memref sig .tc .vmem S1x128x1 .f32) (harg7 : arg7.IsWhole) (arg8 : Memref sig .tc .vmem S1x1x1 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S1x4x256x512 .bf16) (harg11 : arg11.IsWhole) (arg12 : Memref sig .tc .vmem S1x256x512 .f32) (harg12 : arg12.IsWhole) (hc0 : ¬cond0_0 i)
    (x0 : Vec F S512x1536 .bf16) (x1 : Vec F S512x128 .f32) (x2 : Vec F S512x128 .f32) (x3 : Vec F S1x128x128 .f32) (x4 : Vec F S1x128x1 .f32) (x5 : Vec F S1x128x1 .f32) (x6 : Vec F S1x1x1 .f32) (xs0 : Vec F S1x256x512 .f32) : Vec F S1x256x512 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 hc0 x0 x1 x2 x3 x4 x5 x6 xs0).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S512x512 .bf16 × Vec F S512x512 .bf16 × Vec F S1x4x256x512 .bf16 × Vec F S1x256x512 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 32 = 0 then
      (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2.2.2)

/-- `outsAt0` at a point of case A: that case's contents. -/
theorem outsAt0_A (c : Dev nD) (t : Fin cfg0.N) (h0 : t.val % 32 = 0) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 32 = 0) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_scratch0), ((c : Thread nD τ).loc cc1_scratch0) ↦{fullShare} f)) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2.2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_scratch0), ((c : Thread nD τ).loc cc1_scratch0) ↦{fullShare} f)) ∗ (∃ r, prngReg c r)) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.2) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_scratch0), ((c : Thread nD τ).loc cc1_scratch0) ↦{fullShare} f)) ∗ (∃ r, prngReg c r)) := by
  cases n with
  | zero => exact absurd rfl hz
  | succ n => rfl

/-! ## The pipeline's proof data -/

/-- The proof data of pipeline 0 on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2.1
    | ⟨9, _⟩ => (outsAt0 V c t.val t.isLt).2.2.1
  Φ t := PhiS0 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2.1 := by dsimp only [dat0]
theorem after0_9 (c : Dev nD) (t : Fin cfg0.N) : (dat0 V c).after 9 t = (outsAt0 V c t.val t.isLt).2.2.1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d))
    ∗ (∃ d, owns (c : Thread nD τ) (ms0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t)
    ∗ owns (c : Thread nD τ) (ms0_6 t) fullShare ((dat0 V c).after 6 t)
    ∗ owns (c : Thread nD τ) (ms0_7 t) fullShare ((dat0 V c).after 7 t)
    ∗ owns (c : Thread nD τ) (ms0_8 t) fullShare ((dat0 V c).after 8 t)
    ∗ owns (c : Thread nD τ) (ms0_9 t) fullShare ((dat0 V c).after 9 t))

set_option maxHeartbeats 6400000 in
/-- The body at any point: the inputs' memrefs hold their blocks (`before0_W`); the closed forms say which case the point is in (`by_cases`), an output the case reads before covering holds what the point before left (`before0_W_κ`); so the
    run applies; the invariant hands the body the carried scratch at what the point before left (`PhiS0_pos`; at anything at the first point, `PhiS0_zero`), the other scratch buffers and the generator register at some state, and takes the carried scratch back at this point's contents (`PhiS0_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl,
    after0_0, after0_1, after0_2, after0_3, after0_4, after0_5, after0_6, after0_7, after0_8, after0_9]
  rw [show (dat0 V c).Φ t.succ = PhiS0 V c (t.val + 1) t.isLt from rfl, PhiS0_succ]
  have hN : t.val < 128 := lt_of_lt_of_eq t.isLt (show cfg0.N = 128 from N_0)
  by_cases h0 : t.val % 32 = 0
  · by_cases hz : t.val = 0
    · rw [PhiS0_castSucc V c t, PhiS0_zero V c _ _ hz, PhiA0_eq]
      rw [outsAt0_A V c t h0]
      unfold out0_A_7 out0_A_8 out0_A_9 sout0_A_0; (try dsimp only)
      iintro ⟨⟨⟨HS0, HR1, HR2, HR3, HR4, HR5, HR6, HR7, HR8, HR9, HR10, HR11, HR12, HR13, HR14, HR15, HR16, HR17, HR18, HR19, HR20, HR21, HR22, HR23⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      iintro ⟨H0, H1, H2, H3, H4, H5, H6, ⟨%e7, H7⟩, ⟨%e8, H8⟩, ⟨%e9, H9⟩, ⟨%es0, HS0⟩⟩
      isplitl [HS0 HR1 HR2 HR3 HR4 HR5 HR6 HR7 HR8 HR9 HR10 HR11 HR12 HR13 HR14 HR15 HR16 HR17 HR18 HR19 HR20 HR21 HR22 HR23 Hg]
      · isplitl [HS0 HR1 HR2 HR3 HR4 HR5 HR6 HR7 HR8 HR9 HR10 HR11 HR12 HR13 HR14 HR15 HR16 HR17 HR18 HR19 HR20 HR21 HR22 HR23]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          isplitl [HR21]
          · iexact HR21
          isplitl [HR22]
          · iexact HR22
          iexact HR23
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _)
    · rw [PhiS0_castSucc V c t, PhiS0_pos V c _ _ hz]
      rw [outsAt0_A V c t h0]
      unfold out0_A_7 out0_A_8 out0_A_9 sout0_A_0; (try dsimp only)
      iintro ⟨⟨⟨HS0, HR1, HR2, HR3, HR4, HR5, HR6, HR7, HR8, HR9, HR10, HR11, HR12, HR13, HR14, HR15, HR16, HR17, HR18, HR19, HR20, HR21, HR22, HR23⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_A c (grid0.coords t) _ _ _ _ _ _ _ _ _ _ _ _ _ _ _ _ _ _ _ _ _ _ ((hcond0_0 t).mpr h0) (iblk0 V c 0 t) (iblk0 V c 1 t) (iblk0 V c 2 t) (iblk0 V c 3 t) (iblk0 V c 4 t) (iblk0 V c 5 t) (iblk0 V c 6 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexists _; iexact HS0
      iintro ⟨H0, H1, H2, H3, H4, H5, H6, ⟨%e7, H7⟩, ⟨%e8, H8⟩, ⟨%e9, H9⟩, ⟨%es0, HS0⟩⟩
      isplitl [HS0 HR1 HR2 HR3 HR4 HR5 HR6 HR7 HR8 HR9 HR10 HR11 HR12 HR13 HR14 HR15 HR16 HR17 HR18 HR19 HR20 HR21 HR22 HR23 Hg]
      · isplitl [HS0 HR1 HR2 HR3 HR4 HR5 HR6 HR7 HR8 HR9 HR10 HR11 HR12 HR13 HR14 HR15 HR16 HR17 HR18 HR19 HR20 HR21 HR22 HR23]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _)
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          isplitl [HR21]
          · iexact HR21
          isplitl [HR22]
          · iexact HR22
          iexact HR23
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _)
  · by_cases hz : t.val = 0
    · exfalso; have hN : t.val < 128 := lt_of_lt_of_eq t.isLt (show cfg0.N = 128 from N_0); omega
    · rw [PhiS0_castSucc V c t, PhiS0_pos V c _ _ hz]
      rw [outsAt0_B V c t h0]
      unfold out0_B_7 out0_B_8 out0_B_9 sout0_B_0; (try dsimp only)
      iintro ⟨⟨⟨HS0, HR1, HR2, HR3, HR4, HR5, HR6, HR7, HR8, HR9, HR10, HR11, HR12, HR13, HR14, HR15, HR16, HR17, HR18, HR19, HR20, HR21, HR22, HR23⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((kernelRun0_B c (grid0.coords t) _ _ _ _ _ _ _ _ _ _ _ _ _ _ _ _ _ _ _ _ _ _ (fun h => h0 ((hcond0_0 t).mp h)) (iblk0 V c 0 t) (iblk0 V c 1 t) (iblk0 V c 2 t) (iblk0 V c 3 t) (iblk0 V c 4 t) (iblk0 V c 5 t) (iblk0 V c 6 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      iintro ⟨H0, H1, H2, H3, H4, H5, H6, ⟨%e7, H7⟩, ⟨%e8, H8⟩, ⟨%e9, H9⟩, ⟨%es0, HS0⟩⟩
      isplitl [HS0 HR1 HR2 HR3 HR4 HR5 HR6 HR7 HR8 HR9 HR10 HR11 HR12 HR13 HR14 HR15 HR16 HR17 HR18 HR19 HR20 HR21 HR22 HR23 Hg]
      · isplitl [HS0 HR1 HR2 HR3 HR4 HR5 HR6 HR7 HR8 HR9 HR10 HR11 HR12 HR13 HR14 HR15 HR16 HR17 HR18 HR19 HR20 HR21 HR22 HR23]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _)
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          isplitl [HR21]
          · iexact HR21
          isplitl [HR22]
          · iexact HR22
          iexact HR23
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _ _ _ _)
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _)
      unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR1, HR2, HR3, HR4, HR5, HR6, HR7, HR8, HR9, HR10, HR11, HR12, HR13, HR14, HR15, HR16, HR17, HR18, HR19, HR20, HR21, HR22, HR23⟩, Hg⟩
  isplitl [HS0 HR1 HR2 HR3 HR4 HR5 HR6 HR7 HR8 HR9 HR10 HR11 HR12 HR13 HR14 HR15 HR16 HR17 HR18 HR19 HR20 HR21 HR22 HR23]
  · isplitl [HS0]
    · iexists _; iexact HS0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HR20]
    · iexact HR20
    isplitl [HR21]
    · iexact HR21
    isplitl [HR22]
    · iexact HR22
    iexact HR23
  iexact Hg

/-- The same after the last point. -/
theorem hout0 (c : Dev nD) : (dat0 V c).Φ (Fin.last cfg0.N) ⊢ Pipeline.ΦA spec0 c :=
  Phi_out0 V c _ (by rw [Fin.val_last]; have : cfg0.N = 128 := N_0; omega)

end Regions

end Cert.KernelIdeal.Whole

end
-- ==== Proof.Frame.Region1.lean ====
/- The backward retention call (region 1) at the contents `V` it is entered from: the windows blocks, the run of its body in
   each of its two cases, what the points leave in the output and in the carried gradient of the state, and the obligation of a point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the blocks here have long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1_ret_bwd` (pipeline 1), at the entry contents `V` — class R -/

/-! ## The windows' blocks -/

/-- Window `w`'s block at point `t`, read off its array as the region finds it (`V`). -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 32) — by arithmetic of the point. -/
theorem hcond1_0 : ∀ t : Fin cfg1.N, cond1_0 (grid1.coords t) ↔ t.val % 32 = 0 :=
  (fun t => by
    have ht : t.val < 64 := Nat.lt_of_lt_of_eq t.isLt N_1
    have e0 : (grid1.coords t 0).val = t.val / 32 % 2 := Pipeline.Grid.coords_val t 0 (by decide) rfl
    have e1 : (grid1.coords t 1).val = t.val / 1 % 32 := Pipeline.Grid.coords_val t 1 (by decide) rfl
    simp only [cond1_0, e0, e1]
    word_cmp
   : ∀ t : Fin grid1.N, cond1_0 (grid1.coords t) ↔ t.val % 32 = 0)

/-! ## The kernel body on any staging memrefs: a subtype the run finds -/

/-- One staging buffer of output window 10, through which its contents are stated (`View.read_writes_of_cover`: the
    choice does not matter). -/
abbrev VO1_10 : View sig .tc .vmem S512x3072 .bf16 := (Memref.whole cc1_stg10_0 : Memref sig .tc .vmem S512x3072 .bf16).view
/-- Each window's current staging memref at point `t`, spelled as the pipeline passes it (`bodyAt1`), and its wholeness. -/
abbrev ms1_0 (t : Fin cfg1.N) : Memref sig .tc .vmem S512x3072 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2x4x256x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2x128x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S2x128x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S2x128x1 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S2x1x1 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x3072 .bf16 := win1_10.stage (cfg1.slots t 10)
abbrev hs1_10 (t : Fin cfg1.N) : (ms1_10 t).IsWhole := hstage1_10 ((cfg1.slots t 10).cast nbuf1_10)
/-- The scratch operands: whole scoped buffers of the kernel's own, passed beside the windows. -/
abbrev scM1_0 : Memref sig .tc .vmem S2x256x512 .f32 := Memref.whole cc1_scratch0
/-- The scratch `arg13` the kernel carries between points, as a view: what it holds is stated through it. -/
abbrev VS1_0 : View sig .tc .vmem S2x256x512 .f32 := scM1_0.view

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_scratch0), ((c : Thread nD τ).loc cc0_scratch0) ↦{fullShare} f) ∗ (∃ d, owns (c : Thread nD τ) scM1_0 fullShare d)) ∗ (∃ r, prngReg c r)) := by
  unfold Pipeline.ΦA; rw [scopedRest1_eq]; simp only [scM1_0, owns_whole]; try rfl

-- (the run's proof term is large: the definition's epilogue — `abstractNestedProofs` — walks it past the default budget)
set_option maxHeartbeats 1188000 in
/-- What the body's stores leave in each output's staging memref, as pieces (last first) IN CASE A (`scf.if` 0 taken: points 0, 32), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S512x3072 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S2x4x256x512 .bf16) (harg7 : arg7.IsWhole) (arg8 : Memref sig .tc .vmem S2x128x128 .f32) (harg8 : arg8.IsWhole) (arg9 : Memref sig .tc .vmem S2x128x1 .f32) (harg9 : arg9.IsWhole) (arg10 : Memref sig .tc .vmem S2x128x1 .f32) (harg10 : arg10.IsWhole) (arg11 : Memref sig .tc .vmem S2x1x1 .f32) (harg11 : arg11.IsWhole) (arg12 : Memref sig .tc .vmem S512x3072 .bf16) (harg12 : arg12.IsWhole) (arg13 : Memref sig .tc .vmem S2x256x512 .f32) (harg13 : arg13.IsWhole) (hc0 : cond1_0 i)
    (x0 : Vec F S512x3072 .bf16) (x1 : Vec F S512x128 .f32) (x2 : Vec F S512x128 .f32) (x3 : Vec F S512x1024 .bf16) (x4 : Vec F S512x1024 .bf16) (x5 : Vec F S2x4x256x512 .bf16) (x6 : Vec F S2x128x128 .f32) (x7 : Vec F S2x128x1 .f32) (x8 : Vec F S2x128x1 .f32) (x9 : Vec F S2x1x1 .f32) :
    Σ' (L10 : List (View.Piece (Elt F) S512x3072 .bf16)), { LS0 : List (View.Piece (Elt F) S2x256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc1_ret_bwd i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc1_ret_bwd_eq_skeleton]; unfold cc1_ret_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact HS0

/-- Case A's pieces for output 10 are of SEVERAL sizes (32 stores of `S128x256`, `S128x512`): cut into blocks of `![128, 256]` they tile its block (checked by the kernel's evaluation: Lib/Ring.lean `Piece.tiledBy`), so they cover it. -/
theorem cover1_A_10 (c : Dev nD) (i : grid1.Coords) (arg2 : Memref sig .tc .vmem S512x3072 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S2x4x256x512 .bf16) (harg7 : arg7.IsWhole) (arg8 : Memref sig .tc .vmem S2x128x128 .f32) (harg8 : arg8.IsWhole) (arg9 : Memref sig .tc .vmem S2x128x1 .f32) (harg9 : arg9.IsWhole) (arg10 : Memref sig .tc .vmem S2x128x1 .f32) (harg10 : arg10.IsWhole) (arg11 : Memref sig .tc .vmem S2x1x1 .f32) (harg11 : arg11.IsWhole) (arg12 : Memref sig .tc .vmem S512x3072 .bf16) (harg12 : arg12.IsWhole) (arg13 : Memref sig .tc .vmem S2x256x512 .f32) (harg13 : arg13.IsWhole) (hc0 : cond1_0 i)
    (x0 : Vec F S512x3072 .bf16) (x1 : Vec F S512x128 .f32) (x2 : Vec F S512x128 .f32) (x3 : Vec F S512x1024 .bf16) (x4 : Vec F S512x1024 .bf16) (x5 : Vec F S2x4x256x512 .bf16) (x6 : Vec F S2x128x128 .f32) (x7 : Vec F S2x128x1 .f32) (x8 : Vec F S2x128x1 .f32) (x9 : Vec F S2x1x1 .f32) (y : S512x3072.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).1, y ∈ pc.1.set :=
  View.cover_of_tiledBy (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).1 ![128, 256] (by sl_kernel_rfl) y

/-- What case A leaves in output 10's staging buffer: its pieces read back over junk. -/
def out1_A_10 (c : Dev nD) (i : grid1.Coords) (arg2 : Memref sig .tc .vmem S512x3072 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S2x4x256x512 .bf16) (harg7 : arg7.IsWhole) (arg8 : Memref sig .tc .vmem S2x128x128 .f32) (harg8 : arg8.IsWhole) (arg9 : Memref sig .tc .vmem S2x128x1 .f32) (harg9 : arg9.IsWhole) (arg10 : Memref sig .tc .vmem S2x128x1 .f32) (harg10 : arg10.IsWhole) (arg11 : Memref sig .tc .vmem S2x1x1 .f32) (harg11 : arg11.IsWhole) (arg12 : Memref sig .tc .vmem S512x3072 .bf16) (harg12 : arg12.IsWhole) (arg13 : Memref sig .tc .vmem S2x256x512 .f32) (harg13 : arg13.IsWhole) (hc0 : cond1_0 i)
    (x0 : Vec F S512x3072 .bf16) (x1 : Vec F S512x128 .f32) (x2 : Vec F S512x128 .f32) (x3 : Vec F S512x1024 .bf16) (x4 : Vec F S512x1024 .bf16) (x5 : Vec F S2x4x256x512 .bf16) (x6 : Vec F S2x128x128 .f32) (x7 : Vec F S2x128x1 .f32) (x8 : Vec F S2x128x1 .f32) (x9 : Vec F S2x1x1 .f32) : Vec F S512x3072 .bf16 :=
  VO1_10.read (Elt F) (VO1_10.writes (Elt F) VO1_10.junk (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).1)

/-- Case A's pieces for scratch `arg13`, which the kernel carries between points, cover it: one of them a store of the WHOLE buffer (Lib/Ring.lean `sl_whole_mem`). -/
theorem scover1_A_0 (c : Dev nD) (i : grid1.Coords) (arg2 : Memref sig .tc .vmem S512x3072 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S2x4x256x512 .bf16) (harg7 : arg7.IsWhole) (arg8 : Memref sig .tc .vmem S2x128x128 .f32) (harg8 : arg8.IsWhole) (arg9 : Memref sig .tc .vmem S2x128x1 .f32) (harg9 : arg9.IsWhole) (arg10 : Memref sig .tc .vmem S2x128x1 .f32) (harg10 : arg10.IsWhole) (arg11 : Memref sig .tc .vmem S2x1x1 .f32) (harg11 : arg11.IsWhole) (arg12 : Memref sig .tc .vmem S512x3072 .bf16) (harg12 : arg12.IsWhole) (arg13 : Memref sig .tc .vmem S2x256x512 .f32) (harg13 : arg13.IsWhole) (hc0 : cond1_0 i)
    (x0 : Vec F S512x3072 .bf16) (x1 : Vec F S512x128 .f32) (x2 : Vec F S512x128 .f32) (x3 : Vec F S512x1024 .bf16) (x4 : Vec F S512x1024 .bf16) (x5 : Vec F S2x4x256x512 .bf16) (x6 : Vec F S2x128x128 .f32) (x7 : Vec F S2x128x1 .f32) (x8 : Vec F S2x128x1 .f32) (x9 : Vec F S2x1x1 .f32) (y : S2x256x512.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1, y ∈ pc.1.set :=
  View.cover_of_wholeMem (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1 (by sl_whole_mem) y

/-- What case A leaves in scratch `arg13`: its pieces read back over junk. -/
def sout1_A_0 (c : Dev nD) (i : grid1.Coords) (arg2 : Memref sig .tc .vmem S512x3072 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S2x4x256x512 .bf16) (harg7 : arg7.IsWhole) (arg8 : Memref sig .tc .vmem S2x128x128 .f32) (harg8 : arg8.IsWhole) (arg9 : Memref sig .tc .vmem S2x128x1 .f32) (harg9 : arg9.IsWhole) (arg10 : Memref sig .tc .vmem S2x128x1 .f32) (harg10 : arg10.IsWhole) (arg11 : Memref sig .tc .vmem S2x1x1 .f32) (harg11 : arg11.IsWhole) (arg12 : Memref sig .tc .vmem S512x3072 .bf16) (harg12 : arg12.IsWhole) (arg13 : Memref sig .tc .vmem S2x256x512 .f32) (harg13 : arg13.IsWhole) (hc0 : cond1_0 i)
    (x0 : Vec F S512x3072 .bf16) (x1 : Vec F S512x128 .f32) (x2 : Vec F S512x128 .f32) (x3 : Vec F S512x1024 .bf16) (x4 : Vec F S512x1024 .bf16) (x5 : Vec F S2x4x256x512 .bf16) (x6 : Vec F S2x128x128 .f32) (x7 : Vec F S2x128x1 .f32) (x8 : Vec F S2x128x1 .f32) (x9 : Vec F S2x1x1 .f32) : Vec F S2x256x512 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9).2.1)

-- (the run's proof term is large: the definition's epilogue — `abstractNestedProofs` — walks it past the default budget)
set_option maxHeartbeats 1176000 in
/-- What the body's stores leave in each output's staging memref, as pieces (last first) IN CASE B (`scf.if` 0 not taken: points 1, 2, … 63: 62 of 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S512x3072 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S2x4x256x512 .bf16) (harg7 : arg7.IsWhole) (arg8 : Memref sig .tc .vmem S2x128x128 .f32) (harg8 : arg8.IsWhole) (arg9 : Memref sig .tc .vmem S2x128x1 .f32) (harg9 : arg9.IsWhole) (arg10 : Memref sig .tc .vmem S2x128x1 .f32) (harg10 : arg10.IsWhole) (arg11 : Memref sig .tc .vmem S2x1x1 .f32) (harg11 : arg11.IsWhole) (arg12 : Memref sig .tc .vmem S512x3072 .bf16) (harg12 : arg12.IsWhole) (arg13 : Memref sig .tc .vmem S2x256x512 .f32) (harg13 : arg13.IsWhole) (hc0 : ¬cond1_0 i)
    (x0 : Vec F S512x3072 .bf16) (x1 : Vec F S512x128 .f32) (x2 : Vec F S512x128 .f32) (x3 : Vec F S512x1024 .bf16) (x4 : Vec F S512x1024 .bf16) (x5 : Vec F S2x4x256x512 .bf16) (x6 : Vec F S2x128x128 .f32) (x7 : Vec F S2x128x1 .f32) (x8 : Vec F S2x128x1 .f32) (x9 : Vec F S2x1x1 .f32) (xs0 : Vec F S2x256x512 .f32) :
    Σ' (L10 : List (View.Piece (Elt F) S512x3072 .bf16)), { LS0 : List (View.Piece (Elt F) S2x256x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ owns (c : Thread nD τ) arg13 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f LS0)) -∗ K ⟨⟩))
          ⊢ wp frame (wpE (defs₀ (F := F)) Variants.none c none) E (cc1_ret_bwd i arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc1_ret_bwd_eq_skeleton]; unfold cc1_ret_bwd_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton, k1_part25_eq_skeleton, k1_part26_eq_skeleton, k1_part27_eq_skeleton, k1_part28_eq_skeleton, k1_part29_eq_skeleton, k1_part30_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg13.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    iexists _; iexact HS0

/-- Case B's pieces for output 10 are of SEVERAL sizes (32 stores of `S128x256`, `S128x512`): cut into blocks of `![128, 256]` they tile its block (checked by the kernel's evaluation: Lib/Ring.lean `Piece.tiledBy`), so they cover it. -/
theorem cover1_B_10 (c : Dev nD) (i : grid1.Coords) (arg2 : Memref sig .tc .vmem S512x3072 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S2x4x256x512 .bf16) (harg7 : arg7.IsWhole) (arg8 : Memref sig .tc .vmem S2x128x128 .f32) (harg8 : arg8.IsWhole) (arg9 : Memref sig .tc .vmem S2x128x1 .f32) (harg9 : arg9.IsWhole) (arg10 : Memref sig .tc .vmem S2x128x1 .f32) (harg10 : arg10.IsWhole) (arg11 : Memref sig .tc .vmem S2x1x1 .f32) (harg11 : arg11.IsWhole) (arg12 : Memref sig .tc .vmem S512x3072 .bf16) (harg12 : arg12.IsWhole) (arg13 : Memref sig .tc .vmem S2x256x512 .f32) (harg13 : arg13.IsWhole) (hc0 : ¬cond1_0 i)
    (x0 : Vec F S512x3072 .bf16) (x1 : Vec F S512x128 .f32) (x2 : Vec F S512x128 .f32) (x3 : Vec F S512x1024 .bf16) (x4 : Vec F S512x1024 .bf16) (x5 : Vec F S2x4x256x512 .bf16) (x6 : Vec F S2x128x128 .f32) (x7 : Vec F S2x128x1 .f32) (x8 : Vec F S2x128x1 .f32) (x9 : Vec F S2x1x1 .f32) (xs0 : Vec F S2x256x512 .f32) (y : S512x3072.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0).1, y ∈ pc.1.set :=
  View.cover_of_tiledBy (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0).1 ![128, 256] (by sl_kernel_rfl) y

/-- What case B leaves in output 10's staging buffer: its pieces read back over junk. -/
def out1_B_10 (c : Dev nD) (i : grid1.Coords) (arg2 : Memref sig .tc .vmem S512x3072 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S2x4x256x512 .bf16) (harg7 : arg7.IsWhole) (arg8 : Memref sig .tc .vmem S2x128x128 .f32) (harg8 : arg8.IsWhole) (arg9 : Memref sig .tc .vmem S2x128x1 .f32) (harg9 : arg9.IsWhole) (arg10 : Memref sig .tc .vmem S2x128x1 .f32) (harg10 : arg10.IsWhole) (arg11 : Memref sig .tc .vmem S2x1x1 .f32) (harg11 : arg11.IsWhole) (arg12 : Memref sig .tc .vmem S512x3072 .bf16) (harg12 : arg12.IsWhole) (arg13 : Memref sig .tc .vmem S2x256x512 .f32) (harg13 : arg13.IsWhole) (hc0 : ¬cond1_0 i)
    (x0 : Vec F S512x3072 .bf16) (x1 : Vec F S512x128 .f32) (x2 : Vec F S512x128 .f32) (x3 : Vec F S512x1024 .bf16) (x4 : Vec F S512x1024 .bf16) (x5 : Vec F S2x4x256x512 .bf16) (x6 : Vec F S2x128x128 .f32) (x7 : Vec F S2x128x1 .f32) (x8 : Vec F S2x128x1 .f32) (x9 : Vec F S2x1x1 .f32) (xs0 : Vec F S2x256x512 .f32) : Vec F S512x3072 .bf16 :=
  VO1_10.read (Elt F) (VO1_10.writes (Elt F) VO1_10.junk (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0).1)

/-- Case B's pieces for scratch `arg13`, which the kernel carries between points, cover it: 8 pieces of `S1x256x512` tiling it (Lib/Ring.lean `Piece.tiledL`). -/
theorem scover1_B_0 (c : Dev nD) (i : grid1.Coords) (arg2 : Memref sig .tc .vmem S512x3072 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S2x4x256x512 .bf16) (harg7 : arg7.IsWhole) (arg8 : Memref sig .tc .vmem S2x128x128 .f32) (harg8 : arg8.IsWhole) (arg9 : Memref sig .tc .vmem S2x128x1 .f32) (harg9 : arg9.IsWhole) (arg10 : Memref sig .tc .vmem S2x128x1 .f32) (harg10 : arg10.IsWhole) (arg11 : Memref sig .tc .vmem S2x1x1 .f32) (harg11 : arg11.IsWhole) (arg12 : Memref sig .tc .vmem S512x3072 .bf16) (harg12 : arg12.IsWhole) (arg13 : Memref sig .tc .vmem S2x256x512 .f32) (harg13 : arg13.IsWhole) (hc0 : ¬cond1_0 i)
    (x0 : Vec F S512x3072 .bf16) (x1 : Vec F S512x128 .f32) (x2 : Vec F S512x128 .f32) (x3 : Vec F S512x1024 .bf16) (x4 : Vec F S512x1024 .bf16) (x5 : Vec F S2x4x256x512 .bf16) (x6 : Vec F S2x128x128 .f32) (x7 : Vec F S2x128x1 .f32) (x8 : Vec F S2x128x1 .f32) (x9 : Vec F S2x1x1 .f32) (xs0 : Vec F S2x256x512 .f32) (y : S2x256x512.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0).2.1 S1x256x512.size (by sl_kernel_rfl) y

/-- What case B leaves in scratch `arg13`: its pieces read back over junk. -/
def sout1_B_0 (c : Dev nD) (i : grid1.Coords) (arg2 : Memref sig .tc .vmem S512x3072 .bf16) (harg2 : arg2.IsWhole) (arg3 : Memref sig .tc .vmem S512x128 .f32) (harg3 : arg3.IsWhole) (arg4 : Memref sig .tc .vmem S512x128 .f32) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S2x4x256x512 .bf16) (harg7 : arg7.IsWhole) (arg8 : Memref sig .tc .vmem S2x128x128 .f32) (harg8 : arg8.IsWhole) (arg9 : Memref sig .tc .vmem S2x128x1 .f32) (harg9 : arg9.IsWhole) (arg10 : Memref sig .tc .vmem S2x128x1 .f32) (harg10 : arg10.IsWhole) (arg11 : Memref sig .tc .vmem S2x1x1 .f32) (harg11 : arg11.IsWhole) (arg12 : Memref sig .tc .vmem S512x3072 .bf16) (harg12 : arg12.IsWhole) (arg13 : Memref sig .tc .vmem S2x256x512 .f32) (harg13 : arg13.IsWhole) (hc0 : ¬cond1_0 i)
    (x0 : Vec F S512x3072 .bf16) (x1 : Vec F S512x128 .f32) (x2 : Vec F S512x128 .f32) (x3 : Vec F S512x1024 .bf16) (x4 : Vec F S512x1024 .bf16) (x5 : Vec F S2x4x256x512 .bf16) (x6 : Vec F S2x128x128 .f32) (x7 : Vec F S2x128x1 .f32) (x8 : Vec F S2x128x1 .f32) (x9 : Vec F S2x1x1 .f32) (xs0 : Vec F S2x256x512 .f32) : Vec F S2x256x512 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S512x3072 .bf16 × Vec F S2x256x512 .f32
  | 0, hn => (out1_A_10 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) scM1_0 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩))
  | n + 1, hn =>
    if h0 : (n + 1) % 32 = 0 then
      (out1_A_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩))
    else
      (out1_B_10 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) scM1_0 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (outsAt1 c n (Nat.lt_of_succ_lt hn)).2)

/-- `outsAt1` at a point of case A: that case's contents. -/
theorem outsAt1_A (c : Dev nD) (t : Fin cfg1.N) (h0 : t.val % 32 = 0) :
    outsAt1 V c t.val t.isLt = (out1_A_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 32 = 0) :
    outsAt1 V c t.val t.isLt = (out1_B_10 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) scM1_0 (Memref.isWhole_whole _) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the carried scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2)) ∗ (∃ r, prngReg c r)) := rfl

/-- Before a point that is not the first: the carried scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2)) ∗ (∃ r, prngReg c r)) := by
  cases n with
  | zero => exact absurd rfl hz
  | succ n => rfl

/-! ## The pipeline's proof data -/

/-- The proof data of pipeline 1 on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (outsAt1 V c t.val t.isLt).1
  Φ t := PhiS1 V c t.val (Nat.le_of_lt_succ t.isLt)
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t))

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl,
    after1_0, after1_1, after1_2, after1_3, after1_4, after1_5, after1_6, after1_7, after1_8, after1_9, after1_10]
  rw [show (dat1 V c).Φ t.succ = PhiS1 V c (t.val + 1) t.isLt from rfl, PhiS1_succ]
  have hN : t.val < 64 := lt_of_lt_of_eq t.isLt (show cfg1.N = 64 from N_1)
  by_cases h0 : t.val % 32 = 0
  · by_cases hz : t.val = 0
    · rw [PhiS1_castSucc V c t, PhiS1_zero V c _ _ hz, PhiA1_eq]
      rw [outsAt1_A V c t h0]
      unfold out1_A_10 sout1_A_0; (try dsimp only)
      iintro ⟨⟨⟨HR0, HR1, HR2, HR3, HR4, HR5, HR6, HR7, HR8, HR9, HR10, HR11, HR12, HR13, HR14, HR15, HR16, HR17, HR18, HR19, HR20, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_A c (grid1.coords t) _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      iintro ⟨H0, H1, H2, H3, H4, H5, H6, H7, H8, H9, ⟨%e10, H10⟩, ⟨%es0, HS0⟩⟩
      isplitl [HR0 HR1 HR2 HR3 HR4 HR5 HR6 HR7 HR8 HR9 HR10 HR11 HR12 HR13 HR14 HR15 HR16 HR17 HR18 HR19 HR20 HS0 Hg]
      · isplitl [HR0 HR1 HR2 HR3 HR4 HR5 HR6 HR7 HR8 HR9 HR10 HR11 HR12 HR13 HR14 HR15 HR16 HR17 HR18 HR19 HR20 HS0]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover1_A_10 c _ _ _ _ _ _ _ _ _ _ _ _ _ _ _ _ _ _ _ _ _ _ _ _ _ _ _ _ _ _ _ _ _ _ _ _)
    · rw [PhiS1_castSucc V c t, PhiS1_pos V c _ _ hz]
      rw [outsAt1_A V c t h0]
      unfold out1_A_10 sout1_A_0; (try dsimp only)
      iintro ⟨⟨⟨HR0, HR1, HR2, HR3, HR4, HR5, HR6, HR7, HR8, HR9, HR10, HR11, HR12, HR13, HR14, HR15, HR16, HR17, HR18, HR19, HR20, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_A c (grid1.coords t) _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexists _; iexact HS0
      iintro ⟨H0, H1, H2, H3, H4, H5, H6, H7, H8, H9, ⟨%e10, H10⟩, ⟨%es0, HS0⟩⟩
      isplitl [HR0 HR1 HR2 HR3 HR4 HR5 HR6 HR7 HR8 HR9 HR10 HR11 HR12 HR13 HR14 HR15 HR16 HR17 HR18 HR19 HR20 HS0 Hg]
      · isplitl [HR0 HR1 HR2 HR3 HR4 HR5 HR6 HR7 HR8 HR9 HR10 HR11 HR12 HR13 HR14 HR15 HR16 HR17 HR18 HR19 HR20 HS0]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          unfold owns; iexists _; isplitr
          swap; · iexact HS0
          ipureintro; exact View.read_writes_of_cover _ _ _ _ _ (scover1_A_0 c _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover1_A_10 c _ _ _ _ _ _ _ _ _ _ _ _ _ _ _ _ _ _ _ _ _ _ _ _ _ _ _ _ _ _ _ _ _ _ _ _)
  · by_cases hz : t.val = 0
    · exfalso; have hN : t.val < 64 := lt_of_lt_of_eq t.isLt (show cfg1.N = 64 from N_1); omega
    · rw [PhiS1_castSucc V c t, PhiS1_pos V c _ _ hz]
      rw [outsAt1_B V c t h0]
      unfold out1_B_10 sout1_B_0; (try dsimp only)
      iintro ⟨⟨⟨HR0, HR1, HR2, HR3, HR4, HR5, HR6, HR7, HR8, HR9, HR10, HR11, HR12, HR13, HR14, HR15, HR16, HR17, HR18, HR19, HR20, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun1_B c (grid1.coords t) _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [HS0]; · iexact HS0
      iintro ⟨H0, H1, H2, H3, H4, H5, H6, H7, H8, H9, ⟨%e10, H10⟩, ⟨%es0, HS0⟩⟩
      isplitl [HR0 HR1 HR2 HR3 HR4 HR5 HR6 HR7 HR8 HR9 HR10 HR11 HR12 HR13 HR14 HR15 HR16 HR17 HR18 HR19 HR20 HS0 Hg]
      · isplitl [HR0 HR1 HR2 HR3 HR4 HR5 HR6 HR7 HR8 HR9 HR10 HR11 HR12 HR13 HR14 HR15 HR16 HR17 HR18 HR19 HR20 HS0]
        · isplitl [HR0]
          · iexact HR0
          isplitl [HR1]
          · iexact HR1
          isplitl [HR2]
          · iexact HR2
          isplitl [HR3]
          · iexact HR3
          isplitl [HR4]
          · iexact HR4
          isplitl [HR5]
          · iexact HR5
          isplitl [HR6]
          · iexact HR6
          isplitl [HR7]
          · iexact HR7
          isplitl [HR8]
          · iexact HR8
          isplitl [HR9]
          · iexact HR9
          isplitl [HR10]
          · iexact HR10
          isplitl [HR11]
          · iexact HR11
          isplitl [HR12]
          · iexact HR12
          isplitl [HR13]
          · iexact HR13
          isplitl [HR14]
          · iexact HR14
          isplitl [HR15]
          · iexact HR15
          isplitl [HR16]
          · iexact HR16
          isplitl [HR17]
          · iexact HR17
          isplitl [HR18]
          · iexact HR18
          isplitl [HR19]
          · iexact HR19
          isplitl [HR20]
          · iexact HR20
          unfold owns; iexists _; isplitr
          swap; · iexact HS0
          ipureintro; exact View.read_writes_of_cover _ _ _ _ _ (scover1_B_0 c _ _ _ _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      unfold owns; iexists _; isplitr
      swap; · iexact H10
      ipureintro; exact View.read_writes_of_cover _ _ _ _ _ (cover1_B_10 c _ _ _ _ _ _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HR11, HR12, HR13, HR14, HR15, HR16, HR17, HR18, HR19, HR20, HS0⟩, Hg⟩
  isplitl [HR0 HR1 HR2 HR3 HR4 HR5 HR6 HR7 HR8 HR9 HR10 HR11 HR12 HR13 HR14 HR15 HR16 HR17 HR18 HR19 HR20 HS0]
  · isplitl [HR0]
    · iexact HR0
    isplitl [HR1]
    · iexact HR1
    isplitl [HR2]
    · iexact HR2
    isplitl [HR3]
    · iexact HR3
    isplitl [HR4]
    · iexact HR4
    isplitl [HR5]
    · iexact HR5
    isplitl [HR6]
    · iexact HR6
    isplitl [HR7]
    · iexact HR7
    isplitl [HR8]
    · iexact HR8
    isplitl [HR9]
    · iexact HR9
    isplitl [HR10]
    · iexact HR10
    isplitl [HR11]
    · iexact HR11
    isplitl [HR12]
    · iexact HR12
    isplitl [HR13]
    · iexact HR13
    isplitl [HR14]
    · iexact HR14
    isplitl [HR15]
    · iexact HR15
    isplitl [HR16]
    · iexact HR16
    isplitl [HR17]
    · iexact HR17
    isplitl [HR18]
    · iexact HR18
    isplitl [HR19]
    · iexact HR19
    isplitl [HR20]
    · iexact HR20
    iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Regions

end Cert.KernelIdeal.Whole

end
-- ==== Proof.Frame.Hosts0.lean ====
/- What each host stretch writes, and that none writes an argument. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- the blocks here have long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_cst, main_cst_0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_call0_v2, main_call0_cst, main_call0_v3, main_call0_v4, main_call0_cst_0, main_call0_v5, main_call0_v6, main_call0_v7, main_call0_cst_1, main_call0_v8, main_call0_v9, main_call0_v10, main_call0_v11, main_call0_v12, main_call0_v13, main_call0_v14, main_call0_v15, main_call0_v16, main_v2]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_cst_1, main_v3, main_v4, main_cst_2, main_v5, main_v6, main_v7, main_v8, main_v9, main_v10, main_v11, main_v12, main_v13, main_cst_3, main_v14, main_v15, main_cst_4, main_v16, main_v17, main_v18, main_v19, main_v20, main_v21, main_v22, main_v23, main_v24, main_v25, main_v26, main_cst_5, main_v27, main_v28, main_cst_6, main_v29, main_v30, main_v31, main_v32, main_v33, main_v34, main_v35, main_v36, main_cst_7]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_call1_v1, main_call1_v2, main_v37]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_cst_8, main_v38, main_v39, main_v40, main_v41, main_v42, main_v43, main_v44, main_v45, main_cst_9, main_v46, main_v47, main_v48, main_v49, main_v50, main_v51, main_v52, main_v53, main_cst_10, main_v54, main_v55, main_v56, main_v57]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v59, main_cst_11, main_v60, main_v61, main_cst_12, main_v62, main_v63, main_v64, main_v65, main_v66, main_v67, main_v68, main_v69, main_v70, main_v71, main_v72, main_cst_13, main_v73, main_v74, main_cst_14, main_v75, main_v76, main_v77, main_v78, main_v79, main_v80, main_v81, main_v82, main_cst_15]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- The reference each operation of `hostOps1_1` writes, in order. -/
abbrev hostOps1_1_W : List (Ref sig .tc) := [main_call2_v0, main_call2_v1, main_call2_v2, main_v83]
theorem hostOps1_1_writes : (hostOps1_1 : List (HloOp τ sig (Elt F))).Forall fun op => op.writes ⊆ (hostOps1_1_W.map (Proc.devRef (τ := τ) .tc)).toFinset :=
  StableHlo.forall_writes_sub_of_map rfl
/-- `hostOps1_1` writes none of the argument arrays (checked: each argument against each reference it writes). -/
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- The reference each operation of `hostOps1_2` writes, in order. -/
abbrev hostOps1_2_W : List (Ref sig .tc) := [main_cst_16, main_v84, main_v85, main_v86, main_v87, main_v88, main_v89, main_v90, main_v91, main_cst_17, main_v92, main_v93, main_v94, main_v95, main_v96, main_v97, main_v98, main_v99, main_cst_18, main_v100, main_v101, main_v102, main_v103]
theorem hostOps1_2_writes : (hostOps1_2 : List (HloOp τ sig (Elt F))).Forall fun op => op.writes ⊆ (hostOps1_2_W.map (Proc.devRef (τ := τ) .tc)).toFinset :=
  StableHlo.forall_writes_sub_of_map rfl
/-- `hostOps1_2` writes none of the argument arrays (checked: each argument against each reference it writes). -/
theorem hostOps1_2_args : ∀ a ∈ argRefs, a ∉ hostOps1_2_W := ListAll.forall_mem_of_all_decide (by decide +kernel)

end Cert.KernelIdeal.Whole

end
-- ==== Proof.Frame.Fold0.lean ====
/- The buffers at each boundary of the main function, from the launch to the end. -/
module

public import proofs.«01_k».proof.Proof.Frame.Region0
public import proofs.«01_k».proof.Proof.Frame.Region1
public import proofs.«01_k».proof.Proof.Frame.Hosts0

@[expose] public section

-- the blocks here have long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4` (region 0's entry). -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- The same read at the TensorCore's references (what region 0's proof data take). -/
abbrev V5 : (c : Dev nD) → (b : Ref sig .tc) → Buf (Elt F) ((c : Thread nD τ).loc b) := fun c b => W5 m ρ c b
/-- At region 0's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
/-- A reference that is none of region 0's OUTPUT arrays keeps its entry contents across it: an input window's
    array is never written back (`Dat.arrAt_in`, `A_eq0`); any other buffer is left as is. -/
theorem W6_of (c : Dev nD) (r : Ref sig .tc) (h : ∀ w : Fin cfg0.W, Pipeline.arrRef spec0 w = r → (cfg0.win w).isOut = false) :
    W6 m ρ c (Proc.devRef .tc r) = W5 m ρ c (Proc.devRef .tc r) := by
  by_cases hw : ∃ w : Fin cfg0.W, Pipeline.arrRef spec0 w = r
  · obtain ⟨w, rfl⟩ := hw
    exact (W6_arr m ρ c w).trans (((dat0 (V5 m ρ) c).arrAt_in w (h w rfl) _).trans (A_eq0 (V5 m ρ) c w))
  · exact W6_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn0 a ha)).trans (W5_args m ρ c a ha)
/-- The same read at the TensorCore's references (region 0's exit contents). -/
abbrev V6 : (c : Dev nD) → (b : Ref sig .tc) → Buf (Elt F) ((c : Thread nD τ).loc b) := fun c b => W6 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After `hostOps1`. -/
abbrev W7 : Dev nD → Valuation τ sig (Elt F) := fun c => StableHlo.after hostOps1 (W6 m ρ c)
/-- A reference `hostOps1` does not write keeps its contents across it. -/
theorem W7_of (c : Dev nD) (r : Ref sig .tc) (h : r ∉ hostOps1_W) : W7 m ρ c (Proc.devRef .tc r) = W6 m ρ c (Proc.devRef .tc r) :=
  StableHlo.after_of_writes_sub hostOps1 _ hostOps1_writes h
theorem W7_args (c : Dev nD) : ∀ a ∈ argRefs, W7 m ρ c (Proc.devRef .tc a) = m ((c : Thread nD τ).loc a) :=
  fun a ha => (W7_of m ρ c a (hostOps1_args a ha)).trans (W6_args m ρ c a ha)
/-- After `hostOps1_1`. -/
abbrev W8 : Dev nD → Valuation τ sig (Elt F) := fun c => StableHlo.after hostOps1_1 (W7 m ρ c)
/-- A reference `hostOps1_1` does not write keeps its contents across it. -/
theorem W8_of (c : Dev nD) (r : Ref sig .tc) (h : r ∉ hostOps1_1_W) : W8 m ρ c (Proc.devRef .tc r) = W7 m ρ c (Proc.devRef .tc r) :=
  StableHlo.after_of_writes_sub hostOps1_1 _ hostOps1_1_writes h
theorem W8_args (c : Dev nD) : ∀ a ∈ argRefs, W8 m ρ c (Proc.devRef .tc a) = m ((c : Thread nD τ).loc a) :=
  fun a ha => (W8_of m ρ c a (hostOps1_1_args a ha)).trans (W7_args m ρ c a ha)
/-- After `hostOps1_2` (region 1's entry). -/
abbrev W9 : Dev nD → Valuation τ sig (Elt F) := fun c => StableHlo.after hostOps1_2 (W8 m ρ c)
/-- A reference `hostOps1_2` does not write keeps its contents across it. -/
theorem W9_of (c : Dev nD) (r : Ref sig .tc) (h : r ∉ hostOps1_2_W) : W9 m ρ c (Proc.devRef .tc r) = W8 m ρ c (Proc.devRef .tc r) :=
  StableHlo.after_of_writes_sub hostOps1_2 _ hostOps1_2_writes h
theorem W9_args (c : Dev nD) : ∀ a ∈ argRefs, W9 m ρ c (Proc.devRef .tc a) = m ((c : Thread nD τ).loc a) :=
  fun a ha => (W9_of m ρ c a (hostOps1_2_args a ha)).trans (W8_args m ρ c a ha)
/-- The same read at the TensorCore's references (what region 1's proof data take). -/
abbrev V9 : (c : Dev nD) → (b : Ref sig .tc) → Buf (Elt F) ((c : Thread nD τ).loc b) := fun c b => W9 m ρ c b
/-- At region 1's exit: its arrays at what the pipeline leaves (the inputs as entered, each output's write-backs
    folded: `Dat.arrAt … N`), every other buffer as entered (Lib/Pipeline/FrameSuffix.lean `withArrays`). -/
def W10 (c : Dev nD) : Valuation τ sig (Elt F) :=
  Pipeline.withArrays spec1 c (W9 m ρ c) fun w => (dat1 (V9 m ρ) c).arrAt w cfg1.N
theorem W10_arr (c : Dev nD) (w : Fin cfg1.W) :
    W10 m ρ c (Proc.devRef .tc (Pipeline.arrRef spec1 w)) = (dat1 (V9 m ρ) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m ρ c (Proc.devRef .tc b) = W9 m ρ c (Proc.devRef .tc b) := by
  unfold W10; exact Pipeline.withArrays_of_ne spec1 c _ _ b hb
/-- A reference that is none of region 1's OUTPUT arrays keeps its entry contents across it: an input window's
    array is never written back (`Dat.arrAt_in`, `A_eq1`); any other buffer is left as is. -/
theorem W10_of (c : Dev nD) (r : Ref sig .tc) (h : ∀ w : Fin cfg1.W, Pipeline.arrRef spec1 w = r → (cfg1.win w).isOut = false) :
    W10 m ρ c (Proc.devRef .tc r) = W9 m ρ c (Proc.devRef .tc r) := by
  by_cases hw : ∃ w : Fin cfg1.W, Pipeline.arrRef spec1 w = r
  · obtain ⟨w, rfl⟩ := hw
    exact (W10_arr m ρ c w).trans (((dat1 (V9 m ρ) c).arrAt_in w (h w rfl) _).trans (A_eq1 (V9 m ρ) c w))
  · exact W10_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W10_args (c : Dev nD) : ∀ a ∈ argRefs, W10 m ρ c (Proc.devRef .tc a) = m ((c : Thread nD τ).loc a) :=
  fun a ha => (W10_of m ρ c a (argsIn1 a ha)).trans (W9_args m ρ c a ha)
/-- The same read at the TensorCore's references (region 1's exit contents). -/
abbrev V10 : (c : Dev nD) → (b : Ref sig .tc) → Buf (Elt F) ((c : Thread nD τ).loc b) := fun c b => W10 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V9 m ρ) c).arrAt w cfg1.N = V10 m ρ c (Pipeline.arrRef spec1 w) :=
  (W10_arr m ρ c w).symm
theorem hrest1 (c : Dev nD) : ∀ b, b ∉ Finset.univ.image (Pipeline.arrRef spec1) → V10 m ρ c b = V9 m ρ c b :=
  fun b hb => W10_of_ne m ρ c b fun w e => hb (Finset.mem_image.mpr ⟨w, Finset.mem_univ _, e⟩)

/-! ### The arguments end as launched: no host stretch writes one and no region may change one (a region reads it
    through an input window or bypasses it) -/

theorem W10_main_arg0 (c : Dev nD) : W10 m ρ c (Proc.devRef .tc main_arg0) = m ((c : Thread nD τ).loc main_arg0) :=
  W10_args m ρ c main_arg0 (by decide)
theorem W10_main_arg1 (c : Dev nD) : W10 m ρ c (Proc.devRef .tc main_arg1) = m ((c : Thread nD τ).loc main_arg1) :=
  W10_args m ρ c main_arg1 (by decide)
theorem W10_main_arg2 (c : Dev nD) : W10 m ρ c (Proc.devRef .tc main_arg2) = m ((c : Thread nD τ).loc main_arg2) :=
  W10_args m ρ c main_arg2 (by decide)
end Cert.KernelIdeal.Whole

end
-- ==== Proof.Frame.State.lean ====
/- The data of both calls and the state between two items. -/
module

public import proofs.«01_k».proof.Proof.Frame.Fold0

@[expose] public section

-- the blocks here have long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V9 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W10`, the generator register at some state. -/
abbrev Tₙ (c : Dev nD) : sProp 𝕄 := iprop(StableHlo.held (c : Thread nD τ) (Pipeline.ucRefs τ sig) (W10 m ρ c) ∗ ∃ r, prngReg c r)

end Cert.KernelIdeal.Whole

end
-- ==== Proof.Frame.Record0.lean ====
/- The forward call as an item of the main function. -/
module

public import proofs.«01_k».proof.Proof.Frame.State

@[expose] public section

-- the blocks here have long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W5`, left at `W6`
    (what the next segment is entered from). Its arrays split out of the unscoped buffers
    (`arrays_of_unscopedBufs`) and put back at the exit contents (`unscopedBufs_of_arrays`); the generator register into the
    class invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) (A_eq0 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V5 m ρ) c)
    unfold Pipeline.ΦA
    iintro ⟨Hp, -, Hr⟩
    isplitl [Hr]; · iexact Hr
    iexact Hp
  hout c := by
    refine BIBase.Entails.trans (hout0 (V5 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Whole

end
-- ==== Proof.Frame.Record1.lean ====
/- The backward call as an item of the main function. -/
module

public import proofs.«01_k».proof.Proof.Frame.State

@[expose] public section

-- the blocks here have long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W9`, left at `W10`
    (what the launch reads at the end). Its arrays split out of the unscoped buffers
    (`arrays_of_unscopedBufs`) and put back at the exit contents (`unscopedBufs_of_arrays`); the generator register into the
    class invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V9 m ρ) c).loose
  hwaits := Pipeline.hwaits_of_owed_zero _ _ _ _ L lv 1 fun _ _ => rfl
  pre c := iprop(StableHlo.held (c : Thread nD τ) (Pipeline.ucRefs τ sig) (W9 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V9 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V9 m ρ c) (A_eq1 (V9 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V9 m ρ) c)
    unfold Pipeline.ΦA
    iintro ⟨Hp, -, Hr⟩
    isplitl [Hr]; · iexact Hr
    iexact Hp
  hout c := by
    refine BIBase.Entails.trans (hout1 (V9 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V9 m ρ c) (V10 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Whole

end
-- ==== Proof.Frame.Launch.lean ====
/- The run of the whole program: it ends, nothing faults, the arguments are as launched, every counter is at zero, and the two
   results hold what the calls write back. -/
module

public import proofs.«01_k».proof.Proof.Frame.Record0
public import proofs.«01_k».proof.Proof.Frame.Record1

@[expose] public section

-- the blocks here have long axes
set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 10 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .host (hseg hostOps1_1 hostOps1_1_sub hostOps1_1_fresh (W7 m ρ)),
    .host (hseg hostOps1_2 hostOps1_2_sub hostOps1_2_fresh (W8 m ρ)),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run, at any float values: from any memory with zero counters every weakly fair execution of @main
    terminates, every unscoped buffer ends at the last boundary's contents and every semaphore counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W10 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨h, funext fun g => hz g (.inr (no_unscoped g.2))⟩)

/-- The frame: the arguments end as launched, the two results at the two regions' output arrays, every counter at zero. -/
theorem run_main : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.mem ((c.tc : Thread nD τ).loc main_v104) = W10 m ρ c (Proc.devRef .tc main_v104)
      ∧ r.2.mem ((c.tc : Thread nD τ).loc main_v58_0) = W10 m ρ c (Proc.devRef .tc main_v58_0))
      ∧ r.2.sem = fun _ => 0) :=
  (θ_run defs _ _).mono (fun _ h => ⟨fun c =>
      ⟨⟨(h.1 c _ (mem_uc main_arg0 (by decide))).trans (W10_main_arg0 m ρ c),
       (h.1 c _ (mem_uc main_arg1 (by decide))).trans (W10_main_arg1 m ρ c),
       (h.1 c _ (mem_uc main_arg2 (by decide))).trans (W10_main_arg2 m ρ c)⟩,
       h.1 c _ (mem_uc main_v104 (by decide)), h.1 c _ (mem_uc main_v58_0 (by decide))⟩, h.2⟩) (run_all m ρ)

end Cert.KernelIdeal.Whole

end
-- ==== Proof.Retention.lean ====
/- The frame of the retention's two calls with the host code between them, of the ideal program. -/
module

public import proofs.«01_k».proof.Defs
public import proofs.«01_k».proof.Proof.Frame.Launch

@[expose] public section

set_option maxRecDepth 16384

noncomputable section

namespace Cert.KernelIdeal.Whole

open Idealize.ShloMosaic Idealize.SL.Sem

/-- The run over any float values, with the values of the results dropped. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => (h.1 c).1, h.2⟩) (run_main (F := F) m ρ)

theorem frame_ideal : Cert.quiescent_KernelIdeal := fun m ρ _ => frame_any m ρ

end Cert.KernelIdeal.Whole

end
-- ==== Proof.Products.Down.lean ====
/- The gradient of the channel mixer's second weight (`g_down`): the value of the accumulated product. -/
module

public import proofs.«01_k».proof.Proof.Gen.Kernel2Ideal.Frame
public import proofs.«01_k».proof.Proof.Gen.Kernel2Ideal.Points
public import proofs.«01_k».proof.Proof.Gen.Reference2Ideal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Product

open Cert.Kernel2Ideal Cert.Kernel2Ideal.Gen

variable (m : (ℓ : Loc nD τ sig) → Buf (Elt Ideal) ℓ)

/-- The gradient at row `i` and column `j`: the sum over the positions of the squared rectified activation times the
    incoming gradient. -/
def grad (a : FVec Ideal S16384x4096 .bf16) (d : FVec Ideal S16384x1024 .bf16) : FVec Ideal S4096x1024 .bf16 := fun i =>
  show EReal from ∑ s : Fin 16384, (max (a (ix2 s (i 0))) 0 * max (a (ix2 s (i 0))) 0) * d (ix2 s (i 1))

theorem grad_at (a : FVec Ideal S16384x4096 .bf16) (d : FVec Ideal S16384x1024 .bf16) (i : S4096x1024.Idx) :
    grad a d i = ∑ s : Fin 16384, (max (a (ix2 s (i 0))) 0 * max (a (ix2 s (i 0))) 0) * d (ix2 s (i 1)) := rfl

theorem index_at : ∀ t : Fin cfg0.N, win0_0.index t = ![t.val % 8, t.val / 8]
    ∧ win0_1.index t = ![t.val % 8, 0] ∧ win0_2.index t = ![t.val / 8, 0] :=
  (by decide +kernel : ∀ t : Fin grid0.N, _)

/-- One point's product, at an entry. -/
theorem part_at (x : FVec Ideal S2048x2048 .bf16) (d : FVec Ideal S2048x1024 .bf16) (y : S2048x1024.Idx) :
    (k0_pay1 (F := Ideal) x d y : EReal) = ∑ k : Fin 2048, (max (x (ix2 k (y 0))) 0 * max (x (ix2 k (y 0))) 0) * d (ix2 k (y 1)) := by
  pointwise [k0_pay1]

theorem first_at (x : FVec Ideal S2048x2048 .bf16) (d : FVec Ideal S2048x1024 .bf16) (y : S2048x1024.Idx) :
    (k0_pay2 (F := Ideal) x d y : EReal) = 0 + ∑ k : Fin 2048, (max (x (ix2 k (y 0))) 0 * max (x (ix2 k (y 0))) 0) * d (ix2 k (y 1)) := by
  rw [zero_add, ← part_at]; pointwise [k0_pay2]

theorem step_at (x : FVec Ideal S2048x2048 .bf16) (d : FVec Ideal S2048x1024 .bf16) (acc : FVec Ideal S2048x1024 .f32)
    (y : S2048x1024.Idx) :
    (k0_pay3 (F := Ideal) x d acc y : EReal) = acc y + ∑ k : Fin 2048, (max (x (ix2 k (y 0))) 0 * max (x (ix2 k (y 0))) 0) * d (ix2 k (y 1)) := by
  rw [← part_at]; pointwise [k0_pay3]

/-- What a run's last point stores is what it leaves in the accumulator. -/
theorem store_eq_acc (c : Dev nD) (t : Fin cfg0.N) (h : t.val % 8 = 7) (y : S2048x1024.Idx) :
    (outsAt0 m c t.val t.isLt).1 y = (outsAt0 m c t.val t.isLt).2 y := by
  rw [outsAt0_C m c t (by omega) (by omega) h]; frame_out; pointwise [k0_pay4]

theorem result (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  have h7 : t.val % 8 = 7 := (flush0_2 t).mp hf
  rw [after0_2, store_eq_acc m c t h7]
  rw [Pipeline.eq_sum_fin_of_reset_step_apply_of_flush (fun n h => (outsAt0 m c n h).2) 8 (fun _ => (0 : EReal)) _
    (fun t h j => by rw [outsAt0_A m c t h (by omega) (by omega)]; frame_out; rw [first_at])
    (fun t h j => by
      by_cases h2 : t.val % 8 = 7
      · rw [outsAt0_C m c t h (by omega) h2]; frame_out; rw [step_at]; exact congrArg (· + _) (congrFun (Memref.IsWhole.read_unread (Memref.isWhole_whole cc0_scratch0) _) j)
      · rw [outsAt0_B m c t h (by omega) h2]; frame_out; rw [step_at]; exact congrArg (· + _) (congrFun (Memref.IsWhole.read_unread (Memref.isWhole_whole cc0_scratch0) _) j))
    t h7 _, zero_add]
  rw [grad_at]
  refine Fin.sum_mul_add_congr fun s k hl => ?_
  blk_point [iblk, V, index_at t, index_at ⟨_, Pipeline.run_point_lt_of_flush t h7 s⟩]

end Cert.Kernel2Ideal.Product

end
-- ==== Proof.Products.DownClaim.lean ====
/- The claims about the gradient of the channel mixer's second weight. -/
module

public import proofs.«01_k».proof.Defs
public import proofs.«01_k».proof.Proof.Products.Down
public import proofs.«01_k».proof.Proof.Gen.Kernel2.Frame
public import Idealize.ShloMosaic.Lib.Claim

@[expose] public section

set_option maxRecDepth 16384

noncomputable section

namespace Cert.Kernel2Ideal.Product

open Idealize.ShloMosaic Idealize.SL.Sem
open scoped BigOperators

/-- What the reference computes, of its two arguments, is the product's specification. -/
theorem reference_eq (a : FVec Ideal Cert.Reference2Ideal.S16384x4096 .bf16) (d : FVec Ideal Cert.Reference2Ideal.S16384x1024 .bf16) :
    truncf .bf16 (transpose Cert.Reference2Ideal.S4096x1024 [1, 0]
      (Host.dotGeneral Cert.Reference2Ideal.dot_S16384x1024_S16384x4096_S1024x4096_0_0_1_1_n_n none (extf .f32 d Cert.Reference2Ideal.Gen.bitsLt_bf16_f32)
        (mulf
          (maximumf (extf .f32 a Cert.Reference2Ideal.Gen.bitsLt_bf16_f32) (broadcastInDim Cert.Reference2Ideal.S16384x4096 ![] Cert.Reference2Ideal.Gen.bcast_S_S16384x4096 (constant Cert.Reference2Ideal.S_ .f32 0x00000000#32)))
          (maximumf (extf .f32 a Cert.Reference2Ideal.Gen.bitsLt_bf16_f32) (broadcastInDim Cert.Reference2Ideal.S16384x4096 ![] Cert.Reference2Ideal.Gen.bcast_S_S16384x4096 (constant Cert.Reference2Ideal.S_ .f32 0x00000000#32)))))
      Cert.Reference2Ideal.Gen.transposes_S1024x4096_S4096x1024_1_0) Cert.Reference2Ideal.Gen.bitsLt_bf16_f32 = grad a d := by
  funext i
  rw [grad_at]
  pointwise
  exact Finset.sum_congr rfl fun s _ => mul_comm (G := EReal) _ _

theorem frame_kernel : Cert.quiescent_Kernel2 := fun m ρ _ => Cert.Kernel2.Gen.frame m ρ

theorem frame_ideal : Cert.quiescent_Kernel2Ideal := fun m ρ _ => Cert.Kernel2Ideal.Gen.frame m ρ

theorem frame_reference : Cert.quiescent_Reference2Ideal := by
  intro m g _
  hlo_run
  · intro _; simp
  · exact sem_eq_zero_of_no_sems (sig := Cert.Reference2Ideal.sig) (by decide) _

theorem algebraic : Cert.algebraic_Kernel2Ideal_Reference2Ideal := by
  pair_intro
  · run_from Cert.Kernel2Ideal.Gen.run_main m g
  · hlo_run
    refine Eq.trans ?_ (result m c).symm
    exact reference_eq _ _

end Cert.Kernel2Ideal.Product

end
-- ==== Proof.Products.Act.lean ====
/- The gradient of the channel mixer's activation (`d_a`): the value of the product with the rectifier's slope. -/
module

public import proofs.«01_k».proof.Proof.Gen.Kernel3Ideal.Frame
public import proofs.«01_k».proof.Proof.Gen.Kernel3Ideal.Points
public import proofs.«01_k».proof.Proof.Gen.Reference3Ideal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Product

open Cert.Kernel3Ideal Cert.Kernel3Ideal.Gen

variable (m : (ℓ : Loc nD τ sig) → Buf (Elt Ideal) ℓ)

/-- The gradient at position `i` and column `j`: the incoming gradient's row times the weight's row, times twice the
    rectified activation. -/
def grad (d : FVec Ideal S16384x1024 .bf16) (w : FVec Ideal S4096x1024 .bf16) (a : FVec Ideal S16384x4096 .bf16) :
    FVec Ideal S16384x4096 .bf16 := fun i =>
  show EReal from (∑ k : Fin 1024, d (ix2 (i 0) k) * w (ix2 (i 1) k)) * (Ideal.ofBits .f32 0x40000000#32 * max (a i) 0)

theorem grad_at (d : FVec Ideal S16384x1024 .bf16) (w : FVec Ideal S4096x1024 .bf16) (a : FVec Ideal S16384x4096 .bf16)
    (i : S16384x4096.Idx) :
    grad d w a i = (∑ k : Fin 1024, d (ix2 (i 0) k) * w (ix2 (i 1) k)) * (Ideal.ofBits .f32 0x40000000#32 * max (a i) 0) := rfl

theorem index_at : ∀ t : Fin cfg0.N, win0_0.index t = ![t.val / 4, 0] ∧ win0_1.index t = ![t.val % 4, 0]
    ∧ win0_2.index t = ![t.val / 4, t.val % 4] ∧ win0_3.index t = ![t.val / 4, t.val % 4] :=
  (by decide +kernel : ∀ t : Fin grid0.N, _)

/-- One point's product with the slope, at an entry. -/
theorem part_at (d : FVec Ideal S2048x1024 .bf16) (w : FVec Ideal S1024x1024 .bf16) (a : FVec Ideal S2048x1024 .bf16)
    (y : S2048x1024.Idx) :
    (k0_pay1 (F := Ideal) d w a y : EReal) = (∑ k : Fin 1024, d (ix2 (y 0) k) * w (ix2 (y 1) k)) * (Ideal.ofBits .f32 0x40000000#32 * max (a y) 0) := by
  pointwise [k0_pay1]

theorem result (c : Dev nD) : (dats m 0 c).arrAt 3 (cfgs 0).N
    = grad (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  rw [part_at, grad_at]
  blk_point [iblk, V, index_at t]

end Cert.Kernel3Ideal.Product

end
-- ==== Proof.Products.ActClaim.lean ====
/- The claims about the gradient of the channel mixer's activation. -/
module

public import proofs.«01_k».proof.Defs
public import proofs.«01_k».proof.Proof.Products.Act
public import proofs.«01_k».proof.Proof.Gen.Kernel3.Frame
public import Idealize.ShloMosaic.Lib.Claim

@[expose] public section

set_option maxRecDepth 16384

noncomputable section

namespace Cert.Kernel3Ideal.Product

open Idealize.ShloMosaic Idealize.SL.Sem
open scoped BigOperators

/-- What the reference computes, of its three arguments, is the product's specification. -/
theorem reference_eq (d : FVec Ideal Cert.Reference3Ideal.S16384x1024 .bf16) (w : FVec Ideal Cert.Reference3Ideal.S4096x1024 .bf16)
    (a : FVec Ideal Cert.Reference3Ideal.S16384x4096 .bf16) :
    truncf .bf16 (select (cmpf .ogt (extf .f32 a Cert.Reference3Ideal.Gen.bitsLt_bf16_f32) (broadcastInDim Cert.Reference3Ideal.S16384x4096 ![] Cert.Reference3Ideal.Gen.bcast_S_S16384x4096 (constant Cert.Reference3Ideal.S_ .f32 0x00000000#32)))
        (mulf (Host.dotGeneral Cert.Reference3Ideal.dot_S16384x1024_S4096x1024_S16384x4096_1_1_0_0_n_n none
            (extf .f32 d Cert.Reference3Ideal.Gen.bitsLt_bf16_f32) (extf .f32 w Cert.Reference3Ideal.Gen.bitsLt_bf16_f32))
          (mulf (broadcastInDim Cert.Reference3Ideal.S16384x4096 ![] Cert.Reference3Ideal.Gen.bcast_S_S16384x4096 (constant Cert.Reference3Ideal.S_ .f32 0x40000000#32)) (maximumf (extf .f32 a Cert.Reference3Ideal.Gen.bitsLt_bf16_f32) (broadcastInDim Cert.Reference3Ideal.S16384x4096 ![] Cert.Reference3Ideal.Gen.bcast_S_S16384x4096 (constant Cert.Reference3Ideal.S_ .f32 0x00000000#32))))) (broadcastInDim Cert.Reference3Ideal.S16384x4096 ![] Cert.Reference3Ideal.Gen.bcast_S_S16384x4096 (constant Cert.Reference3Ideal.S_ .f32 0x00000000#32))) Cert.Reference3Ideal.Gen.bitsLt_bf16_f32
      = grad d w a := by
  funext i
  rw [grad_at]
  pointwise
  split_ifs with h
  · rfl
  · have h0 : max (a i : EReal) 0 = 0 := max_eq_right (not_lt.mp h)
    rw [h0, mul_zero, mul_zero]

theorem frame_kernel : Cert.quiescent_Kernel3 := fun m ρ _ => Cert.Kernel3.Gen.frame m ρ

theorem frame_ideal : Cert.quiescent_Kernel3Ideal := fun m ρ _ => Cert.Kernel3Ideal.Gen.frame m ρ

theorem frame_reference : Cert.quiescent_Reference3Ideal := by
  intro m g _
  hlo_run
  · intro _; simp
  · exact sem_eq_zero_of_no_sems (sig := Cert.Reference3Ideal.sig) (by decide) _

theorem algebraic : Cert.algebraic_Kernel3Ideal_Reference3Ideal := by
  pair_intro
  · run_from Cert.Kernel3Ideal.Gen.run_main m g
  · hlo_run
    refine Eq.trans ?_ (result m c).symm
    exact reference_eq _ _ _

end Cert.Kernel3Ideal.Product

end
-- ==== Proof.Products.Up.lean ====
/- The gradient of the channel mixer's first weight (`g_up`): the value of the product and its claims. -/
module

public import proofs.«01_k».proof.Defs
public import proofs.«01_k».proof.Proof.Gen.Kernel4.Frame
public import proofs.«01_k».proof.Proof.Gen.Kernel4Ideal.Frame
public import proofs.«01_k».proof.Proof.Gen.Kernel4Ideal.Points
public import proofs.«01_k».proof.Proof.Gen.Reference4Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Product

open Cert.Kernel4Ideal Cert.Kernel4Ideal.Gen

variable (m : (ℓ : Loc nD τ sig) → Buf (Elt Ideal) ℓ)

/-- What the call computes, entry by entry: the gradient of the channel mixer's first weight (`g_up`). -/
def value (a : FVec Ideal S16384x4096 .bf16) (b : FVec Ideal S16384x1024 .bf16) : FVec Ideal S4096x1024 .bf16 := fun i =>
  show EReal from ∑ s : Fin 16384, a (ix2 s (i 0)) * b (ix2 s (i 1))

theorem value_at (a : FVec Ideal S16384x4096 .bf16) (b : FVec Ideal S16384x1024 .bf16) (i : S4096x1024.Idx) :
    value a b i = ∑ s : Fin 16384, a (ix2 s (i 0)) * b (ix2 s (i 1)) := rfl

/-- The blocks that a grid point reads and writes. -/
theorem index_at : ∀ t : Fin cfg0.N, win0_0.index t = ![t.val % 8, t.val / 8]
    ∧ win0_1.index t = ![t.val % 8, 0] ∧ win0_2.index t = ![t.val / 8, 0] :=
  (by decide +kernel : ∀ t : Fin grid0.N, _)

/-- One point's product, at an entry. -/
theorem part_at (x : FVec Ideal S2048x2048 .bf16) (d : FVec Ideal S2048x1024 .bf16) (y : S2048x1024.Idx) :
    (k0_pay1 (F := Ideal) x d y : EReal) = ∑ k : Fin 2048, x (ix2 k (y 0)) * d (ix2 k (y 1)) := by
  pointwise [k0_pay1]

/-- A run's first point stores its product. -/
theorem first_at (x : FVec Ideal S2048x2048 .bf16) (d : FVec Ideal S2048x1024 .bf16) (y : S2048x1024.Idx) :
    (k0_pay2 (F := Ideal) x d y : EReal) = 0 + ∑ k : Fin 2048, x (ix2 k (y 0)) * d (ix2 k (y 1)) := by
  rw [zero_add, ← part_at]; pointwise [k0_pay2]

/-- Every other point adds its product. -/
theorem step_at (x : FVec Ideal S2048x2048 .bf16) (d : FVec Ideal S2048x1024 .bf16) (acc : FVec Ideal S2048x1024 .f32)
    (y : S2048x1024.Idx) :
    (k0_pay3 (F := Ideal) x d acc y : EReal) = acc y + ∑ k : Fin 2048, x (ix2 k (y 0)) * d (ix2 k (y 1)) := by
  rw [← part_at]; pointwise [k0_pay3]

/-- What a run's last point stores is what it leaves in the accumulator. -/
theorem store_eq_acc (c : Dev nD) (t : Fin cfg0.N) (h : t.val % 8 = 7) (y : S2048x1024.Idx) :
    (outsAt0 m c t.val t.isLt).1 y = (outsAt0 m c t.val t.isLt).2 y := by
  rw [outsAt0_C m c t (by omega) (by omega) h]; frame_out; pointwise [k0_pay4]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t hf y => ?_
  blk_simp
  have hl : t.val % 8 = 7 := (flush0_2 t).mp hf
  rw [after0_2, store_eq_acc m c t hl]
  rw [Pipeline.eq_sum_fin_of_reset_step_apply_of_flush (fun n h => (outsAt0 m c n h).2) 8 (fun _ => (0 : EReal)) _
    (fun t h j => by rw [outsAt0_A m c t h (by omega) (by omega)]; frame_out; rw [first_at])
    (fun t h j => by
      by_cases h2 : t.val % 8 = 7
      · rw [outsAt0_C m c t h (by omega) h2]; frame_out; rw [step_at]
        exact congrArg (· + _) (congrFun (Memref.IsWhole.read_unread (Memref.isWhole_whole cc0_scratch0) _) j)
      · rw [outsAt0_B m c t h (by omega) h2]; frame_out; rw [step_at]
        exact congrArg (· + _) (congrFun (Memref.IsWhole.read_unread (Memref.isWhole_whole cc0_scratch0) _) j))
    t hl _, zero_add]
  rw [value_at]
  refine Fin.sum_mul_add_congr fun s k hk => ?_
  blk_point [iblk, V, index_at t, index_at ⟨_, Pipeline.run_point_lt_of_flush t hl s⟩]

/-- What the reference computes, of its two arguments, is the same. -/
theorem reference_eq (a : FVec Ideal Cert.Reference4Ideal.S16384x4096 .bf16) (b : FVec Ideal Cert.Reference4Ideal.S16384x1024 .bf16) :
    truncf .bf16 (transpose Cert.Reference4Ideal.S4096x1024 [1, 0] (transpose Cert.Reference4Ideal.S1024x4096 [1, 0] (Host.dotGeneral Cert.Reference4Ideal.dot_S16384x4096_S16384x1024_S4096x1024_0_0_1_1_n_n none (extf .f32 a Cert.Reference4Ideal.Gen.bitsLt_bf16_f32) (extf .f32 b Cert.Reference4Ideal.Gen.bitsLt_bf16_f32)) Cert.Reference4Ideal.Gen.transposes_S4096x1024_S1024x4096_1_0) Cert.Reference4Ideal.Gen.transposes_S1024x4096_S4096x1024_1_0) Cert.Reference4Ideal.Gen.bitsLt_bf16_f32 = value a b := by
  funext i
  rw [value_at]
  pointwise

theorem frame_kernel : Cert.quiescent_Kernel4 := fun m ρ _ => Cert.Kernel4.Gen.frame m ρ

theorem frame_ideal : Cert.quiescent_Kernel4Ideal := fun m ρ _ => Cert.Kernel4Ideal.Gen.frame m ρ

theorem frame_reference : Cert.quiescent_Reference4Ideal := by
  intro m g _
  hlo_run
  · intro _; simp
  · exact sem_eq_zero_of_no_sems (sig := Cert.Reference4Ideal.sig) (by decide) _

theorem algebraic : Cert.algebraic_Kernel4Ideal_Reference4Ideal := by
  pair_intro
  · run_from Cert.Kernel4Ideal.Gen.run_main m g
  · hlo_run
    refine Eq.trans ?_ (result m c).symm
    exact reference_eq _ _

end Cert.Kernel4Ideal.Product

end
-- ==== Proof.Products.UpInput.lean ====
/- The gradient of the channel mixer's input (`d_v2`): the value of the product and its claims. -/
module

public import proofs.«01_k».proof.Defs
public import proofs.«01_k».proof.Proof.Gen.Kernel5.Frame
public import proofs.«01_k».proof.Proof.Gen.Kernel5Ideal.Frame
public import proofs.«01_k».proof.Proof.Gen.Kernel5Ideal.Points
public import proofs.«01_k».proof.Proof.Gen.Reference5Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Product

open Cert.Kernel5Ideal Cert.Kernel5Ideal.Gen

variable (m : (ℓ : Loc nD τ sig) → Buf (Elt Ideal) ℓ)

/-- What the call computes, entry by entry: the gradient of the channel mixer's input (`d_v2`). -/
def value (a : FVec Ideal S16384x4096 .bf16) (b : FVec Ideal S4096x1024 .bf16) : FVec Ideal S16384x1024 .bf16 := fun i =>
  show EReal from ∑ s : Fin 4096, a (ix2 (i 0) s) * b (ix2 s (i 1))

theorem value_at (a : FVec Ideal S16384x4096 .bf16) (b : FVec Ideal S4096x1024 .bf16) (i : S16384x1024.Idx) :
    value a b i = ∑ s : Fin 4096, a (ix2 (i 0) s) * b (ix2 s (i 1)) := rfl

/-- The blocks that a grid point reads and writes. -/
theorem index_at : ∀ t : Fin cfg0.N, win0_0.index t = ![t.val / 2, t.val % 2]
    ∧ win0_1.index t = ![t.val % 2, 0] ∧ win0_2.index t = ![t.val / 2, 0] :=
  (by decide +kernel : ∀ t : Fin grid0.N, _)

/-- One point's product, at an entry. -/
theorem part_at (x : FVec Ideal S2048x2048 .bf16) (d : FVec Ideal S2048x1024 .bf16) (y : S2048x1024.Idx) :
    (k0_pay1 (F := Ideal) x d y : EReal) = ∑ k : Fin 2048, x (ix2 (y 0) k) * d (ix2 k (y 1)) := by
  pointwise [k0_pay1]

/-- A run's first point stores its product. -/
theorem first_at (x : FVec Ideal S2048x2048 .bf16) (d : FVec Ideal S2048x1024 .bf16) (y : S2048x1024.Idx) :
    (k0_pay2 (F := Ideal) x d y : EReal) = 0 + ∑ k : Fin 2048, x (ix2 (y 0) k) * d (ix2 k (y 1)) := by
  rw [zero_add, ← part_at]; pointwise [k0_pay2]

/-- Every other point adds its product. -/
theorem step_at (x : FVec Ideal S2048x2048 .bf16) (d : FVec Ideal S2048x1024 .bf16) (acc : FVec Ideal S2048x1024 .f32)
    (y : S2048x1024.Idx) :
    (k0_pay3 (F := Ideal) x d acc y : EReal) = acc y + ∑ k : Fin 2048, x (ix2 (y 0) k) * d (ix2 k (y 1)) := by
  rw [← part_at]; pointwise [k0_pay3]

/-- What a run's last point stores is what it leaves in the accumulator. -/
theorem store_eq_acc (c : Dev nD) (t : Fin cfg0.N) (h : t.val % 2 = 1) (y : S2048x1024.Idx) :
    (outsAt0 m c t.val t.isLt).1 y = (outsAt0 m c t.val t.isLt).2 y := by
  rw [outsAt0_B m c t (by omega) h h]; frame_out; pointwise [k0_pay4]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t hf y => ?_
  blk_simp
  have hl : t.val % 2 = 1 := (flush0_2 t).mp hf
  rw [after0_2, store_eq_acc m c t hl]
  rw [Pipeline.eq_sum_fin_of_reset_step_apply_of_flush (fun n h => (outsAt0 m c n h).2) 2 (fun _ => (0 : EReal)) _
    (fun t h j => by rw [outsAt0_A m c t h (by omega) (by omega)]; frame_out; rw [first_at])
    (fun t h j => by
      rw [outsAt0_B m c t h (by omega) (by omega)]; frame_out; rw [step_at]
      exact congrArg (· + _) (congrFun (Memref.IsWhole.read_unread (Memref.isWhole_whole cc0_scratch0) _) j))
    t hl _, zero_add]
  rw [value_at]
  refine Fin.sum_mul_add_congr fun s k hk => ?_
  blk_point [iblk, V, index_at t, index_at ⟨_, Pipeline.run_point_lt_of_flush t hl s⟩]

/-- What the reference computes, of its two arguments, is the same. -/
theorem reference_eq (a : FVec Ideal Cert.Reference5Ideal.S16384x4096 .bf16) (b : FVec Ideal Cert.Reference5Ideal.S4096x1024 .bf16) :
    truncf .bf16 (Host.dotGeneral Cert.Reference5Ideal.dot_S16384x4096_S1024x4096_S16384x1024_1_1_0_0_n_n none (extf .f32 a Cert.Reference5Ideal.Gen.bitsLt_bf16_f32) (transpose Cert.Reference5Ideal.S1024x4096 [1, 0] (extf .f32 b Cert.Reference5Ideal.Gen.bitsLt_bf16_f32) Cert.Reference5Ideal.Gen.transposes_S4096x1024_S1024x4096_1_0)) Cert.Reference5Ideal.Gen.bitsLt_bf16_f32 = value a b := by
  funext i
  rw [value_at]
  pointwise

theorem frame_kernel : Cert.quiescent_Kernel5 := fun m ρ _ => Cert.Kernel5.Gen.frame m ρ

theorem frame_ideal : Cert.quiescent_Kernel5Ideal := fun m ρ _ => Cert.Kernel5Ideal.Gen.frame m ρ

theorem frame_reference : Cert.quiescent_Reference5Ideal := by
  intro m g _
  hlo_run
  · intro _; simp
  · exact sem_eq_zero_of_no_sems (sig := Cert.Reference5Ideal.sig) (by decide) _

theorem algebraic : Cert.algebraic_Kernel5Ideal_Reference5Ideal := by
  pair_intro
  · run_from Cert.Kernel5Ideal.Gen.run_main m g
  · hlo_run
    refine Eq.trans ?_ (result m c).symm
    exact reference_eq _ _

end Cert.Kernel5Ideal.Product

end
-- ==== Proof.Products.Retention.lean ====
/- The gradient of the retention's rows of the input weight (`g_in_ret`): the value of the product and its claims. -/
module

public import proofs.«01_k».proof.Defs
public import proofs.«01_k».proof.Proof.Gen.Kernel6.Frame
public import proofs.«01_k».proof.Proof.Gen.Kernel6Ideal.Frame
public import proofs.«01_k».proof.Proof.Gen.Kernel6Ideal.Points
public import proofs.«01_k».proof.Proof.Gen.Reference6Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel6Ideal.Product

open Cert.Kernel6Ideal Cert.Kernel6Ideal.Gen

variable (m : (ℓ : Loc nD τ sig) → Buf (Elt Ideal) ℓ)

/-- What the call computes, entry by entry: the gradient of the retention's rows of the input weight (`g_in_ret`). -/
def value (a : FVec Ideal S16384x6144 .bf16) (b : FVec Ideal S16384x1024 .bf16) : FVec Ideal S6144x1024 .bf16 := fun i =>
  show EReal from ∑ s : Fin 16384, a (ix2 s (i 0)) * b (ix2 s (i 1))

theorem value_at (a : FVec Ideal S16384x6144 .bf16) (b : FVec Ideal S16384x1024 .bf16) (i : S6144x1024.Idx) :
    value a b i = ∑ s : Fin 16384, a (ix2 s (i 0)) * b (ix2 s (i 1)) := rfl

/-- The blocks that a grid point reads and writes. -/
theorem index_at : ∀ t : Fin cfg0.N, win0_0.index t = ![t.val % 8, t.val / 8]
    ∧ win0_1.index t = ![t.val % 8, 0] ∧ win0_2.index t = ![t.val / 8, 0] :=
  (by decide +kernel : ∀ t : Fin grid0.N, _)

/-- One point's product, at an entry. -/
theorem part_at (x : FVec Ideal S2048x2048 .bf16) (d : FVec Ideal S2048x1024 .bf16) (y : S2048x1024.Idx) :
    (k0_pay1 (F := Ideal) x d y : EReal) = ∑ k : Fin 2048, x (ix2 k (y 0)) * d (ix2 k (y 1)) := by
  pointwise [k0_pay1]

/-- A run's first point stores its product. -/
theorem first_at (x : FVec Ideal S2048x2048 .bf16) (d : FVec Ideal S2048x1024 .bf16) (y : S2048x1024.Idx) :
    (k0_pay2 (F := Ideal) x d y : EReal) = 0 + ∑ k : Fin 2048, x (ix2 k (y 0)) * d (ix2 k (y 1)) := by
  rw [zero_add, ← part_at]; pointwise [k0_pay2]

/-- Every other point adds its product. -/
theorem step_at (x : FVec Ideal S2048x2048 .bf16) (d : FVec Ideal S2048x1024 .bf16) (acc : FVec Ideal S2048x1024 .f32)
    (y : S2048x1024.Idx) :
    (k0_pay3 (F := Ideal) x d acc y : EReal) = acc y + ∑ k : Fin 2048, x (ix2 k (y 0)) * d (ix2 k (y 1)) := by
  rw [← part_at]; pointwise [k0_pay3]

/-- What a run's last point stores is what it leaves in the accumulator. -/
theorem store_eq_acc (c : Dev nD) (t : Fin cfg0.N) (h : t.val % 8 = 7) (y : S2048x1024.Idx) :
    (outsAt0 m c t.val t.isLt).1 y = (outsAt0 m c t.val t.isLt).2 y := by
  rw [outsAt0_C m c t (by omega) (by omega) h]; frame_out; pointwise [k0_pay4]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t hf y => ?_
  blk_simp
  have hl : t.val % 8 = 7 := (flush0_2 t).mp hf
  rw [after0_2, store_eq_acc m c t hl]
  rw [Pipeline.eq_sum_fin_of_reset_step_apply_of_flush (fun n h => (outsAt0 m c n h).2) 8 (fun _ => (0 : EReal)) _
    (fun t h j => by rw [outsAt0_A m c t h (by omega) (by omega)]; frame_out; rw [first_at])
    (fun t h j => by
      by_cases h2 : t.val % 8 = 7
      · rw [outsAt0_C m c t h (by omega) h2]; frame_out; rw [step_at]
        exact congrArg (· + _) (congrFun (Memref.IsWhole.read_unread (Memref.isWhole_whole cc0_scratch0) _) j)
      · rw [outsAt0_B m c t h (by omega) h2]; frame_out; rw [step_at]
        exact congrArg (· + _) (congrFun (Memref.IsWhole.read_unread (Memref.isWhole_whole cc0_scratch0) _) j))
    t hl _, zero_add]
  rw [value_at]
  refine Fin.sum_mul_add_congr fun s k hk => ?_
  blk_point [iblk, V, index_at t, index_at ⟨_, Pipeline.run_point_lt_of_flush t hl s⟩]

/-- What the reference computes, of its two arguments, is the same. -/
theorem reference_eq (a : FVec Ideal Cert.Reference6Ideal.S16384x6144 .bf16) (b : FVec Ideal Cert.Reference6Ideal.S16384x1024 .bf16) :
    truncf .bf16 (transpose Cert.Reference6Ideal.S6144x1024 [1, 0] (transpose Cert.Reference6Ideal.S1024x6144 [1, 0] (Host.dotGeneral Cert.Reference6Ideal.dot_S16384x6144_S16384x1024_S6144x1024_0_0_1_1_n_n none (extf .f32 a Cert.Reference6Ideal.Gen.bitsLt_bf16_f32) (extf .f32 b Cert.Reference6Ideal.Gen.bitsLt_bf16_f32)) Cert.Reference6Ideal.Gen.transposes_S6144x1024_S1024x6144_1_0) Cert.Reference6Ideal.Gen.transposes_S1024x6144_S6144x1024_1_0) Cert.Reference6Ideal.Gen.bitsLt_bf16_f32 = value a b := by
  funext i
  rw [value_at]
  pointwise

theorem frame_kernel : Cert.quiescent_Kernel6 := fun m ρ _ => Cert.Kernel6.Gen.frame m ρ

theorem frame_ideal : Cert.quiescent_Kernel6Ideal := fun m ρ _ => Cert.Kernel6Ideal.Gen.frame m ρ

theorem frame_reference : Cert.quiescent_Reference6Ideal := by
  intro m g _
  hlo_run
  · intro _; simp
  · exact sem_eq_zero_of_no_sems (sig := Cert.Reference6Ideal.sig) (by decide) _

theorem algebraic : Cert.algebraic_Kernel6Ideal_Reference6Ideal := by
  pair_intro
  · run_from Cert.Kernel6Ideal.Gen.run_main m g
  · hlo_run
    refine Eq.trans ?_ (result m c).symm
    exact reference_eq _ _

end Cert.Kernel6Ideal.Product

end
-- ==== Proof.Products.RetentionInput.lean ====
/- The gradient of the layer's input through the retention's projection (`du_ret`): the value of the product and its claims. -/
module

public import proofs.«01_k».proof.Defs
public import proofs.«01_k».proof.Proof.Gen.Kernel7.Frame
public import proofs.«01_k».proof.Proof.Gen.Kernel7Ideal.Frame
public import proofs.«01_k».proof.Proof.Gen.Kernel7Ideal.Points
public import proofs.«01_k».proof.Proof.Gen.Reference7Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.Product

open Cert.Kernel7Ideal Cert.Kernel7Ideal.Gen

variable (m : (ℓ : Loc nD τ sig) → Buf (Elt Ideal) ℓ)

/-- What the call computes, entry by entry: the gradient of the layer's input through the retention's projection (`du_ret`). -/
def value (a : FVec Ideal S16384x6144 .bf16) (b : FVec Ideal S6144x1024 .bf16) : FVec Ideal S16384x1024 .bf16 := fun i =>
  show EReal from ∑ s : Fin 6144, a (ix2 (i 0) s) * b (ix2 s (i 1))

theorem value_at (a : FVec Ideal S16384x6144 .bf16) (b : FVec Ideal S6144x1024 .bf16) (i : S16384x1024.Idx) :
    value a b i = ∑ s : Fin 6144, a (ix2 (i 0) s) * b (ix2 s (i 1)) := rfl

/-- The blocks that a grid point reads and writes. -/
theorem index_at : ∀ t : Fin cfg0.N, win0_0.index t = ![t.val, 0]
    ∧ win0_1.index t = ![0, 0] ∧ win0_2.index t = ![t.val, 0] :=
  (by decide +kernel : ∀ t : Fin grid0.N, _)

/-- One point's product, at an entry. -/
theorem part_at (x : FVec Ideal S512x6144 .bf16) (d : FVec Ideal S6144x1024 .bf16) (y : S512x1024.Idx) :
    (k0_pay1 (F := Ideal) x d y : EReal) = ∑ k : Fin 6144, x (ix2 (y 0) k) * d (ix2 k (y 1)) := by
  pointwise [k0_pay1]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  rw [part_at, value_at]
  blk_point [iblk, V, index_at t]

/-- What the reference computes, of its two arguments, is the same. -/
theorem reference_eq (a : FVec Ideal Cert.Reference7Ideal.S16384x6144 .bf16) (b : FVec Ideal Cert.Reference7Ideal.S6144x1024 .bf16) :
    truncf .bf16 (Host.dotGeneral Cert.Reference7Ideal.dot_S16384x6144_S1024x6144_S16384x1024_1_1_0_0_n_n none (extf .f32 a Cert.Reference7Ideal.Gen.bitsLt_bf16_f32) (transpose Cert.Reference7Ideal.S1024x6144 [1, 0] (extf .f32 b Cert.Reference7Ideal.Gen.bitsLt_bf16_f32) Cert.Reference7Ideal.Gen.transposes_S6144x1024_S1024x6144_1_0)) Cert.Reference7Ideal.Gen.bitsLt_bf16_f32 = value a b := by
  funext i
  rw [value_at]
  pointwise

theorem frame_kernel : Cert.quiescent_Kernel7 := fun m ρ _ => Cert.Kernel7.Gen.frame m ρ

theorem frame_ideal : Cert.quiescent_Kernel7Ideal := fun m ρ _ => Cert.Kernel7Ideal.Gen.frame m ρ

theorem frame_reference : Cert.quiescent_Reference7Ideal := by
  intro m g _
  hlo_run
  · intro _; simp
  · exact sem_eq_zero_of_no_sems (sig := Cert.Reference7Ideal.sig) (by decide) _

theorem algebraic : Cert.algebraic_Kernel7Ideal_Reference7Ideal := by
  pair_intro
  · run_from Cert.Kernel7Ideal.Gen.run_main m g
  · hlo_run
    refine Eq.trans ?_ (result m c).symm
    exact reference_eq _ _

end Cert.Kernel7Ideal.Product

end
-- ==== Proof.Products.Gate.lean ====
/- The gradient of the gates' rows of the input weight (`g_in_gate`): the value of the product and its claims. -/
module

public import proofs.«01_k».proof.Defs
public import proofs.«01_k».proof.Proof.Gen.Kernel8.Frame
public import proofs.«01_k».proof.Proof.Gen.Kernel8Ideal.Frame
public import proofs.«01_k».proof.Proof.Gen.Kernel8Ideal.Points
public import proofs.«01_k».proof.Proof.Gen.Reference8Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.Product

open Cert.Kernel8Ideal Cert.Kernel8Ideal.Gen

variable (m : (ℓ : Loc nD τ sig) → Buf (Elt Ideal) ℓ)

/-- What the call computes, entry by entry: the gradient of the gates' rows of the input weight (`g_in_gate`). -/
def value (a : FVec Ideal S16384x2048 .bf16) (b : FVec Ideal S16384x1024 .bf16) : FVec Ideal S2048x1024 .bf16 := fun i =>
  show EReal from ∑ s : Fin 16384, a (ix2 s (i 0)) * b (ix2 s (i 1))

theorem value_at (a : FVec Ideal S16384x2048 .bf16) (b : FVec Ideal S16384x1024 .bf16) (i : S2048x1024.Idx) :
    value a b i = ∑ s : Fin 16384, a (ix2 s (i 0)) * b (ix2 s (i 1)) := rfl

/-- The blocks that a grid point reads and writes. -/
theorem index_at : ∀ t : Fin cfg0.N, win0_0.index t = ![t.val % 8, 0]
    ∧ win0_1.index t = ![t.val % 8, 0] ∧ win0_2.index t = ![0, 0] :=
  (by decide +kernel : ∀ t : Fin grid0.N, _)

/-- One point's product, at an entry. -/
theorem part_at (x : FVec Ideal S2048x2048 .bf16) (d : FVec Ideal S2048x1024 .bf16) (y : S2048x1024.Idx) :
    (k0_pay1 (F := Ideal) x d y : EReal) = ∑ k : Fin 2048, x (ix2 k (y 0)) * d (ix2 k (y 1)) := by
  pointwise [k0_pay1]

/-- A run's first point stores its product. -/
theorem first_at (x : FVec Ideal S2048x2048 .bf16) (d : FVec Ideal S2048x1024 .bf16) (y : S2048x1024.Idx) :
    (k0_pay2 (F := Ideal) x d y : EReal) = 0 + ∑ k : Fin 2048, x (ix2 k (y 0)) * d (ix2 k (y 1)) := by
  rw [zero_add, ← part_at]; pointwise [k0_pay2]

/-- Every other point adds its product. -/
theorem step_at (x : FVec Ideal S2048x2048 .bf16) (d : FVec Ideal S2048x1024 .bf16) (acc : FVec Ideal S2048x1024 .f32)
    (y : S2048x1024.Idx) :
    (k0_pay3 (F := Ideal) x d acc y : EReal) = acc y + ∑ k : Fin 2048, x (ix2 k (y 0)) * d (ix2 k (y 1)) := by
  rw [← part_at]; pointwise [k0_pay3]

/-- What a run's last point stores is what it leaves in the accumulator. -/
theorem store_eq_acc (c : Dev nD) (t : Fin cfg0.N) (h : t.val % 8 = 7) (y : S2048x1024.Idx) :
    (outsAt0 m c t.val t.isLt).1 y = (outsAt0 m c t.val t.isLt).2 y := by
  have hN := lt_of_lt_of_eq t.isLt (show cfg0.N = 8 from N_0)
  rw [outsAt0_C m c t (by omega) (by omega) h]; frame_out; pointwise [k0_pay4]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t hf y => ?_
  blk_simp
  have hl : t.val % 8 = 7 := (flush0_2 t).mp hf
  rw [after0_2, store_eq_acc m c t hl]
  rw [Pipeline.eq_sum_fin_of_reset_step_apply_of_flush (fun n h => (outsAt0 m c n h).2) 8 (fun _ => (0 : EReal)) _
    (fun t h j => by have hN := lt_of_lt_of_eq t.isLt (show cfg0.N = 8 from N_0); rw [outsAt0_A m c t h (by omega) (by omega)]; frame_out; rw [first_at])
    (fun t h j => by
      have hN := lt_of_lt_of_eq t.isLt (show cfg0.N = 8 from N_0)
      by_cases h2 : t.val % 8 = 7
      · rw [outsAt0_C m c t h (by omega) h2]; frame_out; rw [step_at]
        exact congrArg (· + _) (congrFun (Memref.IsWhole.read_unread (Memref.isWhole_whole cc0_scratch0) _) j)
      · rw [outsAt0_B m c t h (by omega) h2]; frame_out; rw [step_at]
        exact congrArg (· + _) (congrFun (Memref.IsWhole.read_unread (Memref.isWhole_whole cc0_scratch0) _) j))
    t hl _, zero_add]
  rw [value_at]
  refine Fin.sum_mul_add_congr fun s k hk => ?_
  blk_point [iblk, V, index_at t, index_at ⟨_, Pipeline.run_point_lt_of_flush t hl s⟩]

/-- What the reference computes, of its two arguments, is the same. -/
theorem reference_eq (a : FVec Ideal Cert.Reference8Ideal.S16384x2048 .bf16) (b : FVec Ideal Cert.Reference8Ideal.S16384x1024 .bf16) :
    truncf .bf16 (transpose Cert.Reference8Ideal.S2048x1024 [1, 0] (transpose Cert.Reference8Ideal.S1024x2048 [1, 0] (Host.dotGeneral Cert.Reference8Ideal.dot_S16384x2048_S16384x1024_S2048x1024_0_0_1_1_n_n none (extf .f32 a Cert.Reference8Ideal.Gen.bitsLt_bf16_f32) (extf .f32 b Cert.Reference8Ideal.Gen.bitsLt_bf16_f32)) Cert.Reference8Ideal.Gen.transposes_S2048x1024_S1024x2048_1_0) Cert.Reference8Ideal.Gen.transposes_S1024x2048_S2048x1024_1_0) Cert.Reference8Ideal.Gen.bitsLt_bf16_f32 = value a b := by
  funext i
  rw [value_at]
  pointwise

theorem frame_kernel : Cert.quiescent_Kernel8 := fun m ρ _ => Cert.Kernel8.Gen.frame m ρ

theorem frame_ideal : Cert.quiescent_Kernel8Ideal := fun m ρ _ => Cert.Kernel8Ideal.Gen.frame m ρ

theorem frame_reference : Cert.quiescent_Reference8Ideal := by
  intro m g _
  hlo_run
  · intro _; simp
  · exact sem_eq_zero_of_no_sems (sig := Cert.Reference8Ideal.sig) (by decide) _

theorem algebraic : Cert.algebraic_Kernel8Ideal_Reference8Ideal := by
  pair_intro
  · run_from Cert.Kernel8Ideal.Gen.run_main m g
  · hlo_run
    refine Eq.trans ?_ (result m c).symm
    exact reference_eq _ _

end Cert.Kernel8Ideal.Product

end
-- ==== Proof.Products.GateInput.lean ====
/- The gradient of the layer's input through the gates' projection (`du_gate`): the value of the product and its claims. -/
module

public import proofs.«01_k».proof.Defs
public import proofs.«01_k».proof.Proof.Gen.Kernel9.Frame
public import proofs.«01_k».proof.Proof.Gen.Kernel9Ideal.Frame
public import proofs.«01_k».proof.Proof.Gen.Kernel9Ideal.Points
public import proofs.«01_k».proof.Proof.Gen.Reference9Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.Product

open Cert.Kernel9Ideal Cert.Kernel9Ideal.Gen

variable (m : (ℓ : Loc nD τ sig) → Buf (Elt Ideal) ℓ)

/-- What the call computes, entry by entry: the gradient of the layer's input through the gates' projection (`du_gate`). -/
def value (a : FVec Ideal S16384x2048 .bf16) (b : FVec Ideal S2048x1024 .bf16) : FVec Ideal S16384x1024 .bf16 := fun i =>
  show EReal from ∑ s : Fin 2048, a (ix2 (i 0) s) * b (ix2 s (i 1))

theorem value_at (a : FVec Ideal S16384x2048 .bf16) (b : FVec Ideal S2048x1024 .bf16) (i : S16384x1024.Idx) :
    value a b i = ∑ s : Fin 2048, a (ix2 (i 0) s) * b (ix2 s (i 1)) := rfl

/-- The blocks that a grid point reads and writes. -/
theorem index_at : ∀ t : Fin cfg0.N, win0_0.index t = ![t.val, 0]
    ∧ win0_1.index t = ![0, 0] ∧ win0_2.index t = ![t.val, 0] :=
  (by decide +kernel : ∀ t : Fin grid0.N, _)

/-- One point's product, at an entry. -/
theorem part_at (x : FVec Ideal S2048x2048 .bf16) (d : FVec Ideal S2048x1024 .bf16) (y : S2048x1024.Idx) :
    (k0_pay1 (F := Ideal) x d y : EReal) = ∑ k : Fin 2048, x (ix2 (y 0) k) * d (ix2 k (y 1)) := by
  pointwise [k0_pay1]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  rw [part_at, value_at]
  blk_point [iblk, V, index_at t]

/-- What the reference computes, of its two arguments, is the same. -/
theorem reference_eq (a : FVec Ideal Cert.Reference9Ideal.S16384x2048 .bf16) (b : FVec Ideal Cert.Reference9Ideal.S2048x1024 .bf16) :
    truncf .bf16 (Host.dotGeneral Cert.Reference9Ideal.dot_S16384x2048_S1024x2048_S16384x1024_1_1_0_0_n_n none (extf .f32 a Cert.Reference9Ideal.Gen.bitsLt_bf16_f32) (transpose Cert.Reference9Ideal.S1024x2048 [1, 0] (extf .f32 b Cert.Reference9Ideal.Gen.bitsLt_bf16_f32) Cert.Reference9Ideal.Gen.transposes_S2048x1024_S1024x2048_1_0)) Cert.Reference9Ideal.Gen.bitsLt_bf16_f32 = value a b := by
  funext i
  rw [value_at]
  pointwise

theorem frame_kernel : Cert.quiescent_Kernel9 := fun m ρ _ => Cert.Kernel9.Gen.frame m ρ

theorem frame_ideal : Cert.quiescent_Kernel9Ideal := fun m ρ _ => Cert.Kernel9Ideal.Gen.frame m ρ

theorem frame_reference : Cert.quiescent_Reference9Ideal := by
  intro m g _
  hlo_run
  · intro _; simp
  · exact sem_eq_zero_of_no_sems (sig := Cert.Reference9Ideal.sig) (by decide) _

theorem algebraic : Cert.algebraic_Kernel9Ideal_Reference9Ideal := by
  pair_intro
  · run_from Cert.Kernel9Ideal.Gen.run_main m g
  · hlo_run
    refine Eq.trans ?_ (result m c).symm
    exact reference_eq _ _

end Cert.Kernel9Ideal.Product

end
-- ==== Proof.Products.Dilated.lean ====
/- The gradient of one dilation's rows of the input weight (`g_in_dil0` to `g_in_dil2`): the value of the product and its claims. -/
module

public import proofs.«01_k».proof.Defs
public import proofs.«01_k».proof.Proof.Gen.Kernel10.Frame
public import proofs.«01_k».proof.Proof.Gen.Kernel10Ideal.Frame
public import proofs.«01_k».proof.Proof.Gen.Kernel10Ideal.Points
public import proofs.«01_k».proof.Proof.Gen.Reference10Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel10Ideal.Product

open Cert.Kernel10Ideal Cert.Kernel10Ideal.Gen

variable (m : (ℓ : Loc nD τ sig) → Buf (Elt Ideal) ℓ)

/-- What the call computes, entry by entry: the gradient of one dilation's rows of the input weight (`g_in_dil0` to `g_in_dil2`). -/
def value (a : FVec Ideal S16384x1536 .bf16) (b : FVec Ideal S16384x1024 .bf16) : FVec Ideal S1536x1024 .bf16 := fun i =>
  show EReal from ∑ s : Fin 16384, a (ix2 s (i 0)) * b (ix2 s (i 1))

theorem value_at (a : FVec Ideal S16384x1536 .bf16) (b : FVec Ideal S16384x1024 .bf16) (i : S1536x1024.Idx) :
    value a b i = ∑ s : Fin 16384, a (ix2 s (i 0)) * b (ix2 s (i 1)) := rfl

/-- The blocks that a grid point reads and writes. -/
theorem index_at : ∀ t : Fin cfg0.N, win0_0.index t = ![t.val % 8, 0]
    ∧ win0_1.index t = ![t.val % 8, 0] ∧ win0_2.index t = ![0, 0] :=
  (by decide +kernel : ∀ t : Fin grid0.N, _)

/-- One point's product, at an entry. -/
theorem part_at (x : FVec Ideal S2048x1536 .bf16) (d : FVec Ideal S2048x1024 .bf16) (y : S1536x1024.Idx) :
    (k0_pay1 (F := Ideal) x d y : EReal) = ∑ k : Fin 2048, x (ix2 k (y 0)) * d (ix2 k (y 1)) := by
  pointwise [k0_pay1]

/-- A run's first point stores its product. -/
theorem first_at (x : FVec Ideal S2048x1536 .bf16) (d : FVec Ideal S2048x1024 .bf16) (y : S1536x1024.Idx) :
    (k0_pay2 (F := Ideal) x d y : EReal) = 0 + ∑ k : Fin 2048, x (ix2 k (y 0)) * d (ix2 k (y 1)) := by
  rw [zero_add, ← part_at]; pointwise [k0_pay2]

/-- Every other point adds its product. -/
theorem step_at (x : FVec Ideal S2048x1536 .bf16) (d : FVec Ideal S2048x1024 .bf16) (acc : FVec Ideal S1536x1024 .f32)
    (y : S1536x1024.Idx) :
    (k0_pay3 (F := Ideal) x d acc y : EReal) = acc y + ∑ k : Fin 2048, x (ix2 k (y 0)) * d (ix2 k (y 1)) := by
  rw [← part_at]; pointwise [k0_pay3]

/-- What a run's last point stores is what it leaves in the accumulator. -/
theorem store_eq_acc (c : Dev nD) (t : Fin cfg0.N) (h : t.val % 8 = 7) (y : S1536x1024.Idx) :
    (outsAt0 m c t.val t.isLt).1 y = (outsAt0 m c t.val t.isLt).2 y := by
  have hN := lt_of_lt_of_eq t.isLt (show cfg0.N = 8 from N_0)
  rw [outsAt0_C m c t (by omega) (by omega) h]; frame_out; pointwise [k0_pay4]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t hf y => ?_
  blk_simp
  have hl : t.val % 8 = 7 := (flush0_2 t).mp hf
  rw [after0_2, store_eq_acc m c t hl]
  rw [Pipeline.eq_sum_fin_of_reset_step_apply_of_flush (fun n h => (outsAt0 m c n h).2) 8 (fun _ => (0 : EReal)) _
    (fun t h j => by have hN := lt_of_lt_of_eq t.isLt (show cfg0.N = 8 from N_0); rw [outsAt0_A m c t h (by omega) (by omega)]; frame_out; rw [first_at])
    (fun t h j => by
      have hN := lt_of_lt_of_eq t.isLt (show cfg0.N = 8 from N_0)
      by_cases h2 : t.val % 8 = 7
      · rw [outsAt0_C m c t h (by omega) h2]; frame_out; rw [step_at]
        exact congrArg (· + _) (congrFun (Memref.IsWhole.read_unread (Memref.isWhole_whole cc0_scratch0) _) j)
      · rw [outsAt0_B m c t h (by omega) h2]; frame_out; rw [step_at]
        exact congrArg (· + _) (congrFun (Memref.IsWhole.read_unread (Memref.isWhole_whole cc0_scratch0) _) j))
    t hl _, zero_add]
  rw [value_at]
  refine Fin.sum_mul_add_congr fun s k hk => ?_
  blk_point [iblk, V, index_at t, index_at ⟨_, Pipeline.run_point_lt_of_flush t hl s⟩]

/-- What the reference computes, of its two arguments, is the same. -/
theorem reference_eq (a : FVec Ideal Cert.Reference10Ideal.S16384x1536 .bf16) (b : FVec Ideal Cert.Reference10Ideal.S16384x1024 .bf16) :
    truncf .bf16 (transpose Cert.Reference10Ideal.S1536x1024 [1, 0] (transpose Cert.Reference10Ideal.S1024x1536 [1, 0] (Host.dotGeneral Cert.Reference10Ideal.dot_S16384x1536_S16384x1024_S1536x1024_0_0_1_1_n_n none (extf .f32 a Cert.Reference10Ideal.Gen.bitsLt_bf16_f32) (extf .f32 b Cert.Reference10Ideal.Gen.bitsLt_bf16_f32)) Cert.Reference10Ideal.Gen.transposes_S1536x1024_S1024x1536_1_0) Cert.Reference10Ideal.Gen.transposes_S1024x1536_S1536x1024_1_0) Cert.Reference10Ideal.Gen.bitsLt_bf16_f32 = value a b := by
  funext i
  rw [value_at]
  pointwise

theorem frame_kernel : Cert.quiescent_Kernel10 := fun m ρ _ => Cert.Kernel10.Gen.frame m ρ

theorem frame_ideal : Cert.quiescent_Kernel10Ideal := fun m ρ _ => Cert.Kernel10Ideal.Gen.frame m ρ

theorem frame_reference : Cert.quiescent_Reference10Ideal := by
  intro m g _
  hlo_run
  · intro _; simp
  · exact sem_eq_zero_of_no_sems (sig := Cert.Reference10Ideal.sig) (by decide) _

theorem algebraic : Cert.algebraic_Kernel10Ideal_Reference10Ideal := by
  pair_intro
  · run_from Cert.Kernel10Ideal.Gen.run_main m g
  · hlo_run
    refine Eq.trans ?_ (result m c).symm
    exact reference_eq _ _

end Cert.Kernel10Ideal.Product

end
-- ==== Proof.Products.DilatedInput.lean ====
/- The gradient of the layer's input through one dilation's projection (`du_dil0` to `du_dil2`): the value of the product and its claims. -/
module

public import proofs.«01_k».proof.Defs
public import proofs.«01_k».proof.Proof.Gen.Kernel11.Frame
public import proofs.«01_k».proof.Proof.Gen.Kernel11Ideal.Frame
public import proofs.«01_k».proof.Proof.Gen.Kernel11Ideal.Points
public import proofs.«01_k».proof.Proof.Gen.Reference11Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel11Ideal.Product

open Cert.Kernel11Ideal Cert.Kernel11Ideal.Gen

variable (m : (ℓ : Loc nD τ sig) → Buf (Elt Ideal) ℓ)

/-- What the call computes, entry by entry: the gradient of the layer's input through one dilation's projection (`du_dil0` to `du_dil2`). -/
def value (a : FVec Ideal S16384x1536 .bf16) (b : FVec Ideal S1536x1024 .bf16) : FVec Ideal S16384x1024 .bf16 := fun i =>
  show EReal from ∑ s : Fin 1536, a (ix2 (i 0) s) * b (ix2 s (i 1))

theorem value_at (a : FVec Ideal S16384x1536 .bf16) (b : FVec Ideal S1536x1024 .bf16) (i : S16384x1024.Idx) :
    value a b i = ∑ s : Fin 1536, a (ix2 (i 0) s) * b (ix2 s (i 1)) := rfl

/-- The blocks that a grid point reads and writes. -/
theorem index_at : ∀ t : Fin cfg0.N, win0_0.index t = ![t.val, 0]
    ∧ win0_1.index t = ![0, 0] ∧ win0_2.index t = ![t.val, 0] :=
  (by decide +kernel : ∀ t : Fin grid0.N, _)

/-- One point's product, at an entry. -/
theorem part_at (x : FVec Ideal S2048x1536 .bf16) (d : FVec Ideal S1536x1024 .bf16) (y : S2048x1024.Idx) :
    (k0_pay1 (F := Ideal) x d y : EReal) = ∑ k : Fin 1536, x (ix2 (y 0) k) * d (ix2 k (y 1)) := by
  pointwise [k0_pay1]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  rw [part_at, value_at]
  blk_point [iblk, V, index_at t]

/-- What the reference computes, of its two arguments, is the same. -/
theorem reference_eq (a : FVec Ideal Cert.Reference11Ideal.S16384x1536 .bf16) (b : FVec Ideal Cert.Reference11Ideal.S1536x1024 .bf16) :
    truncf .bf16 (Host.dotGeneral Cert.Reference11Ideal.dot_S16384x1536_S1024x1536_S16384x1024_1_1_0_0_n_n none (extf .f32 a Cert.Reference11Ideal.Gen.bitsLt_bf16_f32) (transpose Cert.Reference11Ideal.S1024x1536 [1, 0] (extf .f32 b Cert.Reference11Ideal.Gen.bitsLt_bf16_f32) Cert.Reference11Ideal.Gen.transposes_S1536x1024_S1024x1536_1_0)) Cert.Reference11Ideal.Gen.bitsLt_bf16_f32 = value a b := by
  funext i
  rw [value_at]
  pointwise

theorem frame_kernel : Cert.quiescent_Kernel11 := fun m ρ _ => Cert.Kernel11.Gen.frame m ρ

theorem frame_ideal : Cert.quiescent_Kernel11Ideal := fun m ρ _ => Cert.Kernel11Ideal.Gen.frame m ρ

theorem frame_reference : Cert.quiescent_Reference11Ideal := by
  intro m g _
  hlo_run
  · intro _; simp
  · exact sem_eq_zero_of_no_sems (sig := Cert.Reference11Ideal.sig) (by decide) _

theorem algebraic : Cert.algebraic_Kernel11Ideal_Reference11Ideal := by
  pair_intro
  · run_from Cert.Kernel11Ideal.Gen.run_main m g
  · hlo_run
    refine Eq.trans ?_ (result m c).symm
    exact reference_eq _ _

end Cert.Kernel11Ideal.Product

end
-- ==== Proof.Products.RetentionOut.lean ====
/- The gradient of the retention's output weight (`g_ret_out`): the value of the product and its claims. -/
module

public import proofs.«01_k».proof.Defs
public import proofs.«01_k».proof.Proof.Gen.Kernel12.Frame
public import proofs.«01_k».proof.Proof.Gen.Kernel12Ideal.Frame
public import proofs.«01_k».proof.Proof.Gen.Kernel12Ideal.Points
public import proofs.«01_k».proof.Proof.Gen.Reference12Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel12Ideal.Product

open Cert.Kernel12Ideal Cert.Kernel12Ideal.Gen

variable (m : (ℓ : Loc nD τ sig) → Buf (Elt Ideal) ℓ)

/-- What the call computes, entry by entry: the gradient of the retention's output weight (`g_ret_out`). -/
def value (a : FVec Ideal S16384x2048 .bf16) (b : FVec Ideal S16384x1024 .bf16) : FVec Ideal S2048x1024 .bf16 := fun i =>
  show EReal from ∑ s : Fin 16384, a (ix2 s (i 0)) * b (ix2 s (i 1))

theorem value_at (a : FVec Ideal S16384x2048 .bf16) (b : FVec Ideal S16384x1024 .bf16) (i : S2048x1024.Idx) :
    value a b i = ∑ s : Fin 16384, a (ix2 s (i 0)) * b (ix2 s (i 1)) := rfl

/-- The blocks that a grid point reads and writes. -/
theorem index_at : ∀ t : Fin cfg0.N, win0_0.index t = ![t.val % 8, 0]
    ∧ win0_1.index t = ![t.val % 8, 0] ∧ win0_2.index t = ![0, 0] :=
  (by decide +kernel : ∀ t : Fin grid0.N, _)

/-- One point's product, at an entry. -/
theorem part_at (x : FVec Ideal S2048x2048 .bf16) (d : FVec Ideal S2048x1024 .bf16) (y : S2048x1024.Idx) :
    (k0_pay1 (F := Ideal) x d y : EReal) = ∑ k : Fin 2048, x (ix2 k (y 0)) * d (ix2 k (y 1)) := by
  pointwise [k0_pay1]

/-- A run's first point stores its product. -/
theorem first_at (x : FVec Ideal S2048x2048 .bf16) (d : FVec Ideal S2048x1024 .bf16) (y : S2048x1024.Idx) :
    (k0_pay2 (F := Ideal) x d y : EReal) = 0 + ∑ k : Fin 2048, x (ix2 k (y 0)) * d (ix2 k (y 1)) := by
  rw [zero_add, ← part_at]; pointwise [k0_pay2]

/-- Every other point adds its product. -/
theorem step_at (x : FVec Ideal S2048x2048 .bf16) (d : FVec Ideal S2048x1024 .bf16) (acc : FVec Ideal S2048x1024 .f32)
    (y : S2048x1024.Idx) :
    (k0_pay3 (F := Ideal) x d acc y : EReal) = acc y + ∑ k : Fin 2048, x (ix2 k (y 0)) * d (ix2 k (y 1)) := by
  rw [← part_at]; pointwise [k0_pay3]

/-- What a run's last point stores is what it leaves in the accumulator. -/
theorem store_eq_acc (c : Dev nD) (t : Fin cfg0.N) (h : t.val % 8 = 7) (y : S2048x1024.Idx) :
    (outsAt0 m c t.val t.isLt).1 y = (outsAt0 m c t.val t.isLt).2 y := by
  have hN := lt_of_lt_of_eq t.isLt (show cfg0.N = 8 from N_0)
  rw [outsAt0_C m c t (by omega) (by omega) h]; frame_out; pointwise [k0_pay4]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t hf y => ?_
  blk_simp
  have hl : t.val % 8 = 7 := (flush0_2 t).mp hf
  rw [after0_2, store_eq_acc m c t hl]
  rw [Pipeline.eq_sum_fin_of_reset_step_apply_of_flush (fun n h => (outsAt0 m c n h).2) 8 (fun _ => (0 : EReal)) _
    (fun t h j => by have hN := lt_of_lt_of_eq t.isLt (show cfg0.N = 8 from N_0); rw [outsAt0_A m c t h (by omega) (by omega)]; frame_out; rw [first_at])
    (fun t h j => by
      have hN := lt_of_lt_of_eq t.isLt (show cfg0.N = 8 from N_0)
      by_cases h2 : t.val % 8 = 7
      · rw [outsAt0_C m c t h (by omega) h2]; frame_out; rw [step_at]
        exact congrArg (· + _) (congrFun (Memref.IsWhole.read_unread (Memref.isWhole_whole cc0_scratch0) _) j)
      · rw [outsAt0_B m c t h (by omega) h2]; frame_out; rw [step_at]
        exact congrArg (· + _) (congrFun (Memref.IsWhole.read_unread (Memref.isWhole_whole cc0_scratch0) _) j))
    t hl _, zero_add]
  rw [value_at]
  refine Fin.sum_mul_add_congr fun s k hk => ?_
  blk_point [iblk, V, index_at t, index_at ⟨_, Pipeline.run_point_lt_of_flush t hl s⟩]

/-- What the reference computes, of its two arguments, is the same. -/
theorem reference_eq (a : FVec Ideal Cert.Reference12Ideal.S16384x2048 .bf16) (b : FVec Ideal Cert.Reference12Ideal.S16384x1024 .bf16) :
    truncf .bf16 (transpose Cert.Reference12Ideal.S2048x1024 [1, 0] (Host.dotGeneral Cert.Reference12Ideal.dot_S16384x1024_S16384x2048_S1024x2048_0_0_1_1_n_n none (extf .f32 b Cert.Reference12Ideal.Gen.bitsLt_bf16_f32) (extf .f32 a Cert.Reference12Ideal.Gen.bitsLt_bf16_f32)) Cert.Reference12Ideal.Gen.transposes_S1024x2048_S2048x1024_1_0) Cert.Reference12Ideal.Gen.bitsLt_bf16_f32 = value a b := by
  funext i
  rw [value_at]
  pointwise
  exact Finset.sum_congr rfl fun s _ => mul_comm (G := EReal) _ _

theorem frame_kernel : Cert.quiescent_Kernel12 := fun m ρ _ => Cert.Kernel12.Gen.frame m ρ

theorem frame_ideal : Cert.quiescent_Kernel12Ideal := fun m ρ _ => Cert.Kernel12Ideal.Gen.frame m ρ

theorem frame_reference : Cert.quiescent_Reference12Ideal := by
  intro m g _
  hlo_run
  · intro _; simp
  · exact sem_eq_zero_of_no_sems (sig := Cert.Reference12Ideal.sig) (by decide) _

theorem algebraic : Cert.algebraic_Kernel12Ideal_Reference12Ideal := by
  pair_intro
  · run_from Cert.Kernel12Ideal.Gen.run_main m g
  · hlo_run
    refine Eq.trans ?_ (result m c).symm
    exact reference_eq _ _

end Cert.Kernel12Ideal.Product

end
-- ==== Proof.Products.RetentionOutInput.lean ====
/- The gradient of the retention's output (`d_yr`): the value of the product and its claims. -/
module

public import proofs.«01_k».proof.Defs
public import proofs.«01_k».proof.Proof.Gen.Kernel13.Frame
public import proofs.«01_k».proof.Proof.Gen.Kernel13Ideal.Frame
public import proofs.«01_k».proof.Proof.Gen.Kernel13Ideal.Points
public import proofs.«01_k».proof.Proof.Gen.Reference13Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel13Ideal.Product

open Cert.Kernel13Ideal Cert.Kernel13Ideal.Gen

variable (m : (ℓ : Loc nD τ sig) → Buf (Elt Ideal) ℓ)

/-- What the call computes, entry by entry: the gradient of the retention's output (`d_yr`). -/
def value (a : FVec Ideal S16384x1024 .bf16) (b : FVec Ideal S2048x1024 .bf16) : FVec Ideal S16384x2048 .bf16 := fun i =>
  show EReal from ∑ s : Fin 1024, a (ix2 (i 0) s) * b (ix2 (i 1) s)

theorem value_at (a : FVec Ideal S16384x1024 .bf16) (b : FVec Ideal S2048x1024 .bf16) (i : S16384x2048.Idx) :
    value a b i = ∑ s : Fin 1024, a (ix2 (i 0) s) * b (ix2 (i 1) s) := rfl

/-- The blocks that a grid point reads and writes. -/
theorem index_at : ∀ t : Fin cfg0.N, win0_0.index t = ![t.val, 0]
    ∧ win0_1.index t = ![0, 0] ∧ win0_2.index t = ![t.val, 0] :=
  (by decide +kernel : ∀ t : Fin grid0.N, _)

/-- One point's product, at an entry. -/
theorem part_at (x : FVec Ideal S2048x1024 .bf16) (d : FVec Ideal S2048x1024 .bf16) (y : S2048x2048.Idx) :
    (k0_pay1 (F := Ideal) x d y : EReal) = ∑ k : Fin 1024, x (ix2 (y 0) k) * d (ix2 (y 1) k) := by
  pointwise [k0_pay1]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  rw [part_at, value_at]
  blk_point [iblk, V, index_at t]

/-- What the reference computes, of its two arguments, is the same. -/
theorem reference_eq (a : FVec Ideal Cert.Reference13Ideal.S16384x1024 .bf16) (b : FVec Ideal Cert.Reference13Ideal.S2048x1024 .bf16) :
    truncf .bf16 (Host.dotGeneral Cert.Reference13Ideal.dot_S16384x1024_S2048x1024_S16384x2048_1_1_0_0_n_n none (extf .f32 a Cert.Reference13Ideal.Gen.bitsLt_bf16_f32) (extf .f32 b Cert.Reference13Ideal.Gen.bitsLt_bf16_f32)) Cert.Reference13Ideal.Gen.bitsLt_bf16_f32 = value a b := by
  funext i
  rw [value_at]
  pointwise

theorem frame_kernel : Cert.quiescent_Kernel13 := fun m ρ _ => Cert.Kernel13.Gen.frame m ρ

theorem frame_ideal : Cert.quiescent_Kernel13Ideal := fun m ρ _ => Cert.Kernel13Ideal.Gen.frame m ρ

theorem frame_reference : Cert.quiescent_Reference13Ideal := by
  intro m g _
  hlo_run
  · intro _; simp
  · exact sem_eq_zero_of_no_sems (sig := Cert.Reference13Ideal.sig) (by decide) _

theorem algebraic : Cert.algebraic_Kernel13Ideal_Reference13Ideal := by
  pair_intro
  · run_from Cert.Kernel13Ideal.Gen.run_main m g
  · hlo_run
    refine Eq.trans ?_ (result m c).symm
    exact reference_eq _ _

end Cert.Kernel13Ideal.Product

end
-- ==== Proof.Products.Mix.lean ====
/- The gradient of the mixers' output weight (`g_o`; `g_ple_gate` is the same call): the value of the product and its claims. -/
module

public import proofs.«01_k».proof.Defs
public import proofs.«01_k».proof.Proof.Gen.Kernel14.Frame
public import proofs.«01_k».proof.Proof.Gen.Kernel14Ideal.Frame
public import proofs.«01_k».proof.Proof.Gen.Kernel14Ideal.Points
public import proofs.«01_k».proof.Proof.Gen.Reference14Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel14Ideal.Product

open Cert.Kernel14Ideal Cert.Kernel14Ideal.Gen

variable (m : (ℓ : Loc nD τ sig) → Buf (Elt Ideal) ℓ)

/-- What the call computes, entry by entry: the gradient of the mixers' output weight (`g_o`; `g_ple_gate` is the same call). -/
def value (a : FVec Ideal S16384x1024 .bf16) (b : FVec Ideal S16384x1024 .bf16) : FVec Ideal S1024x1024 .bf16 := fun i =>
  show EReal from ∑ s : Fin 16384, a (ix2 s (i 0)) * b (ix2 s (i 1))

theorem value_at (a : FVec Ideal S16384x1024 .bf16) (b : FVec Ideal S16384x1024 .bf16) (i : S1024x1024.Idx) :
    value a b i = ∑ s : Fin 16384, a (ix2 s (i 0)) * b (ix2 s (i 1)) := rfl

/-- The blocks that a grid point reads and writes. -/
theorem index_at : ∀ t : Fin cfg0.N, win0_0.index t = ![t.val % 8, 0]
    ∧ win0_1.index t = ![t.val % 8, 0] ∧ win0_2.index t = ![0, 0] :=
  (by decide +kernel : ∀ t : Fin grid0.N, _)

/-- One point's product, at an entry. -/
theorem part_at (x : FVec Ideal S2048x1024 .bf16) (d : FVec Ideal S2048x1024 .bf16) (y : S1024x1024.Idx) :
    (k0_pay1 (F := Ideal) x d y : EReal) = ∑ k : Fin 2048, x (ix2 k (y 0)) * d (ix2 k (y 1)) := by
  pointwise [k0_pay1]

/-- A run's first point stores its product. -/
theorem first_at (x : FVec Ideal S2048x1024 .bf16) (d : FVec Ideal S2048x1024 .bf16) (y : S1024x1024.Idx) :
    (k0_pay2 (F := Ideal) x d y : EReal) = 0 + ∑ k : Fin 2048, x (ix2 k (y 0)) * d (ix2 k (y 1)) := by
  rw [zero_add, ← part_at]; pointwise [k0_pay2]

/-- Every other point adds its product. -/
theorem step_at (x : FVec Ideal S2048x1024 .bf16) (d : FVec Ideal S2048x1024 .bf16) (acc : FVec Ideal S1024x1024 .f32)
    (y : S1024x1024.Idx) :
    (k0_pay3 (F := Ideal) x d acc y : EReal) = acc y + ∑ k : Fin 2048, x (ix2 k (y 0)) * d (ix2 k (y 1)) := by
  rw [← part_at]; pointwise [k0_pay3]

/-- What a run's last point stores is what it leaves in the accumulator. -/
theorem store_eq_acc (c : Dev nD) (t : Fin cfg0.N) (h : t.val % 8 = 7) (y : S1024x1024.Idx) :
    (outsAt0 m c t.val t.isLt).1 y = (outsAt0 m c t.val t.isLt).2 y := by
  have hN := lt_of_lt_of_eq t.isLt (show cfg0.N = 8 from N_0)
  rw [outsAt0_C m c t (by omega) (by omega) h]; frame_out; pointwise [k0_pay4]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t hf y => ?_
  blk_simp
  have hl : t.val % 8 = 7 := (flush0_2 t).mp hf
  rw [after0_2, store_eq_acc m c t hl]
  rw [Pipeline.eq_sum_fin_of_reset_step_apply_of_flush (fun n h => (outsAt0 m c n h).2) 8 (fun _ => (0 : EReal)) _
    (fun t h j => by have hN := lt_of_lt_of_eq t.isLt (show cfg0.N = 8 from N_0); rw [outsAt0_A m c t h (by omega) (by omega)]; frame_out; rw [first_at])
    (fun t h j => by
      have hN := lt_of_lt_of_eq t.isLt (show cfg0.N = 8 from N_0)
      by_cases h2 : t.val % 8 = 7
      · rw [outsAt0_C m c t h (by omega) h2]; frame_out; rw [step_at]
        exact congrArg (· + _) (congrFun (Memref.IsWhole.read_unread (Memref.isWhole_whole cc0_scratch0) _) j)
      · rw [outsAt0_B m c t h (by omega) h2]; frame_out; rw [step_at]
        exact congrArg (· + _) (congrFun (Memref.IsWhole.read_unread (Memref.isWhole_whole cc0_scratch0) _) j))
    t hl _, zero_add]
  rw [value_at]
  refine Fin.sum_mul_add_congr fun s k hk => ?_
  blk_point [iblk, V, index_at t, index_at ⟨_, Pipeline.run_point_lt_of_flush t hl s⟩]

/-- What the reference computes, of its two arguments, is the same. -/
theorem reference_eq (a : FVec Ideal Cert.Reference14Ideal.S16384x1024 .bf16) (b : FVec Ideal Cert.Reference14Ideal.S16384x1024 .bf16) :
    truncf .bf16 (transpose Cert.Reference14Ideal.S1024x1024 [1, 0] (Host.dotGeneral Cert.Reference14Ideal.dot_S16384x1024_S16384x1024_S1024x1024_0_0_1_1_n_n none (extf .f32 b Cert.Reference14Ideal.Gen.bitsLt_bf16_f32) (extf .f32 a Cert.Reference14Ideal.Gen.bitsLt_bf16_f32)) Cert.Reference14Ideal.Gen.transposes_S1024x1024_S1024x1024_1_0) Cert.Reference14Ideal.Gen.bitsLt_bf16_f32 = value a b := by
  funext i
  rw [value_at]
  pointwise
  exact Finset.sum_congr rfl fun s _ => mul_comm (G := EReal) _ _

theorem frame_kernel : Cert.quiescent_Kernel14 := fun m ρ _ => Cert.Kernel14.Gen.frame m ρ

theorem frame_ideal : Cert.quiescent_Kernel14Ideal := fun m ρ _ => Cert.Kernel14Ideal.Gen.frame m ρ

theorem frame_reference : Cert.quiescent_Reference14Ideal := by
  intro m g _
  hlo_run
  · intro _; simp
  · exact sem_eq_zero_of_no_sems (sig := Cert.Reference14Ideal.sig) (by decide) _

theorem algebraic : Cert.algebraic_Kernel14Ideal_Reference14Ideal := by
  pair_intro
  · run_from Cert.Kernel14Ideal.Gen.run_main m g
  · hlo_run
    refine Eq.trans ?_ (result m c).symm
    exact reference_eq _ _

end Cert.Kernel14Ideal.Product

end
-- ==== Proof.Products.MixInput.lean ====
/- The gradient of the merged mixers (`d_mixed`; `d_t` is the same call): the value of the product and its claims. -/
module

public import proofs.«01_k».proof.Defs
public import proofs.«01_k».proof.Proof.Gen.Kernel15.Frame
public import proofs.«01_k».proof.Proof.Gen.Kernel15Ideal.Frame
public import proofs.«01_k».proof.Proof.Gen.Kernel15Ideal.Points
public import proofs.«01_k».proof.Proof.Gen.Reference15Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel15Ideal.Product

open Cert.Kernel15Ideal Cert.Kernel15Ideal.Gen

variable (m : (ℓ : Loc nD τ sig) → Buf (Elt Ideal) ℓ)

/-- What the call computes, entry by entry: the gradient of the merged mixers (`d_mixed`; `d_t` is the same call). -/
def value (a : FVec Ideal S16384x1024 .bf16) (b : FVec Ideal S1024x1024 .bf16) : FVec Ideal S16384x1024 .bf16 := fun i =>
  show EReal from ∑ s : Fin 1024, a (ix2 (i 0) s) * b (ix2 (i 1) s)

theorem value_at (a : FVec Ideal S16384x1024 .bf16) (b : FVec Ideal S1024x1024 .bf16) (i : S16384x1024.Idx) :
    value a b i = ∑ s : Fin 1024, a (ix2 (i 0) s) * b (ix2 (i 1) s) := rfl

/-- The blocks that a grid point reads and writes. -/
theorem index_at : ∀ t : Fin cfg0.N, win0_0.index t = ![t.val, 0]
    ∧ win0_1.index t = ![0, 0] ∧ win0_2.index t = ![t.val, 0] :=
  (by decide +kernel : ∀ t : Fin grid0.N, _)

/-- One point's product, at an entry. -/
theorem part_at (x : FVec Ideal S2048x1024 .bf16) (d : FVec Ideal S1024x1024 .bf16) (y : S2048x1024.Idx) :
    (k0_pay1 (F := Ideal) x d y : EReal) = ∑ k : Fin 1024, x (ix2 (y 0) k) * d (ix2 (y 1) k) := by
  pointwise [k0_pay1]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  rw [part_at, value_at]
  blk_point [iblk, V, index_at t]

/-- What the reference computes, of its two arguments, is the same. -/
theorem reference_eq (a : FVec Ideal Cert.Reference15Ideal.S16384x1024 .bf16) (b : FVec Ideal Cert.Reference15Ideal.S1024x1024 .bf16) :
    truncf .bf16 (Host.dotGeneral Cert.Reference15Ideal.dot_S16384x1024_S1024x1024_S16384x1024_1_1_0_0_n_n none (extf .f32 a Cert.Reference15Ideal.Gen.bitsLt_bf16_f32) (extf .f32 b Cert.Reference15Ideal.Gen.bitsLt_bf16_f32)) Cert.Reference15Ideal.Gen.bitsLt_bf16_f32 = value a b := by
  funext i
  rw [value_at]
  pointwise

theorem frame_kernel : Cert.quiescent_Kernel15 := fun m ρ _ => Cert.Kernel15.Gen.frame m ρ

theorem frame_ideal : Cert.quiescent_Kernel15Ideal := fun m ρ _ => Cert.Kernel15Ideal.Gen.frame m ρ

theorem frame_reference : Cert.quiescent_Reference15Ideal := by
  intro m g _
  hlo_run
  · intro _; simp
  · exact sem_eq_zero_of_no_sems (sig := Cert.Reference15Ideal.sig) (by decide) _

theorem algebraic : Cert.algebraic_Kernel15Ideal_Reference15Ideal := by
  pair_intro
  · run_from Cert.Kernel15Ideal.Gen.run_main m g
  · hlo_run
    refine Eq.trans ?_ (result m c).symm
    exact reference_eq _ _

end Cert.Kernel15Ideal.Product

end
-- ==== Proof.Products.DilatedOut.lean ====
/- The gradient of the dilated attention's output weight (`g_dil_out`): the value of the product and its claims. -/
module

public import proofs.«01_k».proof.Defs
public import proofs.«01_k».proof.Proof.Gen.Kernel16.Frame
public import proofs.«01_k».proof.Proof.Gen.Kernel16Ideal.Frame
public import proofs.«01_k».proof.Proof.Gen.Kernel16Ideal.Points
public import proofs.«01_k».proof.Proof.Gen.Reference16Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel16Ideal.Product

open Cert.Kernel16Ideal Cert.Kernel16Ideal.Gen

variable (m : (ℓ : Loc nD τ sig) → Buf (Elt Ideal) ℓ)

/-- What the call computes, entry by entry: the gradient of the dilated attention's output weight (`g_dil_out`). -/
def value (a : FVec Ideal S16384x1024 .bf16) (b : FVec Ideal S16384x512 .bf16) : FVec Ideal S1024x512 .bf16 := fun i =>
  show EReal from ∑ s : Fin 16384, a (ix2 s (i 0)) * b (ix2 s (i 1))

theorem value_at (a : FVec Ideal S16384x1024 .bf16) (b : FVec Ideal S16384x512 .bf16) (i : S1024x512.Idx) :
    value a b i = ∑ s : Fin 16384, a (ix2 s (i 0)) * b (ix2 s (i 1)) := rfl

/-- The blocks that a grid point reads and writes. -/
theorem index_at : ∀ t : Fin cfg0.N, win0_0.index t = ![t.val % 8, 0]
    ∧ win0_1.index t = ![t.val % 8, 0] ∧ win0_2.index t = ![0, 0] :=
  (by decide +kernel : ∀ t : Fin grid0.N, _)

/-- One point's product, at an entry. -/
theorem part_at (x : FVec Ideal S2048x1024 .bf16) (d : FVec Ideal S2048x512 .bf16) (y : S1024x512.Idx) :
    (k0_pay1 (F := Ideal) x d y : EReal) = ∑ k : Fin 2048, x (ix2 k (y 0)) * d (ix2 k (y 1)) := by
  pointwise [k0_pay1]

/-- A run's first point stores its product. -/
theorem first_at (x : FVec Ideal S2048x1024 .bf16) (d : FVec Ideal S2048x512 .bf16) (y : S1024x512.Idx) :
    (k0_pay2 (F := Ideal) x d y : EReal) = 0 + ∑ k : Fin 2048, x (ix2 k (y 0)) * d (ix2 k (y 1)) := by
  rw [zero_add, ← part_at]; pointwise [k0_pay2]

/-- Every other point adds its product. -/
theorem step_at (x : FVec Ideal S2048x1024 .bf16) (d : FVec Ideal S2048x512 .bf16) (acc : FVec Ideal S1024x512 .f32)
    (y : S1024x512.Idx) :
    (k0_pay3 (F := Ideal) x d acc y : EReal) = acc y + ∑ k : Fin 2048, x (ix2 k (y 0)) * d (ix2 k (y 1)) := by
  rw [← part_at]; pointwise [k0_pay3]

/-- What a run's last point stores is what it leaves in the accumulator. -/
theorem store_eq_acc (c : Dev nD) (t : Fin cfg0.N) (h : t.val % 8 = 7) (y : S1024x512.Idx) :
    (outsAt0 m c t.val t.isLt).1 y = (outsAt0 m c t.val t.isLt).2 y := by
  have hN := lt_of_lt_of_eq t.isLt (show cfg0.N = 8 from N_0)
  rw [outsAt0_C m c t (by omega) (by omega) h]; frame_out; pointwise [k0_pay4]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t hf y => ?_
  blk_simp
  have hl : t.val % 8 = 7 := (flush0_2 t).mp hf
  rw [after0_2, store_eq_acc m c t hl]
  rw [Pipeline.eq_sum_fin_of_reset_step_apply_of_flush (fun n h => (outsAt0 m c n h).2) 8 (fun _ => (0 : EReal)) _
    (fun t h j => by have hN := lt_of_lt_of_eq t.isLt (show cfg0.N = 8 from N_0); rw [outsAt0_A m c t h (by omega) (by omega)]; frame_out; rw [first_at])
    (fun t h j => by
      have hN := lt_of_lt_of_eq t.isLt (show cfg0.N = 8 from N_0)
      by_cases h2 : t.val % 8 = 7
      · rw [outsAt0_C m c t h (by omega) h2]; frame_out; rw [step_at]
        exact congrArg (· + _) (congrFun (Memref.IsWhole.read_unread (Memref.isWhole_whole cc0_scratch0) _) j)
      · rw [outsAt0_B m c t h (by omega) h2]; frame_out; rw [step_at]
        exact congrArg (· + _) (congrFun (Memref.IsWhole.read_unread (Memref.isWhole_whole cc0_scratch0) _) j))
    t hl _, zero_add]
  rw [value_at]
  refine Fin.sum_mul_add_congr fun s k hk => ?_
  blk_point [iblk, V, index_at t, index_at ⟨_, Pipeline.run_point_lt_of_flush t hl s⟩]

/-- What the reference computes, of its two arguments, is the same. -/
theorem reference_eq (a : FVec Ideal Cert.Reference16Ideal.S16384x1024 .bf16) (b : FVec Ideal Cert.Reference16Ideal.S16384x512 .bf16) :
    truncf .bf16 (transpose Cert.Reference16Ideal.S1024x512 [1, 0] (transpose Cert.Reference16Ideal.S512x1024 [1, 0] (Host.dotGeneral Cert.Reference16Ideal.dot_S16384x1024_S16384x512_S1024x512_0_0_1_1_n_n none (extf .f32 a Cert.Reference16Ideal.Gen.bitsLt_bf16_f32) (extf .f32 b Cert.Reference16Ideal.Gen.bitsLt_bf16_f32)) Cert.Reference16Ideal.Gen.transposes_S1024x512_S512x1024_1_0) Cert.Reference16Ideal.Gen.transposes_S512x1024_S1024x512_1_0) Cert.Reference16Ideal.Gen.bitsLt_bf16_f32 = value a b := by
  funext i
  rw [value_at]
  pointwise

theorem frame_kernel : Cert.quiescent_Kernel16 := fun m ρ _ => Cert.Kernel16.Gen.frame m ρ

theorem frame_ideal : Cert.quiescent_Kernel16Ideal := fun m ρ _ => Cert.Kernel16Ideal.Gen.frame m ρ

theorem frame_reference : Cert.quiescent_Reference16Ideal := by
  intro m g _
  hlo_run
  · intro _; simp
  · exact sem_eq_zero_of_no_sems (sig := Cert.Reference16Ideal.sig) (by decide) _

theorem algebraic : Cert.algebraic_Kernel16Ideal_Reference16Ideal := by
  pair_intro
  · run_from Cert.Kernel16Ideal.Gen.run_main m g
  · hlo_run
    refine Eq.trans ?_ (result m c).symm
    exact reference_eq _ _

end Cert.Kernel16Ideal.Product

end
-- ==== Proof.Products.DilatedOutInput.lean ====
/- The gradient of the dilated attention's output (`d_ya`): the value of the product and its claims. -/
module

public import proofs.«01_k».proof.Defs
public import proofs.«01_k».proof.Proof.Gen.Kernel17.Frame
public import proofs.«01_k».proof.Proof.Gen.Kernel17Ideal.Frame
public import proofs.«01_k».proof.Proof.Gen.Kernel17Ideal.Points
public import proofs.«01_k».proof.Proof.Gen.Reference17Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel17Ideal.Product

open Cert.Kernel17Ideal Cert.Kernel17Ideal.Gen

variable (m : (ℓ : Loc nD τ sig) → Buf (Elt Ideal) ℓ)

/-- What the call computes, entry by entry: the gradient of the dilated attention's output (`d_ya`). -/
def value (a : FVec Ideal S16384x1024 .bf16) (b : FVec Ideal S1024x512 .bf16) : FVec Ideal S16384x512 .f32 := fun i =>
  show EReal from ∑ s : Fin 1024, a (ix2 (i 0) s) * b (ix2 s (i 1))

theorem value_at (a : FVec Ideal S16384x1024 .bf16) (b : FVec Ideal S1024x512 .bf16) (i : S16384x512.Idx) :
    value a b i = ∑ s : Fin 1024, a (ix2 (i 0) s) * b (ix2 s (i 1)) := rfl

/-- The blocks that a grid point reads and writes. -/
theorem index_at : ∀ t : Fin cfg0.N, win0_0.index t = ![t.val, 0]
    ∧ win0_1.index t = ![0, 0] ∧ win0_2.index t = ![t.val, 0] :=
  (by decide +kernel : ∀ t : Fin grid0.N, _)

/-- One point's product, at an entry. -/
theorem part_at (x : FVec Ideal S2048x1024 .bf16) (d : FVec Ideal S1024x512 .bf16) (y : S2048x512.Idx) :
    (k0_pay1 (F := Ideal) x d y : EReal) = ∑ k : Fin 1024, x (ix2 (y 0) k) * d (ix2 k (y 1)) := by
  pointwise [k0_pay1]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  rw [part_at, value_at]
  blk_point [iblk, V, index_at t]

/-- What the reference computes, of its two arguments, is the same. -/
theorem reference_eq (a : FVec Ideal Cert.Reference17Ideal.S16384x1024 .bf16) (b : FVec Ideal Cert.Reference17Ideal.S1024x512 .bf16) :
    Host.dotGeneral Cert.Reference17Ideal.dot_S16384x1024_S512x1024_S16384x512_1_1_0_0_n_n none (extf .f32 a Cert.Reference17Ideal.Gen.bitsLt_bf16_f32) (transpose Cert.Reference17Ideal.S512x1024 [1, 0] (extf .f32 b Cert.Reference17Ideal.Gen.bitsLt_bf16_f32) Cert.Reference17Ideal.Gen.transposes_S1024x512_S512x1024_1_0) = value a b := by
  funext i
  rw [value_at]
  pointwise

theorem frame_kernel : Cert.quiescent_Kernel17 := fun m ρ _ => Cert.Kernel17.Gen.frame m ρ

theorem frame_ideal : Cert.quiescent_Kernel17Ideal := fun m ρ _ => Cert.Kernel17Ideal.Gen.frame m ρ

theorem frame_reference : Cert.quiescent_Reference17Ideal := by
  intro m g _
  hlo_run
  · intro _; simp
  · exact sem_eq_zero_of_no_sems (sig := Cert.Reference17Ideal.sig) (by decide) _

theorem algebraic : Cert.algebraic_Kernel17Ideal_Reference17Ideal := by
  pair_intro
  · run_from Cert.Kernel17Ideal.Gen.run_main m g
  · hlo_run
    refine Eq.trans ?_ (result m c).symm
    exact reference_eq _ _

end Cert.Kernel17Ideal.Product

end
-- ==== Proof.Products.Embedding.lean ====
/- The gradient of the per-layer embedding's weight (`g_ple_in`): the value of the product and its claims. -/
module

public import proofs.«01_k».proof.Defs
public import proofs.«01_k».proof.Proof.Gen.Kernel18.Frame
public import proofs.«01_k».proof.Proof.Gen.Kernel18Ideal.Frame
public import proofs.«01_k».proof.Proof.Gen.Kernel18Ideal.Points
public import proofs.«01_k».proof.Proof.Gen.Reference18Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel18Ideal.Product

open Cert.Kernel18Ideal Cert.Kernel18Ideal.Gen

variable (m : (ℓ : Loc nD τ sig) → Buf (Elt Ideal) ℓ)

/-- What the call computes, entry by entry: the gradient of the per-layer embedding's weight (`g_ple_in`). -/
def value (a : FVec Ideal S16384x1024 .bf16) (b : FVec Ideal S16384x256 .bf16) : FVec Ideal S1024x256 .bf16 := fun i =>
  show EReal from ∑ s : Fin 16384, a (ix2 s (i 0)) * b (ix2 s (i 1))

theorem value_at (a : FVec Ideal S16384x1024 .bf16) (b : FVec Ideal S16384x256 .bf16) (i : S1024x256.Idx) :
    value a b i = ∑ s : Fin 16384, a (ix2 s (i 0)) * b (ix2 s (i 1)) := rfl

/-- The blocks that a grid point reads and writes. -/
theorem index_at : ∀ t : Fin cfg0.N, win0_0.index t = ![t.val % 8, 0]
    ∧ win0_1.index t = ![t.val % 8, 0] ∧ win0_2.index t = ![0, 0] :=
  (by decide +kernel : ∀ t : Fin grid0.N, _)

/-- One point's product, at an entry. -/
theorem part_at (x : FVec Ideal S2048x1024 .bf16) (d : FVec Ideal S2048x256 .bf16) (y : S1024x256.Idx) :
    (k0_pay1 (F := Ideal) x d y : EReal) = ∑ k : Fin 2048, x (ix2 k (y 0)) * d (ix2 k (y 1)) := by
  pointwise [k0_pay1]

/-- A run's first point stores its product. -/
theorem first_at (x : FVec Ideal S2048x1024 .bf16) (d : FVec Ideal S2048x256 .bf16) (y : S1024x256.Idx) :
    (k0_pay2 (F := Ideal) x d y : EReal) = 0 + ∑ k : Fin 2048, x (ix2 k (y 0)) * d (ix2 k (y 1)) := by
  rw [zero_add, ← part_at]; pointwise [k0_pay2]

/-- Every other point adds its product. -/
theorem step_at (x : FVec Ideal S2048x1024 .bf16) (d : FVec Ideal S2048x256 .bf16) (acc : FVec Ideal S1024x256 .f32)
    (y : S1024x256.Idx) :
    (k0_pay3 (F := Ideal) x d acc y : EReal) = acc y + ∑ k : Fin 2048, x (ix2 k (y 0)) * d (ix2 k (y 1)) := by
  rw [← part_at]; pointwise [k0_pay3]

/-- What a run's last point stores is what it leaves in the accumulator. -/
theorem store_eq_acc (c : Dev nD) (t : Fin cfg0.N) (h : t.val % 8 = 7) (y : S1024x256.Idx) :
    (outsAt0 m c t.val t.isLt).1 y = (outsAt0 m c t.val t.isLt).2 y := by
  have hN := lt_of_lt_of_eq t.isLt (show cfg0.N = 8 from N_0)
  rw [outsAt0_C m c t (by omega) (by omega) h]; frame_out; pointwise [k0_pay4]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t hf y => ?_
  blk_simp
  have hl : t.val % 8 = 7 := (flush0_2 t).mp hf
  rw [after0_2, store_eq_acc m c t hl]
  rw [Pipeline.eq_sum_fin_of_reset_step_apply_of_flush (fun n h => (outsAt0 m c n h).2) 8 (fun _ => (0 : EReal)) _
    (fun t h j => by have hN := lt_of_lt_of_eq t.isLt (show cfg0.N = 8 from N_0); rw [outsAt0_A m c t h (by omega) (by omega)]; frame_out; rw [first_at])
    (fun t h j => by
      have hN := lt_of_lt_of_eq t.isLt (show cfg0.N = 8 from N_0)
      by_cases h2 : t.val % 8 = 7
      · rw [outsAt0_C m c t h (by omega) h2]; frame_out; rw [step_at]
        exact congrArg (· + _) (congrFun (Memref.IsWhole.read_unread (Memref.isWhole_whole cc0_scratch0) _) j)
      · rw [outsAt0_B m c t h (by omega) h2]; frame_out; rw [step_at]
        exact congrArg (· + _) (congrFun (Memref.IsWhole.read_unread (Memref.isWhole_whole cc0_scratch0) _) j))
    t hl _, zero_add]
  rw [value_at]
  refine Fin.sum_mul_add_congr fun s k hk => ?_
  blk_point [iblk, V, index_at t, index_at ⟨_, Pipeline.run_point_lt_of_flush t hl s⟩]

/-- What the reference computes, of its two arguments, is the same. -/
theorem reference_eq (a : FVec Ideal Cert.Reference18Ideal.S16384x1024 .bf16) (b : FVec Ideal Cert.Reference18Ideal.S16384x256 .bf16) :
    truncf .bf16 (transpose Cert.Reference18Ideal.S1024x256 [1, 0] (transpose Cert.Reference18Ideal.S256x1024 [1, 0] (Host.dotGeneral Cert.Reference18Ideal.dot_S16384x1024_S16384x256_S1024x256_0_0_1_1_n_n none (extf .f32 a Cert.Reference18Ideal.Gen.bitsLt_bf16_f32) (extf .f32 b Cert.Reference18Ideal.Gen.bitsLt_bf16_f32)) Cert.Reference18Ideal.Gen.transposes_S1024x256_S256x1024_1_0) Cert.Reference18Ideal.Gen.transposes_S256x1024_S1024x256_1_0) Cert.Reference18Ideal.Gen.bitsLt_bf16_f32 = value a b := by
  funext i
  rw [value_at]
  pointwise

theorem frame_kernel : Cert.quiescent_Kernel18 := fun m ρ _ => Cert.Kernel18.Gen.frame m ρ

theorem frame_ideal : Cert.quiescent_Kernel18Ideal := fun m ρ _ => Cert.Kernel18Ideal.Gen.frame m ρ

theorem frame_reference : Cert.quiescent_Reference18Ideal := by
  intro m g _
  hlo_run
  · intro _; simp
  · exact sem_eq_zero_of_no_sems (sig := Cert.Reference18Ideal.sig) (by decide) _

theorem algebraic : Cert.algebraic_Kernel18Ideal_Reference18Ideal := by
  pair_intro
  · run_from Cert.Kernel18Ideal.Gen.run_main m g
  · hlo_run
    refine Eq.trans ?_ (result m c).symm
    exact reference_eq _ _

end Cert.Kernel18Ideal.Product

end
-- ==== Proof.Products.RetentionForward.lean ====
/- The retention's input projection (`inproj_ret`): the value of the product and its claims. -/
module

public import proofs.«01_k».proof.Defs
public import proofs.«01_k».proof.Proof.Gen.Kernel19.Frame
public import proofs.«01_k».proof.Proof.Gen.Kernel19Ideal.Frame
public import proofs.«01_k».proof.Proof.Gen.Kernel19Ideal.Points
public import proofs.«01_k».proof.Proof.Gen.Reference19Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel19Ideal.Product

open Cert.Kernel19Ideal Cert.Kernel19Ideal.Gen

variable (m : (ℓ : Loc nD τ sig) → Buf (Elt Ideal) ℓ)

/-- What the call computes, entry by entry: the retention's input projection (`inproj_ret`). -/
def value (a : FVec Ideal S16384x1024 .bf16) (b : FVec Ideal S6144x1024 .bf16) : FVec Ideal S16384x6144 .bf16 := fun i =>
  show EReal from ∑ s : Fin 1024, a (ix2 (i 0) s) * b (ix2 (i 1) s)

theorem value_at (a : FVec Ideal S16384x1024 .bf16) (b : FVec Ideal S6144x1024 .bf16) (i : S16384x6144.Idx) :
    value a b i = ∑ s : Fin 1024, a (ix2 (i 0) s) * b (ix2 (i 1) s) := rfl

/-- The blocks that a grid point reads and writes. -/
theorem index_at : ∀ t : Fin cfg0.N, win0_0.index t = ![t.val / 3, 0]
    ∧ win0_1.index t = ![t.val % 3, 0] ∧ win0_2.index t = ![t.val / 3, t.val % 3] :=
  (by decide +kernel : ∀ t : Fin grid0.N, _)

/-- One point's product, at an entry. -/
theorem part_at (x : FVec Ideal S2048x1024 .bf16) (d : FVec Ideal S2048x1024 .bf16) (y : S2048x2048.Idx) :
    (k0_pay1 (F := Ideal) x d y : EReal) = ∑ k : Fin 1024, x (ix2 (y 0) k) * d (ix2 (y 1) k) := by
  pointwise [k0_pay1]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  rw [part_at, value_at]
  blk_point [iblk, V, index_at t]

/-- What the reference computes, of its two arguments, is the same. -/
theorem reference_eq (a : FVec Ideal Cert.Reference19Ideal.S16384x1024 .bf16) (b : FVec Ideal Cert.Reference19Ideal.S6144x1024 .bf16) :
    truncf .bf16 (Host.dotGeneral Cert.Reference19Ideal.dot_S16384x1024_S1024x6144_S16384x6144_1_0_0_1_n_n none (extf .f32 a Cert.Reference19Ideal.Gen.bitsLt_bf16_f32) (transpose Cert.Reference19Ideal.S1024x6144 [1, 0] (extf .f32 b Cert.Reference19Ideal.Gen.bitsLt_bf16_f32) Cert.Reference19Ideal.Gen.transposes_S6144x1024_S1024x6144_1_0)) Cert.Reference19Ideal.Gen.bitsLt_bf16_f32 = value a b := by
  funext i
  rw [value_at]
  pointwise

theorem frame_kernel : Cert.quiescent_Kernel19 := fun m ρ _ => Cert.Kernel19.Gen.frame m ρ

theorem frame_ideal : Cert.quiescent_Kernel19Ideal := fun m ρ _ => Cert.Kernel19Ideal.Gen.frame m ρ

theorem frame_reference : Cert.quiescent_Reference19Ideal := by
  intro m g _
  hlo_run
  · intro _; simp
  · exact sem_eq_zero_of_no_sems (sig := Cert.Reference19Ideal.sig) (by decide) _

theorem algebraic : Cert.algebraic_Kernel19Ideal_Reference19Ideal := by
  pair_intro
  · run_from Cert.Kernel19Ideal.Gen.run_main m g
  · hlo_run
    refine Eq.trans ?_ (result m c).symm
    exact reference_eq _ _

end Cert.Kernel19Ideal.Product

end
-- ==== Proof.Products.UpForward.lean ====
/- The channel mixer's first product (`mlp_up`): the value of the product and its claims. -/
module

public import proofs.«01_k».proof.Defs
public import proofs.«01_k».proof.Proof.Gen.Kernel20.Frame
public import proofs.«01_k».proof.Proof.Gen.Kernel20Ideal.Frame
public import proofs.«01_k».proof.Proof.Gen.Kernel20Ideal.Points
public import proofs.«01_k».proof.Proof.Gen.Reference20Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel20Ideal.Product

open Cert.Kernel20Ideal Cert.Kernel20Ideal.Gen

variable (m : (ℓ : Loc nD τ sig) → Buf (Elt Ideal) ℓ)

/-- What the call computes, entry by entry: the channel mixer's first product (`mlp_up`). -/
def value (a : FVec Ideal S16384x1024 .bf16) (b : FVec Ideal S4096x1024 .bf16) : FVec Ideal S16384x4096 .bf16 := fun i =>
  show EReal from ∑ s : Fin 1024, a (ix2 (i 0) s) * b (ix2 (i 1) s)

theorem value_at (a : FVec Ideal S16384x1024 .bf16) (b : FVec Ideal S4096x1024 .bf16) (i : S16384x4096.Idx) :
    value a b i = ∑ s : Fin 1024, a (ix2 (i 0) s) * b (ix2 (i 1) s) := rfl

/-- The blocks that a grid point reads and writes. -/
theorem index_at : ∀ t : Fin cfg0.N, win0_0.index t = ![t.val / 2, 0]
    ∧ win0_1.index t = ![t.val % 2, 0] ∧ win0_2.index t = ![t.val / 2, t.val % 2] :=
  (by decide +kernel : ∀ t : Fin grid0.N, _)

/-- One point's product, at an entry. -/
theorem part_at (x : FVec Ideal S2048x1024 .bf16) (d : FVec Ideal S2048x1024 .bf16) (y : S2048x2048.Idx) :
    (k0_pay1 (F := Ideal) x d y : EReal) = ∑ k : Fin 1024, x (ix2 (y 0) k) * d (ix2 (y 1) k) := by
  pointwise [k0_pay1]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  rw [part_at, value_at]
  blk_point [iblk, V, index_at t]

/-- What the reference computes, of its two arguments, is the same. -/
theorem reference_eq (a : FVec Ideal Cert.Reference20Ideal.S16384x1024 .bf16) (b : FVec Ideal Cert.Reference20Ideal.S4096x1024 .bf16) :
    truncf .bf16 (Host.dotGeneral Cert.Reference20Ideal.dot_S16384x1024_S1024x4096_S16384x4096_1_0_0_1_n_n none (extf .f32 a Cert.Reference20Ideal.Gen.bitsLt_bf16_f32) (transpose Cert.Reference20Ideal.S1024x4096 [1, 0] (extf .f32 b Cert.Reference20Ideal.Gen.bitsLt_bf16_f32) Cert.Reference20Ideal.Gen.transposes_S4096x1024_S1024x4096_1_0)) Cert.Reference20Ideal.Gen.bitsLt_bf16_f32 = value a b := by
  funext i
  rw [value_at]
  pointwise

theorem frame_kernel : Cert.quiescent_Kernel20 := fun m ρ _ => Cert.Kernel20.Gen.frame m ρ

theorem frame_ideal : Cert.quiescent_Kernel20Ideal := fun m ρ _ => Cert.Kernel20Ideal.Gen.frame m ρ

theorem frame_reference : Cert.quiescent_Reference20Ideal := by
  intro m g _
  hlo_run
  · intro _; simp
  · exact sem_eq_zero_of_no_sems (sig := Cert.Reference20Ideal.sig) (by decide) _

theorem algebraic : Cert.algebraic_Kernel20Ideal_Reference20Ideal := by
  pair_intro
  · run_from Cert.Kernel20Ideal.Gen.run_main m g
  · hlo_run
    refine Eq.trans ?_ (result m c).symm
    exact reference_eq _ _

end Cert.Kernel20Ideal.Product

end
-- ==== Proof.Products.DownForward.lean ====
/- The channel mixer's second product (`mlp_down`): the value of the product and its claims. -/
module

public import proofs.«01_k».proof.Defs
public import proofs.«01_k».proof.Proof.Gen.Kernel21.Frame
public import proofs.«01_k».proof.Proof.Gen.Kernel21Ideal.Frame
public import proofs.«01_k».proof.Proof.Gen.Kernel21Ideal.Points
public import proofs.«01_k».proof.Proof.Gen.Reference21Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel21Ideal.Product

open Cert.Kernel21Ideal Cert.Kernel21Ideal.Gen

variable (m : (ℓ : Loc nD τ sig) → Buf (Elt Ideal) ℓ)

/-- What the call computes, entry by entry: the channel mixer's second product (`mlp_down`). -/
def value (a : FVec Ideal S16384x4096 .bf16) (b : FVec Ideal S4096x1024 .bf16) : FVec Ideal S16384x1024 .bf16 := fun i =>
  show EReal from ∑ s : Fin 4096, (max (a (ix2 (i 0) s)) 0 * max (a (ix2 (i 0) s)) 0) * b (ix2 s (i 1))

theorem value_at (a : FVec Ideal S16384x4096 .bf16) (b : FVec Ideal S4096x1024 .bf16) (i : S16384x1024.Idx) :
    value a b i = ∑ s : Fin 4096, (max (a (ix2 (i 0) s)) 0 * max (a (ix2 (i 0) s)) 0) * b (ix2 s (i 1)) := rfl

/-- The blocks that a grid point reads and writes. -/
theorem index_at : ∀ t : Fin cfg0.N, win0_0.index t = ![t.val / 2, t.val % 2]
    ∧ win0_1.index t = ![t.val % 2, 0] ∧ win0_2.index t = ![t.val / 2, 0] :=
  (by decide +kernel : ∀ t : Fin grid0.N, _)

/-- One point's product, at an entry. -/
theorem part_at (x : FVec Ideal S2048x2048 .bf16) (d : FVec Ideal S2048x1024 .bf16) (y : S2048x1024.Idx) :
    (k0_pay1 (F := Ideal) x d y : EReal) = ∑ k : Fin 2048, (max (x (ix2 (y 0) k)) 0 * max (x (ix2 (y 0) k)) 0) * d (ix2 k (y 1)) := by
  pointwise [k0_pay1]

/-- A run's first point stores its product. -/
theorem first_at (x : FVec Ideal S2048x2048 .bf16) (d : FVec Ideal S2048x1024 .bf16) (y : S2048x1024.Idx) :
    (k0_pay2 (F := Ideal) x d y : EReal) = 0 + ∑ k : Fin 2048, (max (x (ix2 (y 0) k)) 0 * max (x (ix2 (y 0) k)) 0) * d (ix2 k (y 1)) := by
  rw [zero_add, ← part_at]; pointwise [k0_pay2]

/-- Every other point adds its product. -/
theorem step_at (x : FVec Ideal S2048x2048 .bf16) (d : FVec Ideal S2048x1024 .bf16) (acc : FVec Ideal S2048x1024 .f32)
    (y : S2048x1024.Idx) :
    (k0_pay3 (F := Ideal) x d acc y : EReal) = acc y + ∑ k : Fin 2048, (max (x (ix2 (y 0) k)) 0 * max (x (ix2 (y 0) k)) 0) * d (ix2 k (y 1)) := by
  rw [← part_at]; pointwise [k0_pay3]

/-- What a run's last point stores is what it leaves in the accumulator. -/
theorem store_eq_acc (c : Dev nD) (t : Fin cfg0.N) (h : t.val % 2 = 1) (y : S2048x1024.Idx) :
    (outsAt0 m c t.val t.isLt).1 y = (outsAt0 m c t.val t.isLt).2 y := by
  rw [outsAt0_B m c t (by omega) h h]; frame_out; pointwise [k0_pay4]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t hf y => ?_
  blk_simp
  have hl : t.val % 2 = 1 := (flush0_2 t).mp hf
  rw [after0_2, store_eq_acc m c t hl]
  rw [Pipeline.eq_sum_fin_of_reset_step_apply_of_flush (fun n h => (outsAt0 m c n h).2) 2 (fun _ => (0 : EReal)) _
    (fun t h j => by rw [outsAt0_A m c t h (by omega) (by omega)]; frame_out; rw [first_at])
    (fun t h j => by
      rw [outsAt0_B m c t h (by omega) (by omega)]; frame_out; rw [step_at]
      exact congrArg (· + _) (congrFun (Memref.IsWhole.read_unread (Memref.isWhole_whole cc0_scratch0) _) j))
    t hl _, zero_add]
  rw [value_at]
  refine Fin.sum_mul_add_congr fun s k hk => ?_
  blk_point [iblk, V, index_at t, index_at ⟨_, Pipeline.run_point_lt_of_flush t hl s⟩]

/-- What the reference computes, of its two arguments, is the same. -/
theorem reference_eq (a : FVec Ideal Cert.Reference21Ideal.S16384x4096 .bf16) (b : FVec Ideal Cert.Reference21Ideal.S4096x1024 .bf16) :
    truncf .bf16 (Host.dotGeneral Cert.Reference21Ideal.dot_S16384x4096_S4096x1024_S16384x1024_1_0_0_1_n_n none (mulf (maximumf (extf .f32 a Cert.Reference21Ideal.Gen.bitsLt_bf16_f32) (broadcastInDim Cert.Reference21Ideal.S16384x4096 ![] Cert.Reference21Ideal.Gen.bcast_S_S16384x4096 (constant Cert.Reference21Ideal.S_ .f32 0x00000000#32))) (maximumf (extf .f32 a Cert.Reference21Ideal.Gen.bitsLt_bf16_f32) (broadcastInDim Cert.Reference21Ideal.S16384x4096 ![] Cert.Reference21Ideal.Gen.bcast_S_S16384x4096 (constant Cert.Reference21Ideal.S_ .f32 0x00000000#32)))) (extf .f32 b Cert.Reference21Ideal.Gen.bitsLt_bf16_f32)) Cert.Reference21Ideal.Gen.bitsLt_bf16_f32 = value a b := by
  funext i
  rw [value_at]
  pointwise

theorem frame_kernel : Cert.quiescent_Kernel21 := fun m ρ _ => Cert.Kernel21.Gen.frame m ρ

theorem frame_ideal : Cert.quiescent_Kernel21Ideal := fun m ρ _ => Cert.Kernel21Ideal.Gen.frame m ρ

theorem frame_reference : Cert.quiescent_Reference21Ideal := by
  intro m g _
  hlo_run
  · intro _; simp
  · exact sem_eq_zero_of_no_sems (sig := Cert.Reference21Ideal.sig) (by decide) _

theorem algebraic : Cert.algebraic_Kernel21Ideal_Reference21Ideal := by
  pair_intro
  · run_from Cert.Kernel21Ideal.Gen.run_main m g
  · hlo_run
    refine Eq.trans ?_ (result m c).symm
    exact reference_eq _ _

end Cert.Kernel21Ideal.Product

end
-- ==== Proof.Products.GateForward.lean ====
/- The gates' input projection (`inproj_gate`): the value of the product and its claims. -/
module

public import proofs.«01_k».proof.Defs
public import proofs.«01_k».proof.Proof.Gen.Kernel22.Frame
public import proofs.«01_k».proof.Proof.Gen.Kernel22Ideal.Frame
public import proofs.«01_k».proof.Proof.Gen.Kernel22Ideal.Points
public import proofs.«01_k».proof.Proof.Gen.Reference22Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel22Ideal.Product

open Cert.Kernel22Ideal Cert.Kernel22Ideal.Gen

variable (m : (ℓ : Loc nD τ sig) → Buf (Elt Ideal) ℓ)

/-- What the call computes, entry by entry: the gates' input projection (`inproj_gate`). -/
def value (a : FVec Ideal S16384x1024 .bf16) (b : FVec Ideal S2048x1024 .bf16) : FVec Ideal S16384x2048 .bf16 := fun i =>
  show EReal from ∑ s : Fin 1024, a (ix2 (i 0) s) * b (ix2 (i 1) s)

theorem value_at (a : FVec Ideal S16384x1024 .bf16) (b : FVec Ideal S2048x1024 .bf16) (i : S16384x2048.Idx) :
    value a b i = ∑ s : Fin 1024, a (ix2 (i 0) s) * b (ix2 (i 1) s) := rfl

/-- The blocks that a grid point reads and writes. -/
theorem index_at : ∀ t : Fin cfg0.N, win0_0.index t = ![t.val, 0]
    ∧ win0_1.index t = ![0, 0] ∧ win0_2.index t = ![t.val, 0] :=
  (by decide +kernel : ∀ t : Fin grid0.N, _)

/-- One point's product, at an entry. -/
theorem part_at (x : FVec Ideal S2048x1024 .bf16) (d : FVec Ideal S2048x1024 .bf16) (y : S2048x2048.Idx) :
    (k0_pay1 (F := Ideal) x d y : EReal) = ∑ k : Fin 1024, x (ix2 (y 0) k) * d (ix2 (y 1) k) := by
  pointwise [k0_pay1]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  rw [part_at, value_at]
  blk_point [iblk, V, index_at t]

/-- What the reference computes, of its two arguments, is the same. -/
theorem reference_eq (a : FVec Ideal Cert.Reference22Ideal.S16384x1024 .bf16) (b : FVec Ideal Cert.Reference22Ideal.S2048x1024 .bf16) :
    truncf .bf16 (Host.dotGeneral Cert.Reference22Ideal.dot_S16384x1024_S1024x2048_S16384x2048_1_0_0_1_n_n none (extf .f32 a Cert.Reference22Ideal.Gen.bitsLt_bf16_f32) (transpose Cert.Reference22Ideal.S1024x2048 [1, 0] (extf .f32 b Cert.Reference22Ideal.Gen.bitsLt_bf16_f32) Cert.Reference22Ideal.Gen.transposes_S2048x1024_S1024x2048_1_0)) Cert.Reference22Ideal.Gen.bitsLt_bf16_f32 = value a b := by
  funext i
  rw [value_at]
  pointwise

theorem frame_kernel : Cert.quiescent_Kernel22 := fun m ρ _ => Cert.Kernel22.Gen.frame m ρ

theorem frame_ideal : Cert.quiescent_Kernel22Ideal := fun m ρ _ => Cert.Kernel22Ideal.Gen.frame m ρ

theorem frame_reference : Cert.quiescent_Reference22Ideal := by
  intro m g _
  hlo_run
  · intro _; simp
  · exact sem_eq_zero_of_no_sems (sig := Cert.Reference22Ideal.sig) (by decide) _

theorem algebraic : Cert.algebraic_Kernel22Ideal_Reference22Ideal := by
  pair_intro
  · run_from Cert.Kernel22Ideal.Gen.run_main m g
  · hlo_run
    refine Eq.trans ?_ (result m c).symm
    exact reference_eq _ _

end Cert.Kernel22Ideal.Product

end
-- ==== Proof.Products.RetentionOutForward.lean ====
/- The retention's output projection (`ret_out`): the value of the product and its claims. -/
module

public import proofs.«01_k».proof.Defs
public import proofs.«01_k».proof.Proof.Gen.Kernel23.Frame
public import proofs.«01_k».proof.Proof.Gen.Kernel23Ideal.Frame
public import proofs.«01_k».proof.Proof.Gen.Kernel23Ideal.Points
public import proofs.«01_k».proof.Proof.Gen.Reference23Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel23Ideal.Product

open Cert.Kernel23Ideal Cert.Kernel23Ideal.Gen

variable (m : (ℓ : Loc nD τ sig) → Buf (Elt Ideal) ℓ)

/-- What the call computes, entry by entry: the retention's output projection (`ret_out`). -/
def value (a : FVec Ideal S16384x2048 .bf16) (b : FVec Ideal S2048x1024 .bf16) : FVec Ideal S16384x1024 .bf16 := fun i =>
  show EReal from ∑ s : Fin 2048, a (ix2 (i 0) s) * b (ix2 s (i 1))

theorem value_at (a : FVec Ideal S16384x2048 .bf16) (b : FVec Ideal S2048x1024 .bf16) (i : S16384x1024.Idx) :
    value a b i = ∑ s : Fin 2048, a (ix2 (i 0) s) * b (ix2 s (i 1)) := rfl

/-- The blocks that a grid point reads and writes. -/
theorem index_at : ∀ t : Fin cfg0.N, win0_0.index t = ![t.val, 0]
    ∧ win0_1.index t = ![0, 0] ∧ win0_2.index t = ![t.val, 0] :=
  (by decide +kernel : ∀ t : Fin grid0.N, _)

/-- One point's product, at an entry. -/
theorem part_at (x : FVec Ideal S2048x2048 .bf16) (d : FVec Ideal S2048x1024 .bf16) (y : S2048x1024.Idx) :
    (k0_pay1 (F := Ideal) x d y : EReal) = ∑ k : Fin 2048, x (ix2 (y 0) k) * d (ix2 k (y 1)) := by
  pointwise [k0_pay1]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  rw [part_at, value_at]
  blk_point [iblk, V, index_at t]

/-- What the reference computes, of its two arguments, is the same. -/
theorem reference_eq (a : FVec Ideal Cert.Reference23Ideal.S16384x2048 .bf16) (b : FVec Ideal Cert.Reference23Ideal.S2048x1024 .bf16) :
    truncf .bf16 (Host.dotGeneral Cert.Reference23Ideal.dot_S16384x2048_S2048x1024_S16384x1024_1_0_0_1_n_n none (extf .f32 a Cert.Reference23Ideal.Gen.bitsLt_bf16_f32) (extf .f32 b Cert.Reference23Ideal.Gen.bitsLt_bf16_f32)) Cert.Reference23Ideal.Gen.bitsLt_bf16_f32 = value a b := by
  funext i
  rw [value_at]
  pointwise

theorem frame_kernel : Cert.quiescent_Kernel23 := fun m ρ _ => Cert.Kernel23.Gen.frame m ρ

theorem frame_ideal : Cert.quiescent_Kernel23Ideal := fun m ρ _ => Cert.Kernel23Ideal.Gen.frame m ρ

theorem frame_reference : Cert.quiescent_Reference23Ideal := by
  intro m g _
  hlo_run
  · intro _; simp
  · exact sem_eq_zero_of_no_sems (sig := Cert.Reference23Ideal.sig) (by decide) _

theorem algebraic : Cert.algebraic_Kernel23Ideal_Reference23Ideal := by
  pair_intro
  · run_from Cert.Kernel23Ideal.Gen.run_main m g
  · hlo_run
    refine Eq.trans ?_ (result m c).symm
    exact reference_eq _ _

end Cert.Kernel23Ideal.Product

end
-- ==== Proof.Products.MixForward.lean ====
/- The mixers' output projection (`w_o`; `ple_gate` is the same call): the value of the product and its claims. -/
module

public import proofs.«01_k».proof.Defs
public import proofs.«01_k».proof.Proof.Gen.Kernel24.Frame
public import proofs.«01_k».proof.Proof.Gen.Kernel24Ideal.Frame
public import proofs.«01_k».proof.Proof.Gen.Kernel24Ideal.Points
public import proofs.«01_k».proof.Proof.Gen.Reference24Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel24Ideal.Product

open Cert.Kernel24Ideal Cert.Kernel24Ideal.Gen

variable (m : (ℓ : Loc nD τ sig) → Buf (Elt Ideal) ℓ)

/-- What the call computes, entry by entry: the mixers' output projection (`w_o`; `ple_gate` is the same call). -/
def value (a : FVec Ideal S16384x1024 .bf16) (b : FVec Ideal S1024x1024 .bf16) : FVec Ideal S16384x1024 .bf16 := fun i =>
  show EReal from ∑ s : Fin 1024, a (ix2 (i 0) s) * b (ix2 s (i 1))

theorem value_at (a : FVec Ideal S16384x1024 .bf16) (b : FVec Ideal S1024x1024 .bf16) (i : S16384x1024.Idx) :
    value a b i = ∑ s : Fin 1024, a (ix2 (i 0) s) * b (ix2 s (i 1)) := rfl

/-- The blocks that a grid point reads and writes. -/
theorem index_at : ∀ t : Fin cfg0.N, win0_0.index t = ![t.val, 0]
    ∧ win0_1.index t = ![0, 0] ∧ win0_2.index t = ![t.val, 0] :=
  (by decide +kernel : ∀ t : Fin grid0.N, _)

/-- One point's product, at an entry. -/
theorem part_at (x : FVec Ideal S2048x1024 .bf16) (d : FVec Ideal S1024x1024 .bf16) (y : S2048x1024.Idx) :
    (k0_pay1 (F := Ideal) x d y : EReal) = ∑ k : Fin 1024, x (ix2 (y 0) k) * d (ix2 k (y 1)) := by
  pointwise [k0_pay1]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  rw [part_at, value_at]
  blk_point [iblk, V, index_at t]

/-- What the reference computes, of its two arguments, is the same. -/
theorem reference_eq (a : FVec Ideal Cert.Reference24Ideal.S16384x1024 .bf16) (b : FVec Ideal Cert.Reference24Ideal.S1024x1024 .bf16) :
    truncf .bf16 (Host.dotGeneral Cert.Reference24Ideal.dot_S16384x1024_S1024x1024_S16384x1024_1_0_0_1_n_n none (extf .f32 a Cert.Reference24Ideal.Gen.bitsLt_bf16_f32) (extf .f32 b Cert.Reference24Ideal.Gen.bitsLt_bf16_f32)) Cert.Reference24Ideal.Gen.bitsLt_bf16_f32 = value a b := by
  funext i
  rw [value_at]
  pointwise

theorem frame_kernel : Cert.quiescent_Kernel24 := fun m ρ _ => Cert.Kernel24.Gen.frame m ρ

theorem frame_ideal : Cert.quiescent_Kernel24Ideal := fun m ρ _ => Cert.Kernel24Ideal.Gen.frame m ρ

theorem frame_reference : Cert.quiescent_Reference24Ideal := by
  intro m g _
  hlo_run
  · intro _; simp
  · exact sem_eq_zero_of_no_sems (sig := Cert.Reference24Ideal.sig) (by decide) _

theorem algebraic : Cert.algebraic_Kernel24Ideal_Reference24Ideal := by
  pair_intro
  · run_from Cert.Kernel24Ideal.Gen.run_main m g
  · hlo_run
    refine Eq.trans ?_ (result m c).symm
    exact reference_eq _ _

end Cert.Kernel24Ideal.Product

end
-- ==== Proof.Products.DilatedOutForward.lean ====
/- The dilated attention's output projection (`dil_out`): the value of the product and its claims. -/
module

public import proofs.«01_k».proof.Defs
public import proofs.«01_k».proof.Proof.Gen.Kernel25.Frame
public import proofs.«01_k».proof.Proof.Gen.Kernel25Ideal.Frame
public import proofs.«01_k».proof.Proof.Gen.Kernel25Ideal.Points
public import proofs.«01_k».proof.Proof.Gen.Reference25Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel25Ideal.Product

open Cert.Kernel25Ideal Cert.Kernel25Ideal.Gen

variable (m : (ℓ : Loc nD τ sig) → Buf (Elt Ideal) ℓ)

/-- What the call computes, entry by entry: the dilated attention's output projection (`dil_out`). -/
def value (a : FVec Ideal S16384x512 .bf16) (b : FVec Ideal S1024x512 .bf16) : FVec Ideal S16384x1024 .bf16 := fun i =>
  show EReal from ∑ s : Fin 512, a (ix2 (i 0) s) * b (ix2 (i 1) s)

theorem value_at (a : FVec Ideal S16384x512 .bf16) (b : FVec Ideal S1024x512 .bf16) (i : S16384x1024.Idx) :
    value a b i = ∑ s : Fin 512, a (ix2 (i 0) s) * b (ix2 (i 1) s) := rfl

/-- The blocks that a grid point reads and writes. -/
theorem index_at : ∀ t : Fin cfg0.N, win0_0.index t = ![t.val, 0]
    ∧ win0_1.index t = ![0, 0] ∧ win0_2.index t = ![t.val, 0] :=
  (by decide +kernel : ∀ t : Fin grid0.N, _)

/-- One point's product, at an entry. -/
theorem part_at (x : FVec Ideal S2048x512 .bf16) (d : FVec Ideal S1024x512 .bf16) (y : S2048x1024.Idx) :
    (k0_pay1 (F := Ideal) x d y : EReal) = ∑ k : Fin 512, x (ix2 (y 0) k) * d (ix2 (y 1) k) := by
  pointwise [k0_pay1]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  rw [part_at, value_at]
  blk_point [iblk, V, index_at t]

/-- What the reference computes, of its two arguments, is the same. -/
theorem reference_eq (a : FVec Ideal Cert.Reference25Ideal.S16384x512 .bf16) (b : FVec Ideal Cert.Reference25Ideal.S1024x512 .bf16) :
    truncf .bf16 (Host.dotGeneral Cert.Reference25Ideal.dot_S16384x512_S512x1024_S16384x1024_1_0_0_1_n_n none (extf .f32 a Cert.Reference25Ideal.Gen.bitsLt_bf16_f32) (transpose Cert.Reference25Ideal.S512x1024 [1, 0] (extf .f32 b Cert.Reference25Ideal.Gen.bitsLt_bf16_f32) Cert.Reference25Ideal.Gen.transposes_S1024x512_S512x1024_1_0)) Cert.Reference25Ideal.Gen.bitsLt_bf16_f32 = value a b := by
  funext i
  rw [value_at]
  pointwise

theorem frame_kernel : Cert.quiescent_Kernel25 := fun m ρ _ => Cert.Kernel25.Gen.frame m ρ

theorem frame_ideal : Cert.quiescent_Kernel25Ideal := fun m ρ _ => Cert.Kernel25Ideal.Gen.frame m ρ

theorem frame_reference : Cert.quiescent_Reference25Ideal := by
  intro m g _
  hlo_run
  · intro _; simp
  · exact sem_eq_zero_of_no_sems (sig := Cert.Reference25Ideal.sig) (by decide) _

theorem algebraic : Cert.algebraic_Kernel25Ideal_Reference25Ideal := by
  pair_intro
  · run_from Cert.Kernel25Ideal.Gen.run_main m g
  · hlo_run
    refine Eq.trans ?_ (result m c).symm
    exact reference_eq _ _

end Cert.Kernel25Ideal.Product

end
-- ==== Proof.Products.EmbeddingForward.lean ====
/- The per-layer embedding's projection (`ple_in`): the value of the product and its claims. -/
module

public import proofs.«01_k».proof.Defs
public import proofs.«01_k».proof.Proof.Gen.Kernel26.Frame
public import proofs.«01_k».proof.Proof.Gen.Kernel26Ideal.Frame
public import proofs.«01_k».proof.Proof.Gen.Kernel26Ideal.Points
public import proofs.«01_k».proof.Proof.Gen.Reference26Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel26Ideal.Product

open Cert.Kernel26Ideal Cert.Kernel26Ideal.Gen

variable (m : (ℓ : Loc nD τ sig) → Buf (Elt Ideal) ℓ)

/-- What the call computes, entry by entry: the per-layer embedding's projection (`ple_in`). -/
def value (a : FVec Ideal S16384x256 .bf16) (b : FVec Ideal S1024x256 .bf16) : FVec Ideal S16384x1024 .bf16 := fun i =>
  show EReal from ∑ s : Fin 256, a (ix2 (i 0) s) * b (ix2 (i 1) s)

theorem value_at (a : FVec Ideal S16384x256 .bf16) (b : FVec Ideal S1024x256 .bf16) (i : S16384x1024.Idx) :
    value a b i = ∑ s : Fin 256, a (ix2 (i 0) s) * b (ix2 (i 1) s) := rfl

/-- The blocks that a grid point reads and writes. -/
theorem index_at : ∀ t : Fin cfg0.N, win0_0.index t = ![t.val, 0]
    ∧ win0_1.index t = ![0, 0] ∧ win0_2.index t = ![t.val, 0] :=
  (by decide +kernel : ∀ t : Fin grid0.N, _)

/-- One point's product, at an entry. -/
theorem part_at (x : FVec Ideal S2048x256 .bf16) (d : FVec Ideal S1024x256 .bf16) (y : S2048x1024.Idx) :
    (k0_pay1 (F := Ideal) x d y : EReal) = ∑ k : Fin 256, x (ix2 (y 0) k) * d (ix2 (y 1) k) := by
  pointwise [k0_pay1]

/-- The result array after every grid point. -/
theorem result (c : Dev nD) : (dats m 0 c).arrAt 2 (cfgs 0).N
    = value (m ((c : Thread nD τ).loc main_arg0)) (m ((c : Thread nD τ).loc main_arg1)) := by
  refine (dats m 0 c).arrAt_eq_of_covers 2 _ (by decide +kernel) fun t _ y => ?_
  blk_simp
  rw [after0_2]; frame_out
  rw [part_at, value_at]
  blk_point [iblk, V, index_at t]

/-- What the reference computes, of its two arguments, is the same. -/
theorem reference_eq (a : FVec Ideal Cert.Reference26Ideal.S16384x256 .bf16) (b : FVec Ideal Cert.Reference26Ideal.S1024x256 .bf16) :
    truncf .bf16 (Host.dotGeneral Cert.Reference26Ideal.dot_S16384x256_S256x1024_S16384x1024_1_0_0_1_n_n none (extf .f32 a Cert.Reference26Ideal.Gen.bitsLt_bf16_f32) (transpose Cert.Reference26Ideal.S256x1024 [1, 0] (extf .f32 b Cert.Reference26Ideal.Gen.bitsLt_bf16_f32) Cert.Reference26Ideal.Gen.transposes_S1024x256_S256x1024_1_0)) Cert.Reference26Ideal.Gen.bitsLt_bf16_f32 = value a b := by
  funext i
  rw [value_at]
  pointwise

theorem frame_kernel : Cert.quiescent_Kernel26 := fun m ρ _ => Cert.Kernel26.Gen.frame m ρ

theorem frame_ideal : Cert.quiescent_Kernel26Ideal := fun m ρ _ => Cert.Kernel26Ideal.Gen.frame m ρ

theorem frame_reference : Cert.quiescent_Reference26Ideal := by
  intro m g _
  hlo_run
  · intro _; simp
  · exact sem_eq_zero_of_no_sems (sig := Cert.Reference26Ideal.sig) (by decide) _

theorem algebraic : Cert.algebraic_Kernel26Ideal_Reference26Ideal := by
  pair_intro
  · run_from Cert.Kernel26Ideal.Gen.run_main m g
  · hlo_run
    refine Eq.trans ?_ (result m c).symm
    exact reference_eq _ _

end Cert.Kernel26Ideal.Product

end
-- ==== Proof.Products.AdamW.lean ====
/- AdamW's arithmetic at one entry, over the extended reals. -/
module

public import Idealize.ShloMosaic.Lib.Pointwise

@[expose] public section

noncomputable section

namespace Cert.AdamW

open Idealize.ShloMosaic
open scoped BigOperators

/-- The first moment after the step, of the gradient and the moment before. -/
def first (g m : EReal) : EReal := Ideal.ofBits .f32 0x3F666666#32 * m + Ideal.ofBits .f32 0x3DCCCCCD#32 * g

/-- The second moment after the step. -/
def second (g v : EReal) : EReal := Ideal.ofBits .f32 0x3F7FBE77#32 * v + Ideal.ofBits .f32 0x3A83126F#32 * (g * g)

/-- The weight's change: the corrected first moment over the root of the corrected second, and the weight's decay. -/
def delta (g w m v : EReal) : EReal :=
  Ideal.ofBits .f32 0xBA83126F#32 *
    (Ideal.div (Ideal.div (first g m) (Ideal.ofBits .f32 0x3F26BD02#32))
        (Ideal.sqrt (Ideal.div (second g v) (Ideal.ofBits .f32 0x3C231ACC#32)) + Ideal.ofBits .f32 0x322BCC77#32)
      + Ideal.ofBits .f32 0x3C23D70A#32 * w)

theorem sum_congr {n : ℕ} {f g : Fin n → EReal} (h : ∀ k, f k = g k) : ∑ k, f k = ∑ k, g k :=
  Finset.sum_congr rfl fun k _ => h k

theorem delta_congr {g g' w w' m m' v v' : EReal} (hg : g = g') (hw : w = w') (hm : m = m') (hv : v = v') :
    delta g w m v = delta g' w' m' v' := by
  subst hg hw hm hv; rfl

end Cert.AdamW

end
-- ==== Proof.Products.RetentionOutStep.lean ====
/- The optimiser's step of the token mixer's retained output weight (`w_ret_out`): its value and its claims. -/
module

public import proofs.«01_k».proof.Defs
public import proofs.«01_k».proof.Proof.Gen.Kernel27.Frame
public import proofs.«01_k».proof.Proof.Gen.Kernel27Ideal.Frame
public import proofs.«01_k».proof.Proof.Gen.Kernel27Ideal.Points
public import proofs.«01_k».proof.Proof.Gen.Reference27Ideal
public import proofs.«01_k».proof.Proof.Products.AdamW
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel27Ideal.Product

open Cert.Kernel27Ideal Cert.Kernel27Ideal.Gen

variable (m : (ℓ : Loc nD τ sig) → Buf (Elt Ideal) ℓ)

/-- The sum of the devices' shares, entry by entry. -/
def total (s : FVec Ideal S8x256x1024 .bf16) : FVec Ideal S256x1024 .f32 := fun i =>
  show EReal from ∑ k : Fin 8, s (ix3 k (i 0) (i 1))

theorem total_at (s : FVec Ideal S8x256x1024 .bf16) (i : S256x1024.Idx) : (total s i : EReal) = ∑ k : Fin 8, s (ix3 k (i 0) (i 1)) := rfl

/-- The first moment after the step. -/
def first (s : FVec Ideal S8x256x1024 .bf16) (u : FVec Ideal S256x1024 .f32) : FVec Ideal S256x1024 .f32 := fun i =>
  AdamW.first (total s i) (u i)

/-- The second moment after the step. -/
def second (s : FVec Ideal S8x256x1024 .bf16) (v : FVec Ideal S256x1024 .f32) : FVec Ideal S256x1024 .f32 := fun i =>
  AdamW.second (total s i) (v i)

/-- The weight's change. -/
def delta (s : FVec Ideal S8x256x1024 .bf16) (w u v : FVec Ideal S256x1024 .f32) : FVec Ideal S256x1024 .f32 := fun i =>
  AdamW.delta (total s i) (w i) (u i) (v i)

theorem first_at (s : FVec Ideal S8x256x1024 .bf16) (u : FVec Ideal S256x1024 .f32) (i : S256x1024.Idx) :
    (first s u i : EReal) = AdamW.first (total s i) (u i) := rfl

theorem second_at (s : FVec Ideal S8x256x1024 .bf16) (v : FVec Ideal S256x1024 .f32) (i : S256x1024.Idx) :
    (second s v i : EReal) = AdamW.second (total s i) (v i) := rfl

theorem delta_at (s : FVec Ideal S8x256x1024 .bf16) (w u v : FVec Ideal S256x1024 .f32) (i : S256x1024.Idx) :
    (delta s w u v i : EReal) = AdamW.delta (total s i) (w i) (u i) (v i) := rfl

/-- The blocks that a grid point reads and writes. -/
theorem index_at : ∀ t : Fin cfg0.N, win0_0.index t = ![0, t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section
variable (x0 : FVec Ideal S8x64x1024 .bf16) (x1 x2 x3 : FVec Ideal S64x1024 .f32) (y : S64x1024.Idx)

/-- One point's sum, at an entry. -/
theorem out_total : (out0_4 (F := Ideal) x0 x1 x2 x3 y : EReal) = ∑ k : Fin 8, x0 (ix3 k (y 0) (y 1)) := by
  unfold out0_4; frame_out
  rw [Fin.sum_univ_eight]
  pointwise [k0_pay1, k0_pay2, k0_pay3, k0_pay4, k0_pay5]

/-- One point's first moment. -/
theorem out_first : (out0_6 (F := Ideal) x0 x1 x2 x3 y : EReal) = AdamW.first (∑ k : Fin 8, x0 (ix3 k (y 0) (y 1))) (x2 y) := by
  unfold out0_6; frame_out
  rw [Fin.sum_univ_eight]
  pointwise [k0_pay1, k0_pay2, k0_pay3, k0_pay4, k0_pay5, AdamW.first]

/-- One point's second moment. -/
theorem out_second : (out0_7 (F := Ideal) x0 x1 x2 x3 y : EReal) = AdamW.second (∑ k : Fin 8, x0 (ix3 k (y 0) (y 1))) (x3 y) := by
  unfold out0_7; frame_out
  rw [Fin.sum_univ_eight]
  pointwise [k0_pay1, k0_pay2, k0_pay3, k0_pay4, k0_pay5, AdamW.second]

/-- One point's change of the weight. -/
theorem out_delta : (out0_5 (F := Ideal) x0 x1 x2 x3 y : EReal) = AdamW.delta (∑ k : Fin 8, x0 (ix3 k (y 0) (y 1))) (x1 y) (x2 y) (x3 y) := by
  unfold out0_5; frame_out
  rw [Fin.sum_univ_eight]
  pointwise [k0_pay1, k0_pay2, k0_pay3, k0_pay4, k0_pay5, AdamW.delta, AdamW.first, AdamW.second]
end

/-- A result array after every grid point. -/
theorem result_total (c : Dev nD) : (dats m 0 c).arrAt 4 (cfgs 0).N
    = total (m ((c : Thread nD τ).loc main_arg0)) := by
  refine (dats m 0 c).arrAt_eq_of_covers 4 _ (by decide +kernel) fun t _ y => ?_
  blk_simp
  rw [after0_4, out_total, total_at]
  obtain ⟨h0, h1, h2, h3, h4, h5, h6, h7⟩ := index_at t
  refine AdamW.sum_congr fun k => ?_
  all_goals blk_ext! [iblk, V, h0, h1, h2, h3, h4, h5, h6, h7]

/-- A result array after every grid point. -/
theorem result_first (c : Dev nD) : (dats m 0 c).arrAt 6 (cfgs 0).N
    = first (m ((c : Thread nD τ).loc main_arg0)) (m ((c : Thread nD τ).loc main_arg2)) := by
  refine (dats m 0 c).arrAt_eq_of_covers 6 _ (by decide +kernel) fun t _ y => ?_
  blk_simp
  rw [after0_6, out_first, first_at, total_at]
  obtain ⟨h0, h1, h2, h3, h4, h5, h6, h7⟩ := index_at t
  refine congrArg₂ AdamW.first (AdamW.sum_congr fun k => ?_) ?_
  all_goals blk_ext! [iblk, V, h0, h1, h2, h3, h4, h5, h6, h7]

/-- A result array after every grid point. -/
theorem result_second (c : Dev nD) : (dats m 0 c).arrAt 7 (cfgs 0).N
    = second (m ((c : Thread nD τ).loc main_arg0)) (m ((c : Thread nD τ).loc main_arg3)) := by
  refine (dats m 0 c).arrAt_eq_of_covers 7 _ (by decide +kernel) fun t _ y => ?_
  blk_simp
  rw [after0_7, out_second, second_at, total_at]
  obtain ⟨h0, h1, h2, h3, h4, h5, h6, h7⟩ := index_at t
  refine congrArg₂ AdamW.second (AdamW.sum_congr fun k => ?_) ?_
  all_goals blk_ext! [iblk, V, h0, h1, h2, h3, h4, h5, h6, h7]

/-- A result array after every grid point. -/
theorem result_delta (c : Dev nD) : (dats m 0 c).arrAt 5 (cfgs 0).N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out_delta, delta_at, total_at]
  obtain ⟨h0, h1, h2, h3, h4, h5, h6, h7⟩ := index_at t
  refine AdamW.delta_congr (AdamW.sum_congr fun k => ?_) ?_ ?_ ?_
  all_goals blk_ext! [iblk, V, h0, h1, h2, h3, h4, h5, h6, h7]

/-- What the reference computes is the same. -/
theorem reference_total (s : FVec Ideal Cert.Reference27Ideal.S8x256x1024 .bf16)  :
    Host.reduceAdd (extf .f32 s Cert.Reference27Ideal.Gen.bitsLt_bf16_f32) (constant Cert.Reference27Ideal.S_ .f32 0x00000000#32) Cert.Reference27Ideal.Gen.reducesTo_S8x256x1024_S256x1024_d0 Cert.Reference27Ideal.Gen.h_S_ = total s := by
  funext i
  rw [total_at]
  pointwise

/-- What the reference computes is the same. -/
theorem reference_first (s : FVec Ideal Cert.Reference27Ideal.S8x256x1024 .bf16) (u : FVec Ideal Cert.Reference27Ideal.S256x1024 .f32) :
    addf (mulf (broadcastInDim Cert.Reference27Ideal.S256x1024 ![] Cert.Reference27Ideal.Gen.bcast_S_S256x1024 (constant Cert.Reference27Ideal.S_ .f32 0x3F666666#32)) u) (mulf (broadcastInDim Cert.Reference27Ideal.S256x1024 ![] Cert.Reference27Ideal.Gen.bcast_S_S256x1024 (constant Cert.Reference27Ideal.S_ .f32 0x3DCCCCCD#32)) (Host.reduceAdd (extf .f32 s Cert.Reference27Ideal.Gen.bitsLt_bf16_f32) (constant Cert.Reference27Ideal.S_ .f32 0x00000000#32) Cert.Reference27Ideal.Gen.reducesTo_S8x256x1024_S256x1024_d0 Cert.Reference27Ideal.Gen.h_S_)) = first s u := by
  funext i
  rw [first_at, total_at, AdamW.first]
  pointwise

/-- What the reference computes is the same. -/
theorem reference_second (s : FVec Ideal Cert.Reference27Ideal.S8x256x1024 .bf16) (v : FVec Ideal Cert.Reference27Ideal.S256x1024 .f32) :
    addf (mulf (broadcastInDim Cert.Reference27Ideal.S256x1024 ![] Cert.Reference27Ideal.Gen.bcast_S_S256x1024 (constant Cert.Reference27Ideal.S_ .f32 0x3F7FBE77#32)) v) (mulf (broadcastInDim Cert.Reference27Ideal.S256x1024 ![] Cert.Reference27Ideal.Gen.bcast_S_S256x1024 (constant Cert.Reference27Ideal.S_ .f32 0x3A83126F#32)) (mulf (Host.reduceAdd (extf .f32 s Cert.Reference27Ideal.Gen.bitsLt_bf16_f32) (constant Cert.Reference27Ideal.S_ .f32 0x00000000#32) Cert.Reference27Ideal.Gen.reducesTo_S8x256x1024_S256x1024_d0 Cert.Reference27Ideal.Gen.h_S_) (Host.reduceAdd (extf .f32 s Cert.Reference27Ideal.Gen.bitsLt_bf16_f32) (constant Cert.Reference27Ideal.S_ .f32 0x00000000#32) Cert.Reference27Ideal.Gen.reducesTo_S8x256x1024_S256x1024_d0 Cert.Reference27Ideal.Gen.h_S_))) = second s v := by
  funext i
  rw [second_at, total_at, AdamW.second]
  pointwise

/-- What the reference computes is the same. -/
theorem reference_delta (s : FVec Ideal Cert.Reference27Ideal.S8x256x1024 .bf16) (w u v : FVec Ideal Cert.Reference27Ideal.S256x1024 .f32) :
    mulf (broadcastInDim Cert.Reference27Ideal.S256x1024 ![] Cert.Reference27Ideal.Gen.bcast_S_S256x1024 (constant Cert.Reference27Ideal.S_ .f32 0xBA83126F#32)) (addf (Host.divf (Host.divf (addf (mulf (broadcastInDim Cert.Reference27Ideal.S256x1024 ![] Cert.Reference27Ideal.Gen.bcast_S_S256x1024 (constant Cert.Reference27Ideal.S_ .f32 0x3F666666#32)) u) (mulf (broadcastInDim Cert.Reference27Ideal.S256x1024 ![] Cert.Reference27Ideal.Gen.bcast_S_S256x1024 (constant Cert.Reference27Ideal.S_ .f32 0x3DCCCCCD#32)) (Host.reduceAdd (extf .f32 s Cert.Reference27Ideal.Gen.bitsLt_bf16_f32) (constant Cert.Reference27Ideal.S_ .f32 0x00000000#32) Cert.Reference27Ideal.Gen.reducesTo_S8x256x1024_S256x1024_d0 Cert.Reference27Ideal.Gen.h_S_))) (broadcastInDim Cert.Reference27Ideal.S256x1024 ![] Cert.Reference27Ideal.Gen.bcast_S_S256x1024 (constant Cert.Reference27Ideal.S_ .f32 0x3F26BD02#32))) (addf (Host.sqrt (Host.divf (addf (mulf (broadcastInDim Cert.Reference27Ideal.S256x1024 ![] Cert.Reference27Ideal.Gen.bcast_S_S256x1024 (constant Cert.Reference27Ideal.S_ .f32 0x3F7FBE77#32)) v) (mulf (broadcastInDim Cert.Reference27Ideal.S256x1024 ![] Cert.Reference27Ideal.Gen.bcast_S_S256x1024 (constant Cert.Reference27Ideal.S_ .f32 0x3A83126F#32)) (mulf (Host.reduceAdd (extf .f32 s Cert.Reference27Ideal.Gen.bitsLt_bf16_f32) (constant Cert.Reference27Ideal.S_ .f32 0x00000000#32) Cert.Reference27Ideal.Gen.reducesTo_S8x256x1024_S256x1024_d0 Cert.Reference27Ideal.Gen.h_S_) (Host.reduceAdd (extf .f32 s Cert.Reference27Ideal.Gen.bitsLt_bf16_f32) (constant Cert.Reference27Ideal.S_ .f32 0x00000000#32) Cert.Reference27Ideal.Gen.reducesTo_S8x256x1024_S256x1024_d0 Cert.Reference27Ideal.Gen.h_S_)))) (broadcastInDim Cert.Reference27Ideal.S256x1024 ![] Cert.Reference27Ideal.Gen.bcast_S_S256x1024 (constant Cert.Reference27Ideal.S_ .f32 0x3C231ACC#32)))) (broadcastInDim Cert.Reference27Ideal.S256x1024 ![] Cert.Reference27Ideal.Gen.bcast_S_S256x1024 (constant Cert.Reference27Ideal.S_ .f32 0x322BCC77#32)))) (mulf (broadcastInDim Cert.Reference27Ideal.S256x1024 ![] Cert.Reference27Ideal.Gen.bcast_S_S256x1024 (constant Cert.Reference27Ideal.S_ .f32 0x3C23D70A#32)) w)) = delta s w u v := by
  funext i
  rw [delta_at, total_at, AdamW.delta, AdamW.first, AdamW.second]
  pointwise

theorem frame_kernel : Cert.quiescent_Kernel27 := fun m ρ _ => Cert.Kernel27.Gen.frame m ρ

theorem frame_ideal : Cert.quiescent_Kernel27Ideal := fun m ρ _ => Cert.Kernel27Ideal.Gen.frame m ρ

theorem frame_reference : Cert.quiescent_Reference27Ideal := by
  intro m g _
  hlo_run
  · intro _; simp
  · exact sem_eq_zero_of_no_sems (sig := Cert.Reference27Ideal.sig) (by decide) _

theorem algebraic : Cert.algebraic_Kernel27Ideal_Reference27Ideal := by
  pair_intro
  · run_from Cert.Kernel27Ideal.Gen.run_main m g
  · hlo_run
    · refine Eq.trans ?_ (result_total m c).symm
      exact reference_total _
    · refine Eq.trans ?_ (result_delta m c).symm
      exact reference_delta _ _ _ _
    · refine Eq.trans ?_ (result_first m c).symm
      exact reference_first _ _
    · refine Eq.trans ?_ (result_second m c).symm
      exact reference_second _ _

end Cert.Kernel27Ideal.Product

end
-- ==== Proof.Products.MixStep.lean ====
/- The optimiser's step of the token mixer's output weight (`w_o`), and of the embedding gate's (`w_ple_gate`), which has its shape: its value and its claims. -/
module

public import proofs.«01_k».proof.Defs
public import proofs.«01_k».proof.Proof.Gen.Kernel28.Frame
public import proofs.«01_k».proof.Proof.Gen.Kernel28Ideal.Frame
public import proofs.«01_k».proof.Proof.Gen.Kernel28Ideal.Points
public import proofs.«01_k».proof.Proof.Gen.Reference28Ideal
public import proofs.«01_k».proof.Proof.Products.AdamW
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel28Ideal.Product

open Cert.Kernel28Ideal Cert.Kernel28Ideal.Gen

variable (m : (ℓ : Loc nD τ sig) → Buf (Elt Ideal) ℓ)

/-- The sum of the devices' shares, entry by entry. -/
def total (s : FVec Ideal S8x128x1024 .bf16) : FVec Ideal S128x1024 .f32 := fun i =>
  show EReal from ∑ k : Fin 8, s (ix3 k (i 0) (i 1))

theorem total_at (s : FVec Ideal S8x128x1024 .bf16) (i : S128x1024.Idx) : (total s i : EReal) = ∑ k : Fin 8, s (ix3 k (i 0) (i 1)) := rfl

/-- The first moment after the step. -/
def first (s : FVec Ideal S8x128x1024 .bf16) (u : FVec Ideal S128x1024 .f32) : FVec Ideal S128x1024 .f32 := fun i =>
  AdamW.first (total s i) (u i)

/-- The second moment after the step. -/
def second (s : FVec Ideal S8x128x1024 .bf16) (v : FVec Ideal S128x1024 .f32) : FVec Ideal S128x1024 .f32 := fun i =>
  AdamW.second (total s i) (v i)

/-- The weight's change. -/
def delta (s : FVec Ideal S8x128x1024 .bf16) (w u v : FVec Ideal S128x1024 .f32) : FVec Ideal S128x1024 .f32 := fun i =>
  AdamW.delta (total s i) (w i) (u i) (v i)

theorem first_at (s : FVec Ideal S8x128x1024 .bf16) (u : FVec Ideal S128x1024 .f32) (i : S128x1024.Idx) :
    (first s u i : EReal) = AdamW.first (total s i) (u i) := rfl

theorem second_at (s : FVec Ideal S8x128x1024 .bf16) (v : FVec Ideal S128x1024 .f32) (i : S128x1024.Idx) :
    (second s v i : EReal) = AdamW.second (total s i) (v i) := rfl

theorem delta_at (s : FVec Ideal S8x128x1024 .bf16) (w u v : FVec Ideal S128x1024 .f32) (i : S128x1024.Idx) :
    (delta s w u v i : EReal) = AdamW.delta (total s i) (w i) (u i) (v i) := rfl

/-- The blocks that a grid point reads and writes. -/
theorem index_at : ∀ t : Fin cfg0.N, win0_0.index t = ![0, t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section
variable (x0 : FVec Ideal S8x64x1024 .bf16) (x1 x2 x3 : FVec Ideal S64x1024 .f32) (y : S64x1024.Idx)

/-- One point's sum, at an entry. -/
theorem out_total : (out0_4 (F := Ideal) x0 x1 x2 x3 y : EReal) = ∑ k : Fin 8, x0 (ix3 k (y 0) (y 1)) := by
  unfold out0_4; frame_out
  rw [Fin.sum_univ_eight]
  pointwise [k0_pay1, k0_pay2, k0_pay3, k0_pay4, k0_pay5]

/-- One point's first moment. -/
theorem out_first : (out0_6 (F := Ideal) x0 x1 x2 x3 y : EReal) = AdamW.first (∑ k : Fin 8, x0 (ix3 k (y 0) (y 1))) (x2 y) := by
  unfold out0_6; frame_out
  rw [Fin.sum_univ_eight]
  pointwise [k0_pay1, k0_pay2, k0_pay3, k0_pay4, k0_pay5, AdamW.first]

/-- One point's second moment. -/
theorem out_second : (out0_7 (F := Ideal) x0 x1 x2 x3 y : EReal) = AdamW.second (∑ k : Fin 8, x0 (ix3 k (y 0) (y 1))) (x3 y) := by
  unfold out0_7; frame_out
  rw [Fin.sum_univ_eight]
  pointwise [k0_pay1, k0_pay2, k0_pay3, k0_pay4, k0_pay5, AdamW.second]

/-- One point's change of the weight. -/
theorem out_delta : (out0_5 (F := Ideal) x0 x1 x2 x3 y : EReal) = AdamW.delta (∑ k : Fin 8, x0 (ix3 k (y 0) (y 1))) (x1 y) (x2 y) (x3 y) := by
  unfold out0_5; frame_out
  rw [Fin.sum_univ_eight]
  pointwise [k0_pay1, k0_pay2, k0_pay3, k0_pay4, k0_pay5, AdamW.delta, AdamW.first, AdamW.second]
end

/-- A result array after every grid point. -/
theorem result_total (c : Dev nD) : (dats m 0 c).arrAt 4 (cfgs 0).N
    = total (m ((c : Thread nD τ).loc main_arg0)) := by
  refine (dats m 0 c).arrAt_eq_of_covers 4 _ (by decide +kernel) fun t _ y => ?_
  blk_simp
  rw [after0_4, out_total, total_at]
  obtain ⟨h0, h1, h2, h3, h4, h5, h6, h7⟩ := index_at t
  refine AdamW.sum_congr fun k => ?_
  all_goals blk_ext! [iblk, V, h0, h1, h2, h3, h4, h5, h6, h7]

/-- A result array after every grid point. -/
theorem result_first (c : Dev nD) : (dats m 0 c).arrAt 6 (cfgs 0).N
    = first (m ((c : Thread nD τ).loc main_arg0)) (m ((c : Thread nD τ).loc main_arg2)) := by
  refine (dats m 0 c).arrAt_eq_of_covers 6 _ (by decide +kernel) fun t _ y => ?_
  blk_simp
  rw [after0_6, out_first, first_at, total_at]
  obtain ⟨h0, h1, h2, h3, h4, h5, h6, h7⟩ := index_at t
  refine congrArg₂ AdamW.first (AdamW.sum_congr fun k => ?_) ?_
  all_goals blk_ext! [iblk, V, h0, h1, h2, h3, h4, h5, h6, h7]

/-- A result array after every grid point. -/
theorem result_second (c : Dev nD) : (dats m 0 c).arrAt 7 (cfgs 0).N
    = second (m ((c : Thread nD τ).loc main_arg0)) (m ((c : Thread nD τ).loc main_arg3)) := by
  refine (dats m 0 c).arrAt_eq_of_covers 7 _ (by decide +kernel) fun t _ y => ?_
  blk_simp
  rw [after0_7, out_second, second_at, total_at]
  obtain ⟨h0, h1, h2, h3, h4, h5, h6, h7⟩ := index_at t
  refine congrArg₂ AdamW.second (AdamW.sum_congr fun k => ?_) ?_
  all_goals blk_ext! [iblk, V, h0, h1, h2, h3, h4, h5, h6, h7]

/-- A result array after every grid point. -/
theorem result_delta (c : Dev nD) : (dats m 0 c).arrAt 5 (cfgs 0).N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out_delta, delta_at, total_at]
  obtain ⟨h0, h1, h2, h3, h4, h5, h6, h7⟩ := index_at t
  refine AdamW.delta_congr (AdamW.sum_congr fun k => ?_) ?_ ?_ ?_
  all_goals blk_ext! [iblk, V, h0, h1, h2, h3, h4, h5, h6, h7]

/-- What the reference computes is the same. -/
theorem reference_total (s : FVec Ideal Cert.Reference28Ideal.S8x128x1024 .bf16)  :
    Host.reduceAdd (extf .f32 s Cert.Reference28Ideal.Gen.bitsLt_bf16_f32) (constant Cert.Reference28Ideal.S_ .f32 0x00000000#32) Cert.Reference28Ideal.Gen.reducesTo_S8x128x1024_S128x1024_d0 Cert.Reference28Ideal.Gen.h_S_ = total s := by
  funext i
  rw [total_at]
  pointwise

/-- What the reference computes is the same. -/
theorem reference_first (s : FVec Ideal Cert.Reference28Ideal.S8x128x1024 .bf16) (u : FVec Ideal Cert.Reference28Ideal.S128x1024 .f32) :
    addf (mulf (broadcastInDim Cert.Reference28Ideal.S128x1024 ![] Cert.Reference28Ideal.Gen.bcast_S_S128x1024 (constant Cert.Reference28Ideal.S_ .f32 0x3F666666#32)) u) (mulf (broadcastInDim Cert.Reference28Ideal.S128x1024 ![] Cert.Reference28Ideal.Gen.bcast_S_S128x1024 (constant Cert.Reference28Ideal.S_ .f32 0x3DCCCCCD#32)) (Host.reduceAdd (extf .f32 s Cert.Reference28Ideal.Gen.bitsLt_bf16_f32) (constant Cert.Reference28Ideal.S_ .f32 0x00000000#32) Cert.Reference28Ideal.Gen.reducesTo_S8x128x1024_S128x1024_d0 Cert.Reference28Ideal.Gen.h_S_)) = first s u := by
  funext i
  rw [first_at, total_at, AdamW.first]
  pointwise

/-- What the reference computes is the same. -/
theorem reference_second (s : FVec Ideal Cert.Reference28Ideal.S8x128x1024 .bf16) (v : FVec Ideal Cert.Reference28Ideal.S128x1024 .f32) :
    addf (mulf (broadcastInDim Cert.Reference28Ideal.S128x1024 ![] Cert.Reference28Ideal.Gen.bcast_S_S128x1024 (constant Cert.Reference28Ideal.S_ .f32 0x3F7FBE77#32)) v) (mulf (broadcastInDim Cert.Reference28Ideal.S128x1024 ![] Cert.Reference28Ideal.Gen.bcast_S_S128x1024 (constant Cert.Reference28Ideal.S_ .f32 0x3A83126F#32)) (mulf (Host.reduceAdd (extf .f32 s Cert.Reference28Ideal.Gen.bitsLt_bf16_f32) (constant Cert.Reference28Ideal.S_ .f32 0x00000000#32) Cert.Reference28Ideal.Gen.reducesTo_S8x128x1024_S128x1024_d0 Cert.Reference28Ideal.Gen.h_S_) (Host.reduceAdd (extf .f32 s Cert.Reference28Ideal.Gen.bitsLt_bf16_f32) (constant Cert.Reference28Ideal.S_ .f32 0x00000000#32) Cert.Reference28Ideal.Gen.reducesTo_S8x128x1024_S128x1024_d0 Cert.Reference28Ideal.Gen.h_S_))) = second s v := by
  funext i
  rw [second_at, total_at, AdamW.second]
  pointwise

/-- What the reference computes is the same. -/
theorem reference_delta (s : FVec Ideal Cert.Reference28Ideal.S8x128x1024 .bf16) (w u v : FVec Ideal Cert.Reference28Ideal.S128x1024 .f32) :
    mulf (broadcastInDim Cert.Reference28Ideal.S128x1024 ![] Cert.Reference28Ideal.Gen.bcast_S_S128x1024 (constant Cert.Reference28Ideal.S_ .f32 0xBA83126F#32)) (addf (Host.divf (Host.divf (addf (mulf (broadcastInDim Cert.Reference28Ideal.S128x1024 ![] Cert.Reference28Ideal.Gen.bcast_S_S128x1024 (constant Cert.Reference28Ideal.S_ .f32 0x3F666666#32)) u) (mulf (broadcastInDim Cert.Reference28Ideal.S128x1024 ![] Cert.Reference28Ideal.Gen.bcast_S_S128x1024 (constant Cert.Reference28Ideal.S_ .f32 0x3DCCCCCD#32)) (Host.reduceAdd (extf .f32 s Cert.Reference28Ideal.Gen.bitsLt_bf16_f32) (constant Cert.Reference28Ideal.S_ .f32 0x00000000#32) Cert.Reference28Ideal.Gen.reducesTo_S8x128x1024_S128x1024_d0 Cert.Reference28Ideal.Gen.h_S_))) (broadcastInDim Cert.Reference28Ideal.S128x1024 ![] Cert.Reference28Ideal.Gen.bcast_S_S128x1024 (constant Cert.Reference28Ideal.S_ .f32 0x3F26BD02#32))) (addf (Host.sqrt (Host.divf (addf (mulf (broadcastInDim Cert.Reference28Ideal.S128x1024 ![] Cert.Reference28Ideal.Gen.bcast_S_S128x1024 (constant Cert.Reference28Ideal.S_ .f32 0x3F7FBE77#32)) v) (mulf (broadcastInDim Cert.Reference28Ideal.S128x1024 ![] Cert.Reference28Ideal.Gen.bcast_S_S128x1024 (constant Cert.Reference28Ideal.S_ .f32 0x3A83126F#32)) (mulf (Host.reduceAdd (extf .f32 s Cert.Reference28Ideal.Gen.bitsLt_bf16_f32) (constant Cert.Reference28Ideal.S_ .f32 0x00000000#32) Cert.Reference28Ideal.Gen.reducesTo_S8x128x1024_S128x1024_d0 Cert.Reference28Ideal.Gen.h_S_) (Host.reduceAdd (extf .f32 s Cert.Reference28Ideal.Gen.bitsLt_bf16_f32) (constant Cert.Reference28Ideal.S_ .f32 0x00000000#32) Cert.Reference28Ideal.Gen.reducesTo_S8x128x1024_S128x1024_d0 Cert.Reference28Ideal.Gen.h_S_)))) (broadcastInDim Cert.Reference28Ideal.S128x1024 ![] Cert.Reference28Ideal.Gen.bcast_S_S128x1024 (constant Cert.Reference28Ideal.S_ .f32 0x3C231ACC#32)))) (broadcastInDim Cert.Reference28Ideal.S128x1024 ![] Cert.Reference28Ideal.Gen.bcast_S_S128x1024 (constant Cert.Reference28Ideal.S_ .f32 0x322BCC77#32)))) (mulf (broadcastInDim Cert.Reference28Ideal.S128x1024 ![] Cert.Reference28Ideal.Gen.bcast_S_S128x1024 (constant Cert.Reference28Ideal.S_ .f32 0x3C23D70A#32)) w)) = delta s w u v := by
  funext i
  rw [delta_at, total_at, AdamW.delta, AdamW.first, AdamW.second]
  pointwise

theorem frame_kernel : Cert.quiescent_Kernel28 := fun m ρ _ => Cert.Kernel28.Gen.frame m ρ

theorem frame_ideal : Cert.quiescent_Kernel28Ideal := fun m ρ _ => Cert.Kernel28Ideal.Gen.frame m ρ

theorem frame_reference : Cert.quiescent_Reference28Ideal := by
  intro m g _
  hlo_run
  · intro _; simp
  · exact sem_eq_zero_of_no_sems (sig := Cert.Reference28Ideal.sig) (by decide) _

theorem algebraic : Cert.algebraic_Kernel28Ideal_Reference28Ideal := by
  pair_intro
  · run_from Cert.Kernel28Ideal.Gen.run_main m g
  · hlo_run
    · refine Eq.trans ?_ (result_total m c).symm
      exact reference_total _
    · refine Eq.trans ?_ (result_delta m c).symm
      exact reference_delta _ _ _ _
    · refine Eq.trans ?_ (result_first m c).symm
      exact reference_first _ _
    · refine Eq.trans ?_ (result_second m c).symm
      exact reference_second _ _

end Cert.Kernel28Ideal.Product

end
-- ==== Proof.Products.DownStep.lean ====
/- The optimiser's step of the channel mixer's second weight (`w_down`): its value and its claims. -/
module

public import proofs.«01_k».proof.Defs
public import proofs.«01_k».proof.Proof.Gen.Kernel29.Frame
public import proofs.«01_k».proof.Proof.Gen.Kernel29Ideal.Frame
public import proofs.«01_k».proof.Proof.Gen.Kernel29Ideal.Points
public import proofs.«01_k».proof.Proof.Gen.Reference29Ideal
public import proofs.«01_k».proof.Proof.Products.AdamW
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel29Ideal.Product

open Cert.Kernel29Ideal Cert.Kernel29Ideal.Gen

variable (m : (ℓ : Loc nD τ sig) → Buf (Elt Ideal) ℓ)

/-- The sum of the devices' shares, entry by entry. -/
def total (s : FVec Ideal S8x512x1024 .bf16) : FVec Ideal S512x1024 .f32 := fun i =>
  show EReal from ∑ k : Fin 8, s (ix3 k (i 0) (i 1))

theorem total_at (s : FVec Ideal S8x512x1024 .bf16) (i : S512x1024.Idx) : (total s i : EReal) = ∑ k : Fin 8, s (ix3 k (i 0) (i 1)) := rfl

/-- The first moment after the step. -/
def first (s : FVec Ideal S8x512x1024 .bf16) (u : FVec Ideal S512x1024 .f32) : FVec Ideal S512x1024 .f32 := fun i =>
  AdamW.first (total s i) (u i)

/-- The second moment after the step. -/
def second (s : FVec Ideal S8x512x1024 .bf16) (v : FVec Ideal S512x1024 .f32) : FVec Ideal S512x1024 .f32 := fun i =>
  AdamW.second (total s i) (v i)

/-- The weight's change. -/
def delta (s : FVec Ideal S8x512x1024 .bf16) (w u v : FVec Ideal S512x1024 .f32) : FVec Ideal S512x1024 .f32 := fun i =>
  AdamW.delta (total s i) (w i) (u i) (v i)

theorem first_at (s : FVec Ideal S8x512x1024 .bf16) (u : FVec Ideal S512x1024 .f32) (i : S512x1024.Idx) :
    (first s u i : EReal) = AdamW.first (total s i) (u i) := rfl

theorem second_at (s : FVec Ideal S8x512x1024 .bf16) (v : FVec Ideal S512x1024 .f32) (i : S512x1024.Idx) :
    (second s v i : EReal) = AdamW.second (total s i) (v i) := rfl

theorem delta_at (s : FVec Ideal S8x512x1024 .bf16) (w u v : FVec Ideal S512x1024 .f32) (i : S512x1024.Idx) :
    (delta s w u v i : EReal) = AdamW.delta (total s i) (w i) (u i) (v i) := rfl

/-- The blocks that a grid point reads and writes. -/
theorem index_at : ∀ t : Fin cfg0.N, win0_0.index t = ![0, t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section
variable (x0 : FVec Ideal S8x64x1024 .bf16) (x1 x2 x3 : FVec Ideal S64x1024 .f32) (y : S64x1024.Idx)

/-- One point's sum, at an entry. -/
theorem out_total : (out0_4 (F := Ideal) x0 x1 x2 x3 y : EReal) = ∑ k : Fin 8, x0 (ix3 k (y 0) (y 1)) := by
  unfold out0_4; frame_out
  rw [Fin.sum_univ_eight]
  pointwise [k0_pay1, k0_pay2, k0_pay3, k0_pay4, k0_pay5]

/-- One point's first moment. -/
theorem out_first : (out0_6 (F := Ideal) x0 x1 x2 x3 y : EReal) = AdamW.first (∑ k : Fin 8, x0 (ix3 k (y 0) (y 1))) (x2 y) := by
  unfold out0_6; frame_out
  rw [Fin.sum_univ_eight]
  pointwise [k0_pay1, k0_pay2, k0_pay3, k0_pay4, k0_pay5, AdamW.first]

/-- One point's second moment. -/
theorem out_second : (out0_7 (F := Ideal) x0 x1 x2 x3 y : EReal) = AdamW.second (∑ k : Fin 8, x0 (ix3 k (y 0) (y 1))) (x3 y) := by
  unfold out0_7; frame_out
  rw [Fin.sum_univ_eight]
  pointwise [k0_pay1, k0_pay2, k0_pay3, k0_pay4, k0_pay5, AdamW.second]

/-- One point's change of the weight. -/
theorem out_delta : (out0_5 (F := Ideal) x0 x1 x2 x3 y : EReal) = AdamW.delta (∑ k : Fin 8, x0 (ix3 k (y 0) (y 1))) (x1 y) (x2 y) (x3 y) := by
  unfold out0_5; frame_out
  rw [Fin.sum_univ_eight]
  pointwise [k0_pay1, k0_pay2, k0_pay3, k0_pay4, k0_pay5, AdamW.delta, AdamW.first, AdamW.second]
end

/-- A result array after every grid point. -/
theorem result_total (c : Dev nD) : (dats m 0 c).arrAt 4 (cfgs 0).N
    = total (m ((c : Thread nD τ).loc main_arg0)) := by
  refine (dats m 0 c).arrAt_eq_of_covers 4 _ (by decide +kernel) fun t _ y => ?_
  blk_simp
  rw [after0_4, out_total, total_at]
  obtain ⟨h0, h1, h2, h3, h4, h5, h6, h7⟩ := index_at t
  refine AdamW.sum_congr fun k => ?_
  all_goals blk_ext! [iblk, V, h0, h1, h2, h3, h4, h5, h6, h7]

/-- A result array after every grid point. -/
theorem result_first (c : Dev nD) : (dats m 0 c).arrAt 6 (cfgs 0).N
    = first (m ((c : Thread nD τ).loc main_arg0)) (m ((c : Thread nD τ).loc main_arg2)) := by
  refine (dats m 0 c).arrAt_eq_of_covers 6 _ (by decide +kernel) fun t _ y => ?_
  blk_simp
  rw [after0_6, out_first, first_at, total_at]
  obtain ⟨h0, h1, h2, h3, h4, h5, h6, h7⟩ := index_at t
  refine congrArg₂ AdamW.first (AdamW.sum_congr fun k => ?_) ?_
  all_goals blk_ext! [iblk, V, h0, h1, h2, h3, h4, h5, h6, h7]

/-- A result array after every grid point. -/
theorem result_second (c : Dev nD) : (dats m 0 c).arrAt 7 (cfgs 0).N
    = second (m ((c : Thread nD τ).loc main_arg0)) (m ((c : Thread nD τ).loc main_arg3)) := by
  refine (dats m 0 c).arrAt_eq_of_covers 7 _ (by decide +kernel) fun t _ y => ?_
  blk_simp
  rw [after0_7, out_second, second_at, total_at]
  obtain ⟨h0, h1, h2, h3, h4, h5, h6, h7⟩ := index_at t
  refine congrArg₂ AdamW.second (AdamW.sum_congr fun k => ?_) ?_
  all_goals blk_ext! [iblk, V, h0, h1, h2, h3, h4, h5, h6, h7]

/-- A result array after every grid point. -/
theorem result_delta (c : Dev nD) : (dats m 0 c).arrAt 5 (cfgs 0).N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out_delta, delta_at, total_at]
  obtain ⟨h0, h1, h2, h3, h4, h5, h6, h7⟩ := index_at t
  refine AdamW.delta_congr (AdamW.sum_congr fun k => ?_) ?_ ?_ ?_
  all_goals blk_ext! [iblk, V, h0, h1, h2, h3, h4, h5, h6, h7]

/-- What the reference computes is the same. -/
theorem reference_total (s : FVec Ideal Cert.Reference29Ideal.S8x512x1024 .bf16)  :
    Host.reduceAdd (extf .f32 s Cert.Reference29Ideal.Gen.bitsLt_bf16_f32) (constant Cert.Reference29Ideal.S_ .f32 0x00000000#32) Cert.Reference29Ideal.Gen.reducesTo_S8x512x1024_S512x1024_d0 Cert.Reference29Ideal.Gen.h_S_ = total s := by
  funext i
  rw [total_at]
  pointwise

/-- What the reference computes is the same. -/
theorem reference_first (s : FVec Ideal Cert.Reference29Ideal.S8x512x1024 .bf16) (u : FVec Ideal Cert.Reference29Ideal.S512x1024 .f32) :
    addf (mulf (broadcastInDim Cert.Reference29Ideal.S512x1024 ![] Cert.Reference29Ideal.Gen.bcast_S_S512x1024 (constant Cert.Reference29Ideal.S_ .f32 0x3F666666#32)) u) (mulf (broadcastInDim Cert.Reference29Ideal.S512x1024 ![] Cert.Reference29Ideal.Gen.bcast_S_S512x1024 (constant Cert.Reference29Ideal.S_ .f32 0x3DCCCCCD#32)) (Host.reduceAdd (extf .f32 s Cert.Reference29Ideal.Gen.bitsLt_bf16_f32) (constant Cert.Reference29Ideal.S_ .f32 0x00000000#32) Cert.Reference29Ideal.Gen.reducesTo_S8x512x1024_S512x1024_d0 Cert.Reference29Ideal.Gen.h_S_)) = first s u := by
  funext i
  rw [first_at, total_at, AdamW.first]
  pointwise

/-- What the reference computes is the same. -/
theorem reference_second (s : FVec Ideal Cert.Reference29Ideal.S8x512x1024 .bf16) (v : FVec Ideal Cert.Reference29Ideal.S512x1024 .f32) :
    addf (mulf (broadcastInDim Cert.Reference29Ideal.S512x1024 ![] Cert.Reference29Ideal.Gen.bcast_S_S512x1024 (constant Cert.Reference29Ideal.S_ .f32 0x3F7FBE77#32)) v) (mulf (broadcastInDim Cert.Reference29Ideal.S512x1024 ![] Cert.Reference29Ideal.Gen.bcast_S_S512x1024 (constant Cert.Reference29Ideal.S_ .f32 0x3A83126F#32)) (mulf (Host.reduceAdd (extf .f32 s Cert.Reference29Ideal.Gen.bitsLt_bf16_f32) (constant Cert.Reference29Ideal.S_ .f32 0x00000000#32) Cert.Reference29Ideal.Gen.reducesTo_S8x512x1024_S512x1024_d0 Cert.Reference29Ideal.Gen.h_S_) (Host.reduceAdd (extf .f32 s Cert.Reference29Ideal.Gen.bitsLt_bf16_f32) (constant Cert.Reference29Ideal.S_ .f32 0x00000000#32) Cert.Reference29Ideal.Gen.reducesTo_S8x512x1024_S512x1024_d0 Cert.Reference29Ideal.Gen.h_S_))) = second s v := by
  funext i
  rw [second_at, total_at, AdamW.second]
  pointwise

/-- What the reference computes is the same. -/
theorem reference_delta (s : FVec Ideal Cert.Reference29Ideal.S8x512x1024 .bf16) (w u v : FVec Ideal Cert.Reference29Ideal.S512x1024 .f32) :
    mulf (broadcastInDim Cert.Reference29Ideal.S512x1024 ![] Cert.Reference29Ideal.Gen.bcast_S_S512x1024 (constant Cert.Reference29Ideal.S_ .f32 0xBA83126F#32)) (addf (Host.divf (Host.divf (addf (mulf (broadcastInDim Cert.Reference29Ideal.S512x1024 ![] Cert.Reference29Ideal.Gen.bcast_S_S512x1024 (constant Cert.Reference29Ideal.S_ .f32 0x3F666666#32)) u) (mulf (broadcastInDim Cert.Reference29Ideal.S512x1024 ![] Cert.Reference29Ideal.Gen.bcast_S_S512x1024 (constant Cert.Reference29Ideal.S_ .f32 0x3DCCCCCD#32)) (Host.reduceAdd (extf .f32 s Cert.Reference29Ideal.Gen.bitsLt_bf16_f32) (constant Cert.Reference29Ideal.S_ .f32 0x00000000#32) Cert.Reference29Ideal.Gen.reducesTo_S8x512x1024_S512x1024_d0 Cert.Reference29Ideal.Gen.h_S_))) (broadcastInDim Cert.Reference29Ideal.S512x1024 ![] Cert.Reference29Ideal.Gen.bcast_S_S512x1024 (constant Cert.Reference29Ideal.S_ .f32 0x3F26BD02#32))) (addf (Host.sqrt (Host.divf (addf (mulf (broadcastInDim Cert.Reference29Ideal.S512x1024 ![] Cert.Reference29Ideal.Gen.bcast_S_S512x1024 (constant Cert.Reference29Ideal.S_ .f32 0x3F7FBE77#32)) v) (mulf (broadcastInDim Cert.Reference29Ideal.S512x1024 ![] Cert.Reference29Ideal.Gen.bcast_S_S512x1024 (constant Cert.Reference29Ideal.S_ .f32 0x3A83126F#32)) (mulf (Host.reduceAdd (extf .f32 s Cert.Reference29Ideal.Gen.bitsLt_bf16_f32) (constant Cert.Reference29Ideal.S_ .f32 0x00000000#32) Cert.Reference29Ideal.Gen.reducesTo_S8x512x1024_S512x1024_d0 Cert.Reference29Ideal.Gen.h_S_) (Host.reduceAdd (extf .f32 s Cert.Reference29Ideal.Gen.bitsLt_bf16_f32) (constant Cert.Reference29Ideal.S_ .f32 0x00000000#32) Cert.Reference29Ideal.Gen.reducesTo_S8x512x1024_S512x1024_d0 Cert.Reference29Ideal.Gen.h_S_)))) (broadcastInDim Cert.Reference29Ideal.S512x1024 ![] Cert.Reference29Ideal.Gen.bcast_S_S512x1024 (constant Cert.Reference29Ideal.S_ .f32 0x3C231ACC#32)))) (broadcastInDim Cert.Reference29Ideal.S512x1024 ![] Cert.Reference29Ideal.Gen.bcast_S_S512x1024 (constant Cert.Reference29Ideal.S_ .f32 0x322BCC77#32)))) (mulf (broadcastInDim Cert.Reference29Ideal.S512x1024 ![] Cert.Reference29Ideal.Gen.bcast_S_S512x1024 (constant Cert.Reference29Ideal.S_ .f32 0x3C23D70A#32)) w)) = delta s w u v := by
  funext i
  rw [delta_at, total_at, AdamW.delta, AdamW.first, AdamW.second]
  pointwise

theorem frame_kernel : Cert.quiescent_Kernel29 := fun m ρ _ => Cert.Kernel29.Gen.frame m ρ

theorem frame_ideal : Cert.quiescent_Kernel29Ideal := fun m ρ _ => Cert.Kernel29Ideal.Gen.frame m ρ

theorem frame_reference : Cert.quiescent_Reference29Ideal := by
  intro m g _
  hlo_run
  · intro _; simp
  · exact sem_eq_zero_of_no_sems (sig := Cert.Reference29Ideal.sig) (by decide) _

theorem algebraic : Cert.algebraic_Kernel29Ideal_Reference29Ideal := by
  pair_intro
  · run_from Cert.Kernel29Ideal.Gen.run_main m g
  · hlo_run
    · refine Eq.trans ?_ (result_total m c).symm
      exact reference_total _
    · refine Eq.trans ?_ (result_delta m c).symm
      exact reference_delta _ _ _ _
    · refine Eq.trans ?_ (result_first m c).symm
      exact reference_first _ _
    · refine Eq.trans ?_ (result_second m c).symm
      exact reference_second _ _

end Cert.Kernel29Ideal.Product

end
-- ==== Proof.Products.VectorsStep.lean ====
/- The optimiser's step of the packed vectors, gains, a bias and the loss: its value and its claims. -/
module

public import proofs.«01_k».proof.Defs
public import proofs.«01_k».proof.Proof.Gen.Kernel30.Frame
public import proofs.«01_k».proof.Proof.Gen.Kernel30Ideal.Frame
public import proofs.«01_k».proof.Proof.Gen.Kernel30Ideal.Points
public import proofs.«01_k».proof.Proof.Gen.Reference30Ideal
public import proofs.«01_k».proof.Proof.Products.AdamW
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel30Ideal.Product

open Cert.Kernel30Ideal Cert.Kernel30Ideal.Gen

variable (m : (ℓ : Loc nD τ sig) → Buf (Elt Ideal) ℓ)

/-- The sum of the devices' shares, entry by entry. -/
def total (s : FVec Ideal S8x16x1024 .f32) : FVec Ideal S16x1024 .f32 := fun i =>
  show EReal from ∑ k : Fin 8, s (ix3 k (i 0) (i 1))

theorem total_at (s : FVec Ideal S8x16x1024 .f32) (i : S16x1024.Idx) : (total s i : EReal) = ∑ k : Fin 8, s (ix3 k (i 0) (i 1)) := rfl

/-- The first moment after the step. -/
def first (s : FVec Ideal S8x16x1024 .f32) (u : FVec Ideal S16x1024 .f32) : FVec Ideal S16x1024 .f32 := fun i =>
  AdamW.first (total s i) (u i)

/-- The second moment after the step. -/
def second (s : FVec Ideal S8x16x1024 .f32) (v : FVec Ideal S16x1024 .f32) : FVec Ideal S16x1024 .f32 := fun i =>
  AdamW.second (total s i) (v i)

/-- The weight's change. -/
def delta (s : FVec Ideal S8x16x1024 .f32) (w u v : FVec Ideal S16x1024 .f32) : FVec Ideal S16x1024 .f32 := fun i =>
  AdamW.delta (total s i) (w i) (u i) (v i)

theorem first_at (s : FVec Ideal S8x16x1024 .f32) (u : FVec Ideal S16x1024 .f32) (i : S16x1024.Idx) :
    (first s u i : EReal) = AdamW.first (total s i) (u i) := rfl

theorem second_at (s : FVec Ideal S8x16x1024 .f32) (v : FVec Ideal S16x1024 .f32) (i : S16x1024.Idx) :
    (second s v i : EReal) = AdamW.second (total s i) (v i) := rfl

theorem delta_at (s : FVec Ideal S8x16x1024 .f32) (w u v : FVec Ideal S16x1024 .f32) (i : S16x1024.Idx) :
    (delta s w u v i : EReal) = AdamW.delta (total s i) (w i) (u i) (v i) := rfl

/-- The blocks that a grid point reads and writes. -/
theorem index_at : ∀ t : Fin cfg0.N, win0_0.index t = ![0, t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section
variable (x0 : FVec Ideal S8x16x1024 .f32) (x1 x2 x3 : FVec Ideal S16x1024 .f32) (y : S16x1024.Idx)

/-- One point's sum, at an entry. -/
theorem out_total : (out0_4 (F := Ideal) x0 x1 x2 x3 y : EReal) = ∑ k : Fin 8, x0 (ix3 k (y 0) (y 1)) := by
  unfold out0_4; frame_out
  rw [Fin.sum_univ_eight]
  pointwise [k0_pay1, k0_pay2, k0_pay3, k0_pay4, k0_pay5, k0_pay6]

/-- One point's first moment. -/
theorem out_first : (out0_6 (F := Ideal) x0 x1 x2 x3 y : EReal) = AdamW.first (∑ k : Fin 8, x0 (ix3 k (y 0) (y 1))) (x2 y) := by
  unfold out0_6; frame_out
  rw [Fin.sum_univ_eight]
  pointwise [k0_pay1, k0_pay2, k0_pay3, k0_pay4, k0_pay5, k0_pay6, AdamW.first]

/-- One point's second moment. -/
theorem out_second : (out0_7 (F := Ideal) x0 x1 x2 x3 y : EReal) = AdamW.second (∑ k : Fin 8, x0 (ix3 k (y 0) (y 1))) (x3 y) := by
  unfold out0_7; frame_out
  rw [Fin.sum_univ_eight]
  pointwise [k0_pay1, k0_pay2, k0_pay3, k0_pay4, k0_pay5, k0_pay6, AdamW.second]

/-- One point's change of the weight. -/
theorem out_delta : (out0_5 (F := Ideal) x0 x1 x2 x3 y : EReal) = AdamW.delta (∑ k : Fin 8, x0 (ix3 k (y 0) (y 1))) (x1 y) (x2 y) (x3 y) := by
  unfold out0_5; frame_out
  rw [Fin.sum_univ_eight]
  pointwise [k0_pay1, k0_pay2, k0_pay3, k0_pay4, k0_pay5, k0_pay6, AdamW.delta, AdamW.first, AdamW.second]
end

/-- A result array after every grid point. -/
theorem result_total (c : Dev nD) : (dats m 0 c).arrAt 4 (cfgs 0).N
    = total (m ((c : Thread nD τ).loc main_arg0)) := by
  refine (dats m 0 c).arrAt_eq_of_covers 4 _ (by decide +kernel) fun t _ y => ?_
  blk_simp
  rw [after0_4, out_total, total_at]
  obtain ⟨h0, h1, h2, h3, h4, h5, h6, h7⟩ := index_at t
  refine AdamW.sum_congr fun k => ?_
  all_goals blk_ext! [iblk, V, h0, h1, h2, h3, h4, h5, h6, h7]

/-- A result array after every grid point. -/
theorem result_first (c : Dev nD) : (dats m 0 c).arrAt 6 (cfgs 0).N
    = first (m ((c : Thread nD τ).loc main_arg0)) (m ((c : Thread nD τ).loc main_arg2)) := by
  refine (dats m 0 c).arrAt_eq_of_covers 6 _ (by decide +kernel) fun t _ y => ?_
  blk_simp
  rw [after0_6, out_first, first_at, total_at]
  obtain ⟨h0, h1, h2, h3, h4, h5, h6, h7⟩ := index_at t
  refine congrArg₂ AdamW.first (AdamW.sum_congr fun k => ?_) ?_
  all_goals blk_ext! [iblk, V, h0, h1, h2, h3, h4, h5, h6, h7]

/-- A result array after every grid point. -/
theorem result_second (c : Dev nD) : (dats m 0 c).arrAt 7 (cfgs 0).N
    = second (m ((c : Thread nD τ).loc main_arg0)) (m ((c : Thread nD τ).loc main_arg3)) := by
  refine (dats m 0 c).arrAt_eq_of_covers 7 _ (by decide +kernel) fun t _ y => ?_
  blk_simp
  rw [after0_7, out_second, second_at, total_at]
  obtain ⟨h0, h1, h2, h3, h4, h5, h6, h7⟩ := index_at t
  refine congrArg₂ AdamW.second (AdamW.sum_congr fun k => ?_) ?_
  all_goals blk_ext! [iblk, V, h0, h1, h2, h3, h4, h5, h6, h7]

/-- A result array after every grid point. -/
theorem result_delta (c : Dev nD) : (dats m 0 c).arrAt 5 (cfgs 0).N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out_delta, delta_at, total_at]
  obtain ⟨h0, h1, h2, h3, h4, h5, h6, h7⟩ := index_at t
  refine AdamW.delta_congr (AdamW.sum_congr fun k => ?_) ?_ ?_ ?_
  all_goals blk_ext! [iblk, V, h0, h1, h2, h3, h4, h5, h6, h7]

/-- What the reference computes is the same. -/
theorem reference_total (s : FVec Ideal Cert.Reference30Ideal.S8x16x1024 .f32)  :
    Host.reduceAdd s (constant Cert.Reference30Ideal.S_ .f32 0x00000000#32) Cert.Reference30Ideal.Gen.reducesTo_S8x16x1024_S16x1024_d0 Cert.Reference30Ideal.Gen.h_S_ = total s := by
  funext i
  rw [total_at]
  pointwise

/-- What the reference computes is the same. -/
theorem reference_first (s : FVec Ideal Cert.Reference30Ideal.S8x16x1024 .f32) (u : FVec Ideal Cert.Reference30Ideal.S16x1024 .f32) :
    addf (mulf (broadcastInDim Cert.Reference30Ideal.S16x1024 ![] Cert.Reference30Ideal.Gen.bcast_S_S16x1024 (constant Cert.Reference30Ideal.S_ .f32 0x3F666666#32)) u) (mulf (broadcastInDim Cert.Reference30Ideal.S16x1024 ![] Cert.Reference30Ideal.Gen.bcast_S_S16x1024 (constant Cert.Reference30Ideal.S_ .f32 0x3DCCCCCD#32)) (Host.reduceAdd s (constant Cert.Reference30Ideal.S_ .f32 0x00000000#32) Cert.Reference30Ideal.Gen.reducesTo_S8x16x1024_S16x1024_d0 Cert.Reference30Ideal.Gen.h_S_)) = first s u := by
  funext i
  rw [first_at, total_at, AdamW.first]
  pointwise

/-- What the reference computes is the same. -/
theorem reference_second (s : FVec Ideal Cert.Reference30Ideal.S8x16x1024 .f32) (v : FVec Ideal Cert.Reference30Ideal.S16x1024 .f32) :
    addf (mulf (broadcastInDim Cert.Reference30Ideal.S16x1024 ![] Cert.Reference30Ideal.Gen.bcast_S_S16x1024 (constant Cert.Reference30Ideal.S_ .f32 0x3F7FBE77#32)) v) (mulf (broadcastInDim Cert.Reference30Ideal.S16x1024 ![] Cert.Reference30Ideal.Gen.bcast_S_S16x1024 (constant Cert.Reference30Ideal.S_ .f32 0x3A83126F#32)) (mulf (Host.reduceAdd s (constant Cert.Reference30Ideal.S_ .f32 0x00000000#32) Cert.Reference30Ideal.Gen.reducesTo_S8x16x1024_S16x1024_d0 Cert.Reference30Ideal.Gen.h_S_) (Host.reduceAdd s (constant Cert.Reference30Ideal.S_ .f32 0x00000000#32) Cert.Reference30Ideal.Gen.reducesTo_S8x16x1024_S16x1024_d0 Cert.Reference30Ideal.Gen.h_S_))) = second s v := by
  funext i
  rw [second_at, total_at, AdamW.second]
  pointwise

/-- What the reference computes is the same. -/
theorem reference_delta (s : FVec Ideal Cert.Reference30Ideal.S8x16x1024 .f32) (w u v : FVec Ideal Cert.Reference30Ideal.S16x1024 .f32) :
    mulf (broadcastInDim Cert.Reference30Ideal.S16x1024 ![] Cert.Reference30Ideal.Gen.bcast_S_S16x1024 (constant Cert.Reference30Ideal.S_ .f32 0xBA83126F#32)) (addf (Host.divf (Host.divf (addf (mulf (broadcastInDim Cert.Reference30Ideal.S16x1024 ![] Cert.Reference30Ideal.Gen.bcast_S_S16x1024 (constant Cert.Reference30Ideal.S_ .f32 0x3F666666#32)) u) (mulf (broadcastInDim Cert.Reference30Ideal.S16x1024 ![] Cert.Reference30Ideal.Gen.bcast_S_S16x1024 (constant Cert.Reference30Ideal.S_ .f32 0x3DCCCCCD#32)) (Host.reduceAdd s (constant Cert.Reference30Ideal.S_ .f32 0x00000000#32) Cert.Reference30Ideal.Gen.reducesTo_S8x16x1024_S16x1024_d0 Cert.Reference30Ideal.Gen.h_S_))) (broadcastInDim Cert.Reference30Ideal.S16x1024 ![] Cert.Reference30Ideal.Gen.bcast_S_S16x1024 (constant Cert.Reference30Ideal.S_ .f32 0x3F26BD02#32))) (addf (Host.sqrt (Host.divf (addf (mulf (broadcastInDim Cert.Reference30Ideal.S16x1024 ![] Cert.Reference30Ideal.Gen.bcast_S_S16x1024 (constant Cert.Reference30Ideal.S_ .f32 0x3F7FBE77#32)) v) (mulf (broadcastInDim Cert.Reference30Ideal.S16x1024 ![] Cert.Reference30Ideal.Gen.bcast_S_S16x1024 (constant Cert.Reference30Ideal.S_ .f32 0x3A83126F#32)) (mulf (Host.reduceAdd s (constant Cert.Reference30Ideal.S_ .f32 0x00000000#32) Cert.Reference30Ideal.Gen.reducesTo_S8x16x1024_S16x1024_d0 Cert.Reference30Ideal.Gen.h_S_) (Host.reduceAdd s (constant Cert.Reference30Ideal.S_ .f32 0x00000000#32) Cert.Reference30Ideal.Gen.reducesTo_S8x16x1024_S16x1024_d0 Cert.Reference30Ideal.Gen.h_S_)))) (broadcastInDim Cert.Reference30Ideal.S16x1024 ![] Cert.Reference30Ideal.Gen.bcast_S_S16x1024 (constant Cert.Reference30Ideal.S_ .f32 0x3C231ACC#32)))) (broadcastInDim Cert.Reference30Ideal.S16x1024 ![] Cert.Reference30Ideal.Gen.bcast_S_S16x1024 (constant Cert.Reference30Ideal.S_ .f32 0x322BCC77#32)))) (mulf (broadcastInDim Cert.Reference30Ideal.S16x1024 ![] Cert.Reference30Ideal.Gen.bcast_S_S16x1024 (constant Cert.Reference30Ideal.S_ .f32 0x3C23D70A#32)) w)) = delta s w u v := by
  funext i
  rw [delta_at, total_at, AdamW.delta, AdamW.first, AdamW.second]
  pointwise

theorem frame_kernel : Cert.quiescent_Kernel30 := fun m ρ _ => Cert.Kernel30.Gen.frame m ρ

theorem frame_ideal : Cert.quiescent_Kernel30Ideal := fun m ρ _ => Cert.Kernel30Ideal.Gen.frame m ρ

theorem frame_reference : Cert.quiescent_Reference30Ideal := by
  intro m g _
  hlo_run
  · intro _; simp
  · exact sem_eq_zero_of_no_sems (sig := Cert.Reference30Ideal.sig) (by decide) _

theorem algebraic : Cert.algebraic_Kernel30Ideal_Reference30Ideal := by
  pair_intro
  · run_from Cert.Kernel30Ideal.Gen.run_main m g
  · hlo_run
    · refine Eq.trans ?_ (result_total m c).symm
      exact reference_total _
    · refine Eq.trans ?_ (result_delta m c).symm
      exact reference_delta _ _ _ _
    · refine Eq.trans ?_ (result_first m c).symm
      exact reference_first _ _
    · refine Eq.trans ?_ (result_second m c).symm
      exact reference_second _ _

end Cert.Kernel30Ideal.Product

end
-- ==== Proof.Products.InputStep.lean ====
/- The optimiser's step of the input weight (`w_in`): its value and its claims. -/
module

public import proofs.«01_k».proof.Defs
public import proofs.«01_k».proof.Proof.Gen.Kernel31.Frame
public import proofs.«01_k».proof.Proof.Gen.Kernel31Ideal.Frame
public import proofs.«01_k».proof.Proof.Gen.Kernel31Ideal.Points
public import proofs.«01_k».proof.Proof.Gen.Reference31Ideal
public import proofs.«01_k».proof.Proof.Products.AdamW
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel31Ideal.Product

open Cert.Kernel31Ideal Cert.Kernel31Ideal.Gen

variable (m : (ℓ : Loc nD τ sig) → Buf (Elt Ideal) ℓ)

/-- The sum of the devices' shares, entry by entry. -/
def total (s : FVec Ideal S1x1024x1600 .f32) : FVec Ideal S1024x1600 .f32 := fun i =>
  show EReal from ∑ k : Fin 1, s (ix3 k (i 0) (i 1))

theorem total_at (s : FVec Ideal S1x1024x1600 .f32) (i : S1024x1600.Idx) : (total s i : EReal) = ∑ k : Fin 1, s (ix3 k (i 0) (i 1)) := rfl

/-- The first moment after the step. -/
def first (s : FVec Ideal S1x1024x1600 .f32) (u : FVec Ideal S1024x1600 .f32) : FVec Ideal S1024x1600 .f32 := fun i =>
  AdamW.first (total s i) (u i)

/-- The second moment after the step. -/
def second (s : FVec Ideal S1x1024x1600 .f32) (v : FVec Ideal S1024x1600 .f32) : FVec Ideal S1024x1600 .f32 := fun i =>
  AdamW.second (total s i) (v i)

/-- The weight's change. -/
def delta (s : FVec Ideal S1x1024x1600 .f32) (w u v : FVec Ideal S1024x1600 .f32) : FVec Ideal S1024x1600 .f32 := fun i =>
  AdamW.delta (total s i) (w i) (u i) (v i)

theorem first_at (s : FVec Ideal S1x1024x1600 .f32) (u : FVec Ideal S1024x1600 .f32) (i : S1024x1600.Idx) :
    (first s u i : EReal) = AdamW.first (total s i) (u i) := rfl

theorem second_at (s : FVec Ideal S1x1024x1600 .f32) (v : FVec Ideal S1024x1600 .f32) (i : S1024x1600.Idx) :
    (second s v i : EReal) = AdamW.second (total s i) (v i) := rfl

theorem delta_at (s : FVec Ideal S1x1024x1600 .f32) (w u v : FVec Ideal S1024x1600 .f32) (i : S1024x1600.Idx) :
    (delta s w u v i : EReal) = AdamW.delta (total s i) (w i) (u i) (v i) := rfl

/-- The blocks that a grid point reads and writes. -/
theorem index_at : ∀ t : Fin cfg0.N, win0_0.index t = ![0, t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section
variable (x0 : FVec Ideal S1x32x1600 .f32) (x1 x2 x3 : FVec Ideal S32x1600 .f32) (y : S32x1600.Idx)

/-- One point's sum, at an entry. -/
theorem out_total : (out0_4 (F := Ideal) x0 x1 x2 x3 y : EReal) = ∑ k : Fin 1, x0 (ix3 k (y 0) (y 1)) := by
  unfold out0_4; frame_out
  rw [Fin.sum_univ_one]
  pointwise [k0_pay1, k0_pay2, k0_pay3, k0_pay4]

/-- One point's first moment. -/
theorem out_first : (out0_6 (F := Ideal) x0 x1 x2 x3 y : EReal) = AdamW.first (∑ k : Fin 1, x0 (ix3 k (y 0) (y 1))) (x2 y) := by
  unfold out0_6; frame_out
  rw [Fin.sum_univ_one]
  pointwise [k0_pay1, k0_pay2, k0_pay3, k0_pay4, AdamW.first]

/-- One point's second moment. -/
theorem out_second : (out0_7 (F := Ideal) x0 x1 x2 x3 y : EReal) = AdamW.second (∑ k : Fin 1, x0 (ix3 k (y 0) (y 1))) (x3 y) := by
  unfold out0_7; frame_out
  rw [Fin.sum_univ_one]
  pointwise [k0_pay1, k0_pay2, k0_pay3, k0_pay4, AdamW.second]

/-- One point's change of the weight. -/
theorem out_delta : (out0_5 (F := Ideal) x0 x1 x2 x3 y : EReal) = AdamW.delta (∑ k : Fin 1, x0 (ix3 k (y 0) (y 1))) (x1 y) (x2 y) (x3 y) := by
  unfold out0_5; frame_out
  rw [Fin.sum_univ_one]
  pointwise [k0_pay1, k0_pay2, k0_pay3, k0_pay4, AdamW.delta, AdamW.first, AdamW.second]
end

/-- A result array after every grid point. -/
theorem result_total (c : Dev nD) : (dats m 0 c).arrAt 4 (cfgs 0).N
    = total (m ((c : Thread nD τ).loc main_arg0)) := by
  refine (dats m 0 c).arrAt_eq_of_covers 4 _ (by decide +kernel) fun t _ y => ?_
  blk_simp
  rw [after0_4, out_total, total_at]
  obtain ⟨h0, h1, h2, h3, h4, h5, h6, h7⟩ := index_at t
  refine AdamW.sum_congr fun k => ?_
  all_goals blk_ext! [iblk, V, h0, h1, h2, h3, h4, h5, h6, h7]

/-- A result array after every grid point. -/
theorem result_first (c : Dev nD) : (dats m 0 c).arrAt 6 (cfgs 0).N
    = first (m ((c : Thread nD τ).loc main_arg0)) (m ((c : Thread nD τ).loc main_arg2)) := by
  refine (dats m 0 c).arrAt_eq_of_covers 6 _ (by decide +kernel) fun t _ y => ?_
  blk_simp
  rw [after0_6, out_first, first_at, total_at]
  obtain ⟨h0, h1, h2, h3, h4, h5, h6, h7⟩ := index_at t
  refine congrArg₂ AdamW.first (AdamW.sum_congr fun k => ?_) ?_
  all_goals blk_ext! [iblk, V, h0, h1, h2, h3, h4, h5, h6, h7]

/-- A result array after every grid point. -/
theorem result_second (c : Dev nD) : (dats m 0 c).arrAt 7 (cfgs 0).N
    = second (m ((c : Thread nD τ).loc main_arg0)) (m ((c : Thread nD τ).loc main_arg3)) := by
  refine (dats m 0 c).arrAt_eq_of_covers 7 _ (by decide +kernel) fun t _ y => ?_
  blk_simp
  rw [after0_7, out_second, second_at, total_at]
  obtain ⟨h0, h1, h2, h3, h4, h5, h6, h7⟩ := index_at t
  refine congrArg₂ AdamW.second (AdamW.sum_congr fun k => ?_) ?_
  all_goals blk_ext! [iblk, V, h0, h1, h2, h3, h4, h5, h6, h7]

/-- A result array after every grid point. -/
theorem result_delta (c : Dev nD) : (dats m 0 c).arrAt 5 (cfgs 0).N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out_delta, delta_at, total_at]
  obtain ⟨h0, h1, h2, h3, h4, h5, h6, h7⟩ := index_at t
  refine AdamW.delta_congr (AdamW.sum_congr fun k => ?_) ?_ ?_ ?_
  all_goals blk_ext! [iblk, V, h0, h1, h2, h3, h4, h5, h6, h7]

/-- What the reference computes is the same. -/
theorem reference_total (s : FVec Ideal Cert.Reference31Ideal.S1x1024x1600 .f32)  :
    Host.reduceAdd s (constant Cert.Reference31Ideal.S_ .f32 0x00000000#32) Cert.Reference31Ideal.Gen.reducesTo_S1x1024x1600_S1024x1600_d0 Cert.Reference31Ideal.Gen.h_S_ = total s := by
  funext i
  rw [total_at]
  pointwise

/-- What the reference computes is the same. -/
theorem reference_first (s : FVec Ideal Cert.Reference31Ideal.S1x1024x1600 .f32) (u : FVec Ideal Cert.Reference31Ideal.S1024x1600 .f32) :
    addf (mulf (broadcastInDim Cert.Reference31Ideal.S1024x1600 ![] Cert.Reference31Ideal.Gen.bcast_S_S1024x1600 (constant Cert.Reference31Ideal.S_ .f32 0x3F666666#32)) u) (mulf (broadcastInDim Cert.Reference31Ideal.S1024x1600 ![] Cert.Reference31Ideal.Gen.bcast_S_S1024x1600 (constant Cert.Reference31Ideal.S_ .f32 0x3DCCCCCD#32)) (Host.reduceAdd s (constant Cert.Reference31Ideal.S_ .f32 0x00000000#32) Cert.Reference31Ideal.Gen.reducesTo_S1x1024x1600_S1024x1600_d0 Cert.Reference31Ideal.Gen.h_S_)) = first s u := by
  funext i
  rw [first_at, total_at, AdamW.first]
  pointwise

/-- What the reference computes is the same. -/
theorem reference_second (s : FVec Ideal Cert.Reference31Ideal.S1x1024x1600 .f32) (v : FVec Ideal Cert.Reference31Ideal.S1024x1600 .f32) :
    addf (mulf (broadcastInDim Cert.Reference31Ideal.S1024x1600 ![] Cert.Reference31Ideal.Gen.bcast_S_S1024x1600 (constant Cert.Reference31Ideal.S_ .f32 0x3F7FBE77#32)) v) (mulf (broadcastInDim Cert.Reference31Ideal.S1024x1600 ![] Cert.Reference31Ideal.Gen.bcast_S_S1024x1600 (constant Cert.Reference31Ideal.S_ .f32 0x3A83126F#32)) (mulf (Host.reduceAdd s (constant Cert.Reference31Ideal.S_ .f32 0x00000000#32) Cert.Reference31Ideal.Gen.reducesTo_S1x1024x1600_S1024x1600_d0 Cert.Reference31Ideal.Gen.h_S_) (Host.reduceAdd s (constant Cert.Reference31Ideal.S_ .f32 0x00000000#32) Cert.Reference31Ideal.Gen.reducesTo_S1x1024x1600_S1024x1600_d0 Cert.Reference31Ideal.Gen.h_S_))) = second s v := by
  funext i
  rw [second_at, total_at, AdamW.second]
  pointwise

/-- What the reference computes is the same. -/
theorem reference_delta (s : FVec Ideal Cert.Reference31Ideal.S1x1024x1600 .f32) (w u v : FVec Ideal Cert.Reference31Ideal.S1024x1600 .f32) :
    mulf (broadcastInDim Cert.Reference31Ideal.S1024x1600 ![] Cert.Reference31Ideal.Gen.bcast_S_S1024x1600 (constant Cert.Reference31Ideal.S_ .f32 0xBA83126F#32)) (addf (Host.divf (Host.divf (addf (mulf (broadcastInDim Cert.Reference31Ideal.S1024x1600 ![] Cert.Reference31Ideal.Gen.bcast_S_S1024x1600 (constant Cert.Reference31Ideal.S_ .f32 0x3F666666#32)) u) (mulf (broadcastInDim Cert.Reference31Ideal.S1024x1600 ![] Cert.Reference31Ideal.Gen.bcast_S_S1024x1600 (constant Cert.Reference31Ideal.S_ .f32 0x3DCCCCCD#32)) (Host.reduceAdd s (constant Cert.Reference31Ideal.S_ .f32 0x00000000#32) Cert.Reference31Ideal.Gen.reducesTo_S1x1024x1600_S1024x1600_d0 Cert.Reference31Ideal.Gen.h_S_))) (broadcastInDim Cert.Reference31Ideal.S1024x1600 ![] Cert.Reference31Ideal.Gen.bcast_S_S1024x1600 (constant Cert.Reference31Ideal.S_ .f32 0x3F26BD02#32))) (addf (Host.sqrt (Host.divf (addf (mulf (broadcastInDim Cert.Reference31Ideal.S1024x1600 ![] Cert.Reference31Ideal.Gen.bcast_S_S1024x1600 (constant Cert.Reference31Ideal.S_ .f32 0x3F7FBE77#32)) v) (mulf (broadcastInDim Cert.Reference31Ideal.S1024x1600 ![] Cert.Reference31Ideal.Gen.bcast_S_S1024x1600 (constant Cert.Reference31Ideal.S_ .f32 0x3A83126F#32)) (mulf (Host.reduceAdd s (constant Cert.Reference31Ideal.S_ .f32 0x00000000#32) Cert.Reference31Ideal.Gen.reducesTo_S1x1024x1600_S1024x1600_d0 Cert.Reference31Ideal.Gen.h_S_) (Host.reduceAdd s (constant Cert.Reference31Ideal.S_ .f32 0x00000000#32) Cert.Reference31Ideal.Gen.reducesTo_S1x1024x1600_S1024x1600_d0 Cert.Reference31Ideal.Gen.h_S_)))) (broadcastInDim Cert.Reference31Ideal.S1024x1600 ![] Cert.Reference31Ideal.Gen.bcast_S_S1024x1600 (constant Cert.Reference31Ideal.S_ .f32 0x3C231ACC#32)))) (broadcastInDim Cert.Reference31Ideal.S1024x1600 ![] Cert.Reference31Ideal.Gen.bcast_S_S1024x1600 (constant Cert.Reference31Ideal.S_ .f32 0x322BCC77#32)))) (mulf (broadcastInDim Cert.Reference31Ideal.S1024x1600 ![] Cert.Reference31Ideal.Gen.bcast_S_S1024x1600 (constant Cert.Reference31Ideal.S_ .f32 0x3C23D70A#32)) w)) = delta s w u v := by
  funext i
  rw [delta_at, total_at, AdamW.delta, AdamW.first, AdamW.second]
  pointwise

theorem frame_kernel : Cert.quiescent_Kernel31 := fun m ρ _ => Cert.Kernel31.Gen.frame m ρ

theorem frame_ideal : Cert.quiescent_Kernel31Ideal := fun m ρ _ => Cert.Kernel31Ideal.Gen.frame m ρ

theorem frame_reference : Cert.quiescent_Reference31Ideal := by
  intro m g _
  hlo_run
  · intro _; simp
  · exact sem_eq_zero_of_no_sems (sig := Cert.Reference31Ideal.sig) (by decide) _

theorem algebraic : Cert.algebraic_Kernel31Ideal_Reference31Ideal := by
  pair_intro
  · run_from Cert.Kernel31Ideal.Gen.run_main m g
  · hlo_run
    · refine Eq.trans ?_ (result_total m c).symm
      exact reference_total _
    · refine Eq.trans ?_ (result_delta m c).symm
      exact reference_delta _ _ _ _
    · refine Eq.trans ?_ (result_first m c).symm
      exact reference_first _ _
    · refine Eq.trans ?_ (result_second m c).symm
      exact reference_second _ _

end Cert.Kernel31Ideal.Product

end
-- ==== Proof.Products.UpStep.lean ====
/- The optimiser's step of the channel mixer's first weight (`w_up`): its value and its claims. -/
module

public import proofs.«01_k».proof.Defs
public import proofs.«01_k».proof.Proof.Gen.Kernel32.Frame
public import proofs.«01_k».proof.Proof.Gen.Kernel32Ideal.Frame
public import proofs.«01_k».proof.Proof.Gen.Kernel32Ideal.Points
public import proofs.«01_k».proof.Proof.Gen.Reference32Ideal
public import proofs.«01_k».proof.Proof.Products.AdamW
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel32Ideal.Product

open Cert.Kernel32Ideal Cert.Kernel32Ideal.Gen

variable (m : (ℓ : Loc nD τ sig) → Buf (Elt Ideal) ℓ)

/-- The sum of the devices' shares, entry by entry. -/
def total (s : FVec Ideal S1x1024x512 .f32) : FVec Ideal S1024x512 .f32 := fun i =>
  show EReal from ∑ k : Fin 1, s (ix3 k (i 0) (i 1))

theorem total_at (s : FVec Ideal S1x1024x512 .f32) (i : S1024x512.Idx) : (total s i : EReal) = ∑ k : Fin 1, s (ix3 k (i 0) (i 1)) := rfl

/-- The first moment after the step. -/
def first (s : FVec Ideal S1x1024x512 .f32) (u : FVec Ideal S1024x512 .f32) : FVec Ideal S1024x512 .f32 := fun i =>
  AdamW.first (total s i) (u i)

/-- The second moment after the step. -/
def second (s : FVec Ideal S1x1024x512 .f32) (v : FVec Ideal S1024x512 .f32) : FVec Ideal S1024x512 .f32 := fun i =>
  AdamW.second (total s i) (v i)

/-- The weight's change. -/
def delta (s : FVec Ideal S1x1024x512 .f32) (w u v : FVec Ideal S1024x512 .f32) : FVec Ideal S1024x512 .f32 := fun i =>
  AdamW.delta (total s i) (w i) (u i) (v i)

theorem first_at (s : FVec Ideal S1x1024x512 .f32) (u : FVec Ideal S1024x512 .f32) (i : S1024x512.Idx) :
    (first s u i : EReal) = AdamW.first (total s i) (u i) := rfl

theorem second_at (s : FVec Ideal S1x1024x512 .f32) (v : FVec Ideal S1024x512 .f32) (i : S1024x512.Idx) :
    (second s v i : EReal) = AdamW.second (total s i) (v i) := rfl

theorem delta_at (s : FVec Ideal S1x1024x512 .f32) (w u v : FVec Ideal S1024x512 .f32) (i : S1024x512.Idx) :
    (delta s w u v i : EReal) = AdamW.delta (total s i) (w i) (u i) (v i) := rfl

/-- The blocks that a grid point reads and writes. -/
theorem index_at : ∀ t : Fin cfg0.N, win0_0.index t = ![0, t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section
variable (x0 : FVec Ideal S1x128x512 .f32) (x1 x2 x3 : FVec Ideal S128x512 .f32) (y : S128x512.Idx)

/-- One point's sum, at an entry. -/
theorem out_total : (out0_4 (F := Ideal) x0 x1 x2 x3 y : EReal) = ∑ k : Fin 1, x0 (ix3 k (y 0) (y 1)) := by
  unfold out0_4; frame_out
  rw [Fin.sum_univ_one]
  pointwise [k0_pay1, k0_pay2, k0_pay3, k0_pay4]

/-- One point's first moment. -/
theorem out_first : (out0_6 (F := Ideal) x0 x1 x2 x3 y : EReal) = AdamW.first (∑ k : Fin 1, x0 (ix3 k (y 0) (y 1))) (x2 y) := by
  unfold out0_6; frame_out
  rw [Fin.sum_univ_one]
  pointwise [k0_pay1, k0_pay2, k0_pay3, k0_pay4, AdamW.first]

/-- One point's second moment. -/
theorem out_second : (out0_7 (F := Ideal) x0 x1 x2 x3 y : EReal) = AdamW.second (∑ k : Fin 1, x0 (ix3 k (y 0) (y 1))) (x3 y) := by
  unfold out0_7; frame_out
  rw [Fin.sum_univ_one]
  pointwise [k0_pay1, k0_pay2, k0_pay3, k0_pay4, AdamW.second]

/-- One point's change of the weight. -/
theorem out_delta : (out0_5 (F := Ideal) x0 x1 x2 x3 y : EReal) = AdamW.delta (∑ k : Fin 1, x0 (ix3 k (y 0) (y 1))) (x1 y) (x2 y) (x3 y) := by
  unfold out0_5; frame_out
  rw [Fin.sum_univ_one]
  pointwise [k0_pay1, k0_pay2, k0_pay3, k0_pay4, AdamW.delta, AdamW.first, AdamW.second]
end

/-- A result array after every grid point. -/
theorem result_total (c : Dev nD) : (dats m 0 c).arrAt 4 (cfgs 0).N
    = total (m ((c : Thread nD τ).loc main_arg0)) := by
  refine (dats m 0 c).arrAt_eq_of_covers 4 _ (by decide +kernel) fun t _ y => ?_
  blk_simp
  rw [after0_4, out_total, total_at]
  obtain ⟨h0, h1, h2, h3, h4, h5, h6, h7⟩ := index_at t
  refine AdamW.sum_congr fun k => ?_
  all_goals blk_ext! [iblk, V, h0, h1, h2, h3, h4, h5, h6, h7]

/-- A result array after every grid point. -/
theorem result_first (c : Dev nD) : (dats m 0 c).arrAt 6 (cfgs 0).N
    = first (m ((c : Thread nD τ).loc main_arg0)) (m ((c : Thread nD τ).loc main_arg2)) := by
  refine (dats m 0 c).arrAt_eq_of_covers 6 _ (by decide +kernel) fun t _ y => ?_
  blk_simp
  rw [after0_6, out_first, first_at, total_at]
  obtain ⟨h0, h1, h2, h3, h4, h5, h6, h7⟩ := index_at t
  refine congrArg₂ AdamW.first (AdamW.sum_congr fun k => ?_) ?_
  all_goals blk_ext! [iblk, V, h0, h1, h2, h3, h4, h5, h6, h7]

/-- A result array after every grid point. -/
theorem result_second (c : Dev nD) : (dats m 0 c).arrAt 7 (cfgs 0).N
    = second (m ((c : Thread nD τ).loc main_arg0)) (m ((c : Thread nD τ).loc main_arg3)) := by
  refine (dats m 0 c).arrAt_eq_of_covers 7 _ (by decide +kernel) fun t _ y => ?_
  blk_simp
  rw [after0_7, out_second, second_at, total_at]
  obtain ⟨h0, h1, h2, h3, h4, h5, h6, h7⟩ := index_at t
  refine congrArg₂ AdamW.second (AdamW.sum_congr fun k => ?_) ?_
  all_goals blk_ext! [iblk, V, h0, h1, h2, h3, h4, h5, h6, h7]

/-- A result array after every grid point. -/
theorem result_delta (c : Dev nD) : (dats m 0 c).arrAt 5 (cfgs 0).N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out_delta, delta_at, total_at]
  obtain ⟨h0, h1, h2, h3, h4, h5, h6, h7⟩ := index_at t
  refine AdamW.delta_congr (AdamW.sum_congr fun k => ?_) ?_ ?_ ?_
  all_goals blk_ext! [iblk, V, h0, h1, h2, h3, h4, h5, h6, h7]

/-- What the reference computes is the same. -/
theorem reference_total (s : FVec Ideal Cert.Reference32Ideal.S1x1024x512 .f32)  :
    Host.reduceAdd s (constant Cert.Reference32Ideal.S_ .f32 0x00000000#32) Cert.Reference32Ideal.Gen.reducesTo_S1x1024x512_S1024x512_d0 Cert.Reference32Ideal.Gen.h_S_ = total s := by
  funext i
  rw [total_at]
  pointwise

/-- What the reference computes is the same. -/
theorem reference_first (s : FVec Ideal Cert.Reference32Ideal.S1x1024x512 .f32) (u : FVec Ideal Cert.Reference32Ideal.S1024x512 .f32) :
    addf (mulf (broadcastInDim Cert.Reference32Ideal.S1024x512 ![] Cert.Reference32Ideal.Gen.bcast_S_S1024x512 (constant Cert.Reference32Ideal.S_ .f32 0x3F666666#32)) u) (mulf (broadcastInDim Cert.Reference32Ideal.S1024x512 ![] Cert.Reference32Ideal.Gen.bcast_S_S1024x512 (constant Cert.Reference32Ideal.S_ .f32 0x3DCCCCCD#32)) (Host.reduceAdd s (constant Cert.Reference32Ideal.S_ .f32 0x00000000#32) Cert.Reference32Ideal.Gen.reducesTo_S1x1024x512_S1024x512_d0 Cert.Reference32Ideal.Gen.h_S_)) = first s u := by
  funext i
  rw [first_at, total_at, AdamW.first]
  pointwise

/-- What the reference computes is the same. -/
theorem reference_second (s : FVec Ideal Cert.Reference32Ideal.S1x1024x512 .f32) (v : FVec Ideal Cert.Reference32Ideal.S1024x512 .f32) :
    addf (mulf (broadcastInDim Cert.Reference32Ideal.S1024x512 ![] Cert.Reference32Ideal.Gen.bcast_S_S1024x512 (constant Cert.Reference32Ideal.S_ .f32 0x3F7FBE77#32)) v) (mulf (broadcastInDim Cert.Reference32Ideal.S1024x512 ![] Cert.Reference32Ideal.Gen.bcast_S_S1024x512 (constant Cert.Reference32Ideal.S_ .f32 0x3A83126F#32)) (mulf (Host.reduceAdd s (constant Cert.Reference32Ideal.S_ .f32 0x00000000#32) Cert.Reference32Ideal.Gen.reducesTo_S1x1024x512_S1024x512_d0 Cert.Reference32Ideal.Gen.h_S_) (Host.reduceAdd s (constant Cert.Reference32Ideal.S_ .f32 0x00000000#32) Cert.Reference32Ideal.Gen.reducesTo_S1x1024x512_S1024x512_d0 Cert.Reference32Ideal.Gen.h_S_))) = second s v := by
  funext i
  rw [second_at, total_at, AdamW.second]
  pointwise

/-- What the reference computes is the same. -/
theorem reference_delta (s : FVec Ideal Cert.Reference32Ideal.S1x1024x512 .f32) (w u v : FVec Ideal Cert.Reference32Ideal.S1024x512 .f32) :
    mulf (broadcastInDim Cert.Reference32Ideal.S1024x512 ![] Cert.Reference32Ideal.Gen.bcast_S_S1024x512 (constant Cert.Reference32Ideal.S_ .f32 0xBA83126F#32)) (addf (Host.divf (Host.divf (addf (mulf (broadcastInDim Cert.Reference32Ideal.S1024x512 ![] Cert.Reference32Ideal.Gen.bcast_S_S1024x512 (constant Cert.Reference32Ideal.S_ .f32 0x3F666666#32)) u) (mulf (broadcastInDim Cert.Reference32Ideal.S1024x512 ![] Cert.Reference32Ideal.Gen.bcast_S_S1024x512 (constant Cert.Reference32Ideal.S_ .f32 0x3DCCCCCD#32)) (Host.reduceAdd s (constant Cert.Reference32Ideal.S_ .f32 0x00000000#32) Cert.Reference32Ideal.Gen.reducesTo_S1x1024x512_S1024x512_d0 Cert.Reference32Ideal.Gen.h_S_))) (broadcastInDim Cert.Reference32Ideal.S1024x512 ![] Cert.Reference32Ideal.Gen.bcast_S_S1024x512 (constant Cert.Reference32Ideal.S_ .f32 0x3F26BD02#32))) (addf (Host.sqrt (Host.divf (addf (mulf (broadcastInDim Cert.Reference32Ideal.S1024x512 ![] Cert.Reference32Ideal.Gen.bcast_S_S1024x512 (constant Cert.Reference32Ideal.S_ .f32 0x3F7FBE77#32)) v) (mulf (broadcastInDim Cert.Reference32Ideal.S1024x512 ![] Cert.Reference32Ideal.Gen.bcast_S_S1024x512 (constant Cert.Reference32Ideal.S_ .f32 0x3A83126F#32)) (mulf (Host.reduceAdd s (constant Cert.Reference32Ideal.S_ .f32 0x00000000#32) Cert.Reference32Ideal.Gen.reducesTo_S1x1024x512_S1024x512_d0 Cert.Reference32Ideal.Gen.h_S_) (Host.reduceAdd s (constant Cert.Reference32Ideal.S_ .f32 0x00000000#32) Cert.Reference32Ideal.Gen.reducesTo_S1x1024x512_S1024x512_d0 Cert.Reference32Ideal.Gen.h_S_)))) (broadcastInDim Cert.Reference32Ideal.S1024x512 ![] Cert.Reference32Ideal.Gen.bcast_S_S1024x512 (constant Cert.Reference32Ideal.S_ .f32 0x3C231ACC#32)))) (broadcastInDim Cert.Reference32Ideal.S1024x512 ![] Cert.Reference32Ideal.Gen.bcast_S_S1024x512 (constant Cert.Reference32Ideal.S_ .f32 0x322BCC77#32)))) (mulf (broadcastInDim Cert.Reference32Ideal.S1024x512 ![] Cert.Reference32Ideal.Gen.bcast_S_S1024x512 (constant Cert.Reference32Ideal.S_ .f32 0x3C23D70A#32)) w)) = delta s w u v := by
  funext i
  rw [delta_at, total_at, AdamW.delta, AdamW.first, AdamW.second]
  pointwise

theorem frame_kernel : Cert.quiescent_Kernel32 := fun m ρ _ => Cert.Kernel32.Gen.frame m ρ

theorem frame_ideal : Cert.quiescent_Kernel32Ideal := fun m ρ _ => Cert.Kernel32Ideal.Gen.frame m ρ

theorem frame_reference : Cert.quiescent_Reference32Ideal := by
  intro m g _
  hlo_run
  · intro _; simp
  · exact sem_eq_zero_of_no_sems (sig := Cert.Reference32Ideal.sig) (by decide) _

theorem algebraic : Cert.algebraic_Kernel32Ideal_Reference32Ideal := by
  pair_intro
  · run_from Cert.Kernel32Ideal.Gen.run_main m g
  · hlo_run
    · refine Eq.trans ?_ (result_total m c).symm
      exact reference_total _
    · refine Eq.trans ?_ (result_delta m c).symm
      exact reference_delta _ _ _ _
    · refine Eq.trans ?_ (result_first m c).symm
      exact reference_first _ _
    · refine Eq.trans ?_ (result_second m c).symm
      exact reference_second _ _

end Cert.Kernel32Ideal.Product

end
-- ==== Proof.Products.DilatedOutStep.lean ====
/- The optimiser's step of the dilated output weight (`w_dil_out`): its value and its claims. -/
module

public import proofs.«01_k».proof.Defs
public import proofs.«01_k».proof.Proof.Gen.Kernel33.Frame
public import proofs.«01_k».proof.Proof.Gen.Kernel33Ideal.Frame
public import proofs.«01_k».proof.Proof.Gen.Kernel33Ideal.Points
public import proofs.«01_k».proof.Proof.Gen.Reference33Ideal
public import proofs.«01_k».proof.Proof.Products.AdamW
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel33Ideal.Product

open Cert.Kernel33Ideal Cert.Kernel33Ideal.Gen

variable (m : (ℓ : Loc nD τ sig) → Buf (Elt Ideal) ℓ)

/-- The sum of the devices' shares, entry by entry. -/
def total (s : FVec Ideal S1x512x128 .f32) : FVec Ideal S512x128 .f32 := fun i =>
  show EReal from ∑ k : Fin 1, s (ix3 k (i 0) (i 1))

theorem total_at (s : FVec Ideal S1x512x128 .f32) (i : S512x128.Idx) : (total s i : EReal) = ∑ k : Fin 1, s (ix3 k (i 0) (i 1)) := rfl

/-- The first moment after the step. -/
def first (s : FVec Ideal S1x512x128 .f32) (u : FVec Ideal S512x128 .f32) : FVec Ideal S512x128 .f32 := fun i =>
  AdamW.first (total s i) (u i)

/-- The second moment after the step. -/
def second (s : FVec Ideal S1x512x128 .f32) (v : FVec Ideal S512x128 .f32) : FVec Ideal S512x128 .f32 := fun i =>
  AdamW.second (total s i) (v i)

/-- The weight's change. -/
def delta (s : FVec Ideal S1x512x128 .f32) (w u v : FVec Ideal S512x128 .f32) : FVec Ideal S512x128 .f32 := fun i =>
  AdamW.delta (total s i) (w i) (u i) (v i)

theorem first_at (s : FVec Ideal S1x512x128 .f32) (u : FVec Ideal S512x128 .f32) (i : S512x128.Idx) :
    (first s u i : EReal) = AdamW.first (total s i) (u i) := rfl

theorem second_at (s : FVec Ideal S1x512x128 .f32) (v : FVec Ideal S512x128 .f32) (i : S512x128.Idx) :
    (second s v i : EReal) = AdamW.second (total s i) (v i) := rfl

theorem delta_at (s : FVec Ideal S1x512x128 .f32) (w u v : FVec Ideal S512x128 .f32) (i : S512x128.Idx) :
    (delta s w u v i : EReal) = AdamW.delta (total s i) (w i) (u i) (v i) := rfl

/-- The blocks that a grid point reads and writes. -/
theorem index_at : ∀ t : Fin cfg0.N, win0_0.index t = ![0, t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section
variable (x0 : FVec Ideal S1x512x128 .f32) (x1 x2 x3 : FVec Ideal S512x128 .f32) (y : S512x128.Idx)

/-- One point's sum, at an entry. -/
theorem out_total : (out0_4 (F := Ideal) x0 x1 x2 x3 y : EReal) = ∑ k : Fin 1, x0 (ix3 k (y 0) (y 1)) := by
  unfold out0_4; frame_out
  rw [Fin.sum_univ_one]
  pointwise [k0_pay1, k0_pay2, k0_pay3, k0_pay4]

/-- One point's first moment. -/
theorem out_first : (out0_6 (F := Ideal) x0 x1 x2 x3 y : EReal) = AdamW.first (∑ k : Fin 1, x0 (ix3 k (y 0) (y 1))) (x2 y) := by
  unfold out0_6; frame_out
  rw [Fin.sum_univ_one]
  pointwise [k0_pay1, k0_pay2, k0_pay3, k0_pay4, AdamW.first]

/-- One point's second moment. -/
theorem out_second : (out0_7 (F := Ideal) x0 x1 x2 x3 y : EReal) = AdamW.second (∑ k : Fin 1, x0 (ix3 k (y 0) (y 1))) (x3 y) := by
  unfold out0_7; frame_out
  rw [Fin.sum_univ_one]
  pointwise [k0_pay1, k0_pay2, k0_pay3, k0_pay4, AdamW.second]

/-- One point's change of the weight. -/
theorem out_delta : (out0_5 (F := Ideal) x0 x1 x2 x3 y : EReal) = AdamW.delta (∑ k : Fin 1, x0 (ix3 k (y 0) (y 1))) (x1 y) (x2 y) (x3 y) := by
  unfold out0_5; frame_out
  rw [Fin.sum_univ_one]
  pointwise [k0_pay1, k0_pay2, k0_pay3, k0_pay4, AdamW.delta, AdamW.first, AdamW.second]
end

/-- A result array after every grid point. -/
theorem result_total (c : Dev nD) : (dats m 0 c).arrAt 4 (cfgs 0).N
    = total (m ((c : Thread nD τ).loc main_arg0)) := by
  refine (dats m 0 c).arrAt_eq_of_covers 4 _ (by decide +kernel) fun t _ y => ?_
  blk_simp
  rw [after0_4, out_total, total_at]
  obtain ⟨h0, h1, h2, h3, h4, h5, h6, h7⟩ := index_at t
  refine AdamW.sum_congr fun k => ?_
  all_goals blk_ext! [iblk, V, h0, h1, h2, h3, h4, h5, h6, h7]

/-- A result array after every grid point. -/
theorem result_first (c : Dev nD) : (dats m 0 c).arrAt 6 (cfgs 0).N
    = first (m ((c : Thread nD τ).loc main_arg0)) (m ((c : Thread nD τ).loc main_arg2)) := by
  refine (dats m 0 c).arrAt_eq_of_covers 6 _ (by decide +kernel) fun t _ y => ?_
  blk_simp
  rw [after0_6, out_first, first_at, total_at]
  obtain ⟨h0, h1, h2, h3, h4, h5, h6, h7⟩ := index_at t
  refine congrArg₂ AdamW.first (AdamW.sum_congr fun k => ?_) ?_
  all_goals blk_ext! [iblk, V, h0, h1, h2, h3, h4, h5, h6, h7]

/-- A result array after every grid point. -/
theorem result_second (c : Dev nD) : (dats m 0 c).arrAt 7 (cfgs 0).N
    = second (m ((c : Thread nD τ).loc main_arg0)) (m ((c : Thread nD τ).loc main_arg3)) := by
  refine (dats m 0 c).arrAt_eq_of_covers 7 _ (by decide +kernel) fun t _ y => ?_
  blk_simp
  rw [after0_7, out_second, second_at, total_at]
  obtain ⟨h0, h1, h2, h3, h4, h5, h6, h7⟩ := index_at t
  refine congrArg₂ AdamW.second (AdamW.sum_congr fun k => ?_) ?_
  all_goals blk_ext! [iblk, V, h0, h1, h2, h3, h4, h5, h6, h7]

/-- A result array after every grid point. -/
theorem result_delta (c : Dev nD) : (dats m 0 c).arrAt 5 (cfgs 0).N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out_delta, delta_at, total_at]
  obtain ⟨h0, h1, h2, h3, h4, h5, h6, h7⟩ := index_at t
  refine AdamW.delta_congr (AdamW.sum_congr fun k => ?_) ?_ ?_ ?_
  all_goals blk_ext! [iblk, V, h0, h1, h2, h3, h4, h5, h6, h7]

/-- What the reference computes is the same. -/
theorem reference_total (s : FVec Ideal Cert.Reference33Ideal.S1x512x128 .f32)  :
    Host.reduceAdd s (constant Cert.Reference33Ideal.S_ .f32 0x00000000#32) Cert.Reference33Ideal.Gen.reducesTo_S1x512x128_S512x128_d0 Cert.Reference33Ideal.Gen.h_S_ = total s := by
  funext i
  rw [total_at]
  pointwise

/-- What the reference computes is the same. -/
theorem reference_first (s : FVec Ideal Cert.Reference33Ideal.S1x512x128 .f32) (u : FVec Ideal Cert.Reference33Ideal.S512x128 .f32) :
    addf (mulf (broadcastInDim Cert.Reference33Ideal.S512x128 ![] Cert.Reference33Ideal.Gen.bcast_S_S512x128 (constant Cert.Reference33Ideal.S_ .f32 0x3F666666#32)) u) (mulf (broadcastInDim Cert.Reference33Ideal.S512x128 ![] Cert.Reference33Ideal.Gen.bcast_S_S512x128 (constant Cert.Reference33Ideal.S_ .f32 0x3DCCCCCD#32)) (Host.reduceAdd s (constant Cert.Reference33Ideal.S_ .f32 0x00000000#32) Cert.Reference33Ideal.Gen.reducesTo_S1x512x128_S512x128_d0 Cert.Reference33Ideal.Gen.h_S_)) = first s u := by
  funext i
  rw [first_at, total_at, AdamW.first]
  pointwise

/-- What the reference computes is the same. -/
theorem reference_second (s : FVec Ideal Cert.Reference33Ideal.S1x512x128 .f32) (v : FVec Ideal Cert.Reference33Ideal.S512x128 .f32) :
    addf (mulf (broadcastInDim Cert.Reference33Ideal.S512x128 ![] Cert.Reference33Ideal.Gen.bcast_S_S512x128 (constant Cert.Reference33Ideal.S_ .f32 0x3F7FBE77#32)) v) (mulf (broadcastInDim Cert.Reference33Ideal.S512x128 ![] Cert.Reference33Ideal.Gen.bcast_S_S512x128 (constant Cert.Reference33Ideal.S_ .f32 0x3A83126F#32)) (mulf (Host.reduceAdd s (constant Cert.Reference33Ideal.S_ .f32 0x00000000#32) Cert.Reference33Ideal.Gen.reducesTo_S1x512x128_S512x128_d0 Cert.Reference33Ideal.Gen.h_S_) (Host.reduceAdd s (constant Cert.Reference33Ideal.S_ .f32 0x00000000#32) Cert.Reference33Ideal.Gen.reducesTo_S1x512x128_S512x128_d0 Cert.Reference33Ideal.Gen.h_S_))) = second s v := by
  funext i
  rw [second_at, total_at, AdamW.second]
  pointwise

/-- What the reference computes is the same. -/
theorem reference_delta (s : FVec Ideal Cert.Reference33Ideal.S1x512x128 .f32) (w u v : FVec Ideal Cert.Reference33Ideal.S512x128 .f32) :
    mulf (broadcastInDim Cert.Reference33Ideal.S512x128 ![] Cert.Reference33Ideal.Gen.bcast_S_S512x128 (constant Cert.Reference33Ideal.S_ .f32 0xBA83126F#32)) (addf (Host.divf (Host.divf (addf (mulf (broadcastInDim Cert.Reference33Ideal.S512x128 ![] Cert.Reference33Ideal.Gen.bcast_S_S512x128 (constant Cert.Reference33Ideal.S_ .f32 0x3F666666#32)) u) (mulf (broadcastInDim Cert.Reference33Ideal.S512x128 ![] Cert.Reference33Ideal.Gen.bcast_S_S512x128 (constant Cert.Reference33Ideal.S_ .f32 0x3DCCCCCD#32)) (Host.reduceAdd s (constant Cert.Reference33Ideal.S_ .f32 0x00000000#32) Cert.Reference33Ideal.Gen.reducesTo_S1x512x128_S512x128_d0 Cert.Reference33Ideal.Gen.h_S_))) (broadcastInDim Cert.Reference33Ideal.S512x128 ![] Cert.Reference33Ideal.Gen.bcast_S_S512x128 (constant Cert.Reference33Ideal.S_ .f32 0x3F26BD02#32))) (addf (Host.sqrt (Host.divf (addf (mulf (broadcastInDim Cert.Reference33Ideal.S512x128 ![] Cert.Reference33Ideal.Gen.bcast_S_S512x128 (constant Cert.Reference33Ideal.S_ .f32 0x3F7FBE77#32)) v) (mulf (broadcastInDim Cert.Reference33Ideal.S512x128 ![] Cert.Reference33Ideal.Gen.bcast_S_S512x128 (constant Cert.Reference33Ideal.S_ .f32 0x3A83126F#32)) (mulf (Host.reduceAdd s (constant Cert.Reference33Ideal.S_ .f32 0x00000000#32) Cert.Reference33Ideal.Gen.reducesTo_S1x512x128_S512x128_d0 Cert.Reference33Ideal.Gen.h_S_) (Host.reduceAdd s (constant Cert.Reference33Ideal.S_ .f32 0x00000000#32) Cert.Reference33Ideal.Gen.reducesTo_S1x512x128_S512x128_d0 Cert.Reference33Ideal.Gen.h_S_)))) (broadcastInDim Cert.Reference33Ideal.S512x128 ![] Cert.Reference33Ideal.Gen.bcast_S_S512x128 (constant Cert.Reference33Ideal.S_ .f32 0x3C231ACC#32)))) (broadcastInDim Cert.Reference33Ideal.S512x128 ![] Cert.Reference33Ideal.Gen.bcast_S_S512x128 (constant Cert.Reference33Ideal.S_ .f32 0x322BCC77#32)))) (mulf (broadcastInDim Cert.Reference33Ideal.S512x128 ![] Cert.Reference33Ideal.Gen.bcast_S_S512x128 (constant Cert.Reference33Ideal.S_ .f32 0x3C23D70A#32)) w)) = delta s w u v := by
  funext i
  rw [delta_at, total_at, AdamW.delta, AdamW.first, AdamW.second]
  pointwise

theorem frame_kernel : Cert.quiescent_Kernel33 := fun m ρ _ => Cert.Kernel33.Gen.frame m ρ

theorem frame_ideal : Cert.quiescent_Kernel33Ideal := fun m ρ _ => Cert.Kernel33Ideal.Gen.frame m ρ

theorem frame_reference : Cert.quiescent_Reference33Ideal := by
  intro m g _
  hlo_run
  · intro _; simp
  · exact sem_eq_zero_of_no_sems (sig := Cert.Reference33Ideal.sig) (by decide) _

theorem algebraic : Cert.algebraic_Kernel33Ideal_Reference33Ideal := by
  pair_intro
  · run_from Cert.Kernel33Ideal.Gen.run_main m g
  · hlo_run
    · refine Eq.trans ?_ (result_total m c).symm
      exact reference_total _
    · refine Eq.trans ?_ (result_delta m c).symm
      exact reference_delta _ _ _ _
    · refine Eq.trans ?_ (result_first m c).symm
      exact reference_first _ _
    · refine Eq.trans ?_ (result_second m c).symm
      exact reference_second _ _

end Cert.Kernel33Ideal.Product

end
-- ==== Proof.Products.EmbeddingStep.lean ====
/- The optimiser's step of the embedding's weight (`w_ple_in`): its value and its claims. -/
module

public import proofs.«01_k».proof.Defs
public import proofs.«01_k».proof.Proof.Gen.Kernel34.Frame
public import proofs.«01_k».proof.Proof.Gen.Kernel34Ideal.Frame
public import proofs.«01_k».proof.Proof.Gen.Kernel34Ideal.Points
public import proofs.«01_k».proof.Proof.Gen.Reference34Ideal
public import proofs.«01_k».proof.Proof.Products.AdamW
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel34Ideal.Product

open Cert.Kernel34Ideal Cert.Kernel34Ideal.Gen

variable (m : (ℓ : Loc nD τ sig) → Buf (Elt Ideal) ℓ)

/-- The sum of the devices' shares, entry by entry. -/
def total (s : FVec Ideal S1x256x128 .f32) : FVec Ideal S256x128 .f32 := fun i =>
  show EReal from ∑ k : Fin 1, s (ix3 k (i 0) (i 1))

theorem total_at (s : FVec Ideal S1x256x128 .f32) (i : S256x128.Idx) : (total s i : EReal) = ∑ k : Fin 1, s (ix3 k (i 0) (i 1)) := rfl

/-- The first moment after the step. -/
def first (s : FVec Ideal S1x256x128 .f32) (u : FVec Ideal S256x128 .f32) : FVec Ideal S256x128 .f32 := fun i =>
  AdamW.first (total s i) (u i)

/-- The second moment after the step. -/
def second (s : FVec Ideal S1x256x128 .f32) (v : FVec Ideal S256x128 .f32) : FVec Ideal S256x128 .f32 := fun i =>
  AdamW.second (total s i) (v i)

/-- The weight's change. -/
def delta (s : FVec Ideal S1x256x128 .f32) (w u v : FVec Ideal S256x128 .f32) : FVec Ideal S256x128 .f32 := fun i =>
  AdamW.delta (total s i) (w i) (u i) (v i)

theorem first_at (s : FVec Ideal S1x256x128 .f32) (u : FVec Ideal S256x128 .f32) (i : S256x128.Idx) :
    (first s u i : EReal) = AdamW.first (total s i) (u i) := rfl

theorem second_at (s : FVec Ideal S1x256x128 .f32) (v : FVec Ideal S256x128 .f32) (i : S256x128.Idx) :
    (second s v i : EReal) = AdamW.second (total s i) (v i) := rfl

theorem delta_at (s : FVec Ideal S1x256x128 .f32) (w u v : FVec Ideal S256x128 .f32) (i : S256x128.Idx) :
    (delta s w u v i : EReal) = AdamW.delta (total s i) (w i) (u i) (v i) := rfl

/-- The blocks that a grid point reads and writes. -/
theorem index_at : ∀ t : Fin cfg0.N, win0_0.index t = ![0, t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section
variable (x0 : FVec Ideal S1x256x128 .f32) (x1 x2 x3 : FVec Ideal S256x128 .f32) (y : S256x128.Idx)

/-- One point's sum, at an entry. -/
theorem out_total : (out0_4 (F := Ideal) x0 x1 x2 x3 y : EReal) = ∑ k : Fin 1, x0 (ix3 k (y 0) (y 1)) := by
  unfold out0_4; frame_out
  rw [Fin.sum_univ_one]
  pointwise [k0_pay1, k0_pay2, k0_pay3, k0_pay4]

/-- One point's first moment. -/
theorem out_first : (out0_6 (F := Ideal) x0 x1 x2 x3 y : EReal) = AdamW.first (∑ k : Fin 1, x0 (ix3 k (y 0) (y 1))) (x2 y) := by
  unfold out0_6; frame_out
  rw [Fin.sum_univ_one]
  pointwise [k0_pay1, k0_pay2, k0_pay3, k0_pay4, AdamW.first]

/-- One point's second moment. -/
theorem out_second : (out0_7 (F := Ideal) x0 x1 x2 x3 y : EReal) = AdamW.second (∑ k : Fin 1, x0 (ix3 k (y 0) (y 1))) (x3 y) := by
  unfold out0_7; frame_out
  rw [Fin.sum_univ_one]
  pointwise [k0_pay1, k0_pay2, k0_pay3, k0_pay4, AdamW.second]

/-- One point's change of the weight. -/
theorem out_delta : (out0_5 (F := Ideal) x0 x1 x2 x3 y : EReal) = AdamW.delta (∑ k : Fin 1, x0 (ix3 k (y 0) (y 1))) (x1 y) (x2 y) (x3 y) := by
  unfold out0_5; frame_out
  rw [Fin.sum_univ_one]
  pointwise [k0_pay1, k0_pay2, k0_pay3, k0_pay4, AdamW.delta, AdamW.first, AdamW.second]
end

/-- A result array after every grid point. -/
theorem result_total (c : Dev nD) : (dats m 0 c).arrAt 4 (cfgs 0).N
    = total (m ((c : Thread nD τ).loc main_arg0)) := by
  refine (dats m 0 c).arrAt_eq_of_covers 4 _ (by decide +kernel) fun t _ y => ?_
  blk_simp
  rw [after0_4, out_total, total_at]
  obtain ⟨h0, h1, h2, h3, h4, h5, h6, h7⟩ := index_at t
  refine AdamW.sum_congr fun k => ?_
  all_goals blk_ext! [iblk, V, h0, h1, h2, h3, h4, h5, h6, h7]

/-- A result array after every grid point. -/
theorem result_first (c : Dev nD) : (dats m 0 c).arrAt 6 (cfgs 0).N
    = first (m ((c : Thread nD τ).loc main_arg0)) (m ((c : Thread nD τ).loc main_arg2)) := by
  refine (dats m 0 c).arrAt_eq_of_covers 6 _ (by decide +kernel) fun t _ y => ?_
  blk_simp
  rw [after0_6, out_first, first_at, total_at]
  obtain ⟨h0, h1, h2, h3, h4, h5, h6, h7⟩ := index_at t
  refine congrArg₂ AdamW.first (AdamW.sum_congr fun k => ?_) ?_
  all_goals blk_ext! [iblk, V, h0, h1, h2, h3, h4, h5, h6, h7]

/-- A result array after every grid point. -/
theorem result_second (c : Dev nD) : (dats m 0 c).arrAt 7 (cfgs 0).N
    = second (m ((c : Thread nD τ).loc main_arg0)) (m ((c : Thread nD τ).loc main_arg3)) := by
  refine (dats m 0 c).arrAt_eq_of_covers 7 _ (by decide +kernel) fun t _ y => ?_
  blk_simp
  rw [after0_7, out_second, second_at, total_at]
  obtain ⟨h0, h1, h2, h3, h4, h5, h6, h7⟩ := index_at t
  refine congrArg₂ AdamW.second (AdamW.sum_congr fun k => ?_) ?_
  all_goals blk_ext! [iblk, V, h0, h1, h2, h3, h4, h5, h6, h7]

/-- A result array after every grid point. -/
theorem result_delta (c : Dev nD) : (dats m 0 c).arrAt 5 (cfgs 0).N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out_delta, delta_at, total_at]
  obtain ⟨h0, h1, h2, h3, h4, h5, h6, h7⟩ := index_at t
  refine AdamW.delta_congr (AdamW.sum_congr fun k => ?_) ?_ ?_ ?_
  all_goals blk_ext! [iblk, V, h0, h1, h2, h3, h4, h5, h6, h7]

/-- What the reference computes is the same. -/
theorem reference_total (s : FVec Ideal Cert.Reference34Ideal.S1x256x128 .f32)  :
    Host.reduceAdd s (constant Cert.Reference34Ideal.S_ .f32 0x00000000#32) Cert.Reference34Ideal.Gen.reducesTo_S1x256x128_S256x128_d0 Cert.Reference34Ideal.Gen.h_S_ = total s := by
  funext i
  rw [total_at]
  pointwise

/-- What the reference computes is the same. -/
theorem reference_first (s : FVec Ideal Cert.Reference34Ideal.S1x256x128 .f32) (u : FVec Ideal Cert.Reference34Ideal.S256x128 .f32) :
    addf (mulf (broadcastInDim Cert.Reference34Ideal.S256x128 ![] Cert.Reference34Ideal.Gen.bcast_S_S256x128 (constant Cert.Reference34Ideal.S_ .f32 0x3F666666#32)) u) (mulf (broadcastInDim Cert.Reference34Ideal.S256x128 ![] Cert.Reference34Ideal.Gen.bcast_S_S256x128 (constant Cert.Reference34Ideal.S_ .f32 0x3DCCCCCD#32)) (Host.reduceAdd s (constant Cert.Reference34Ideal.S_ .f32 0x00000000#32) Cert.Reference34Ideal.Gen.reducesTo_S1x256x128_S256x128_d0 Cert.Reference34Ideal.Gen.h_S_)) = first s u := by
  funext i
  rw [first_at, total_at, AdamW.first]
  pointwise

/-- What the reference computes is the same. -/
theorem reference_second (s : FVec Ideal Cert.Reference34Ideal.S1x256x128 .f32) (v : FVec Ideal Cert.Reference34Ideal.S256x128 .f32) :
    addf (mulf (broadcastInDim Cert.Reference34Ideal.S256x128 ![] Cert.Reference34Ideal.Gen.bcast_S_S256x128 (constant Cert.Reference34Ideal.S_ .f32 0x3F7FBE77#32)) v) (mulf (broadcastInDim Cert.Reference34Ideal.S256x128 ![] Cert.Reference34Ideal.Gen.bcast_S_S256x128 (constant Cert.Reference34Ideal.S_ .f32 0x3A83126F#32)) (mulf (Host.reduceAdd s (constant Cert.Reference34Ideal.S_ .f32 0x00000000#32) Cert.Reference34Ideal.Gen.reducesTo_S1x256x128_S256x128_d0 Cert.Reference34Ideal.Gen.h_S_) (Host.reduceAdd s (constant Cert.Reference34Ideal.S_ .f32 0x00000000#32) Cert.Reference34Ideal.Gen.reducesTo_S1x256x128_S256x128_d0 Cert.Reference34Ideal.Gen.h_S_))) = second s v := by
  funext i
  rw [second_at, total_at, AdamW.second]
  pointwise

/-- What the reference computes is the same. -/
theorem reference_delta (s : FVec Ideal Cert.Reference34Ideal.S1x256x128 .f32) (w u v : FVec Ideal Cert.Reference34Ideal.S256x128 .f32) :
    mulf (broadcastInDim Cert.Reference34Ideal.S256x128 ![] Cert.Reference34Ideal.Gen.bcast_S_S256x128 (constant Cert.Reference34Ideal.S_ .f32 0xBA83126F#32)) (addf (Host.divf (Host.divf (addf (mulf (broadcastInDim Cert.Reference34Ideal.S256x128 ![] Cert.Reference34Ideal.Gen.bcast_S_S256x128 (constant Cert.Reference34Ideal.S_ .f32 0x3F666666#32)) u) (mulf (broadcastInDim Cert.Reference34Ideal.S256x128 ![] Cert.Reference34Ideal.Gen.bcast_S_S256x128 (constant Cert.Reference34Ideal.S_ .f32 0x3DCCCCCD#32)) (Host.reduceAdd s (constant Cert.Reference34Ideal.S_ .f32 0x00000000#32) Cert.Reference34Ideal.Gen.reducesTo_S1x256x128_S256x128_d0 Cert.Reference34Ideal.Gen.h_S_))) (broadcastInDim Cert.Reference34Ideal.S256x128 ![] Cert.Reference34Ideal.Gen.bcast_S_S256x128 (constant Cert.Reference34Ideal.S_ .f32 0x3F26BD02#32))) (addf (Host.sqrt (Host.divf (addf (mulf (broadcastInDim Cert.Reference34Ideal.S256x128 ![] Cert.Reference34Ideal.Gen.bcast_S_S256x128 (constant Cert.Reference34Ideal.S_ .f32 0x3F7FBE77#32)) v) (mulf (broadcastInDim Cert.Reference34Ideal.S256x128 ![] Cert.Reference34Ideal.Gen.bcast_S_S256x128 (constant Cert.Reference34Ideal.S_ .f32 0x3A83126F#32)) (mulf (Host.reduceAdd s (constant Cert.Reference34Ideal.S_ .f32 0x00000000#32) Cert.Reference34Ideal.Gen.reducesTo_S1x256x128_S256x128_d0 Cert.Reference34Ideal.Gen.h_S_) (Host.reduceAdd s (constant Cert.Reference34Ideal.S_ .f32 0x00000000#32) Cert.Reference34Ideal.Gen.reducesTo_S1x256x128_S256x128_d0 Cert.Reference34Ideal.Gen.h_S_)))) (broadcastInDim Cert.Reference34Ideal.S256x128 ![] Cert.Reference34Ideal.Gen.bcast_S_S256x128 (constant Cert.Reference34Ideal.S_ .f32 0x3C231ACC#32)))) (broadcastInDim Cert.Reference34Ideal.S256x128 ![] Cert.Reference34Ideal.Gen.bcast_S_S256x128 (constant Cert.Reference34Ideal.S_ .f32 0x322BCC77#32)))) (mulf (broadcastInDim Cert.Reference34Ideal.S256x128 ![] Cert.Reference34Ideal.Gen.bcast_S_S256x128 (constant Cert.Reference34Ideal.S_ .f32 0x3C23D70A#32)) w)) = delta s w u v := by
  funext i
  rw [delta_at, total_at, AdamW.delta, AdamW.first, AdamW.second]
  pointwise

theorem frame_kernel : Cert.quiescent_Kernel34 := fun m ρ _ => Cert.Kernel34.Gen.frame m ρ

theorem frame_ideal : Cert.quiescent_Kernel34Ideal := fun m ρ _ => Cert.Kernel34Ideal.Gen.frame m ρ

theorem frame_reference : Cert.quiescent_Reference34Ideal := by
  intro m g _
  hlo_run
  · intro _; simp
  · exact sem_eq_zero_of_no_sems (sig := Cert.Reference34Ideal.sig) (by decide) _

theorem algebraic : Cert.algebraic_Kernel34Ideal_Reference34Ideal := by
  pair_intro
  · run_from Cert.Kernel34Ideal.Gen.run_main m g
  · hlo_run
    · refine Eq.trans ?_ (result_total m c).symm
      exact reference_total _
    · refine Eq.trans ?_ (result_delta m c).symm
      exact reference_delta _ _ _ _
    · refine Eq.trans ?_ (result_first m c).symm
      exact reference_first _ _
    · refine Eq.trans ?_ (result_second m c).symm
      exact reference_second _ _

end Cert.Kernel34Ideal.Product

end
-- ==== Proof.Products.BiasStep.lean ====
/- The optimiser's step of the gate's bias (`b_gate`): its value and its claims. -/
module

public import proofs.«01_k».proof.Defs
public import proofs.«01_k».proof.Proof.Gen.Kernel35.Frame
public import proofs.«01_k».proof.Proof.Gen.Kernel35Ideal.Frame
public import proofs.«01_k».proof.Proof.Gen.Kernel35Ideal.Points
public import proofs.«01_k».proof.Proof.Gen.Reference35Ideal
public import proofs.«01_k».proof.Proof.Products.AdamW
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel35Ideal.Product

open Cert.Kernel35Ideal Cert.Kernel35Ideal.Gen

variable (m : (ℓ : Loc nD τ sig) → Buf (Elt Ideal) ℓ)

/-- The sum of the devices' shares, entry by entry. -/
def total (s : FVec Ideal S1x2x128 .f32) : FVec Ideal S2x128 .f32 := fun i =>
  show EReal from ∑ k : Fin 1, s (ix3 k (i 0) (i 1))

theorem total_at (s : FVec Ideal S1x2x128 .f32) (i : S2x128.Idx) : (total s i : EReal) = ∑ k : Fin 1, s (ix3 k (i 0) (i 1)) := rfl

/-- The first moment after the step. -/
def first (s : FVec Ideal S1x2x128 .f32) (u : FVec Ideal S2x128 .f32) : FVec Ideal S2x128 .f32 := fun i =>
  AdamW.first (total s i) (u i)

/-- The second moment after the step. -/
def second (s : FVec Ideal S1x2x128 .f32) (v : FVec Ideal S2x128 .f32) : FVec Ideal S2x128 .f32 := fun i =>
  AdamW.second (total s i) (v i)

/-- The weight's change. -/
def delta (s : FVec Ideal S1x2x128 .f32) (w u v : FVec Ideal S2x128 .f32) : FVec Ideal S2x128 .f32 := fun i =>
  AdamW.delta (total s i) (w i) (u i) (v i)

theorem first_at (s : FVec Ideal S1x2x128 .f32) (u : FVec Ideal S2x128 .f32) (i : S2x128.Idx) :
    (first s u i : EReal) = AdamW.first (total s i) (u i) := rfl

theorem second_at (s : FVec Ideal S1x2x128 .f32) (v : FVec Ideal S2x128 .f32) (i : S2x128.Idx) :
    (second s v i : EReal) = AdamW.second (total s i) (v i) := rfl

theorem delta_at (s : FVec Ideal S1x2x128 .f32) (w u v : FVec Ideal S2x128 .f32) (i : S2x128.Idx) :
    (delta s w u v i : EReal) = AdamW.delta (total s i) (w i) (u i) (v i) := rfl

/-- The blocks that a grid point reads and writes. -/
theorem index_at : ∀ t : Fin cfg0.N, win0_0.index t = ![0, t.val, 0]
    ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section
variable (x0 : FVec Ideal S1x2x128 .f32) (x1 x2 x3 : FVec Ideal S2x128 .f32) (y : S2x128.Idx)

/-- One point's sum, at an entry. -/
theorem out_total : (out0_4 (F := Ideal) x0 x1 x2 x3 y : EReal) = ∑ k : Fin 1, x0 (ix3 k (y 0) (y 1)) := by
  unfold out0_4; frame_out
  rw [Fin.sum_univ_one]
  pointwise [k0_pay1, k0_pay2, k0_pay3, k0_pay4]

/-- One point's first moment. -/
theorem out_first : (out0_6 (F := Ideal) x0 x1 x2 x3 y : EReal) = AdamW.first (∑ k : Fin 1, x0 (ix3 k (y 0) (y 1))) (x2 y) := by
  unfold out0_6; frame_out
  rw [Fin.sum_univ_one]
  pointwise [k0_pay1, k0_pay2, k0_pay3, k0_pay4, AdamW.first]

/-- One point's second moment. -/
theorem out_second : (out0_7 (F := Ideal) x0 x1 x2 x3 y : EReal) = AdamW.second (∑ k : Fin 1, x0 (ix3 k (y 0) (y 1))) (x3 y) := by
  unfold out0_7; frame_out
  rw [Fin.sum_univ_one]
  pointwise [k0_pay1, k0_pay2, k0_pay3, k0_pay4, AdamW.second]

/-- One point's change of the weight. -/
theorem out_delta : (out0_5 (F := Ideal) x0 x1 x2 x3 y : EReal) = AdamW.delta (∑ k : Fin 1, x0 (ix3 k (y 0) (y 1))) (x1 y) (x2 y) (x3 y) := by
  unfold out0_5; frame_out
  rw [Fin.sum_univ_one]
  pointwise [k0_pay1, k0_pay2, k0_pay3, k0_pay4, AdamW.delta, AdamW.first, AdamW.second]
end

/-- A result array after every grid point. -/
theorem result_total (c : Dev nD) : (dats m 0 c).arrAt 4 (cfgs 0).N
    = total (m ((c : Thread nD τ).loc main_arg0)) := by
  refine (dats m 0 c).arrAt_eq_of_covers 4 _ (by decide +kernel) fun t _ y => ?_
  blk_simp
  rw [after0_4, out_total, total_at]
  obtain ⟨h0, h1, h2, h3, h4, h5, h6, h7⟩ := index_at t
  refine AdamW.sum_congr fun k => ?_
  all_goals blk_ext! [iblk, V, h0, h1, h2, h3, h4, h5, h6, h7]

/-- A result array after every grid point. -/
theorem result_first (c : Dev nD) : (dats m 0 c).arrAt 6 (cfgs 0).N
    = first (m ((c : Thread nD τ).loc main_arg0)) (m ((c : Thread nD τ).loc main_arg2)) := by
  refine (dats m 0 c).arrAt_eq_of_covers 6 _ (by decide +kernel) fun t _ y => ?_
  blk_simp
  rw [after0_6, out_first, first_at, total_at]
  obtain ⟨h0, h1, h2, h3, h4, h5, h6, h7⟩ := index_at t
  refine congrArg₂ AdamW.first (AdamW.sum_congr fun k => ?_) ?_
  all_goals blk_ext! [iblk, V, h0, h1, h2, h3, h4, h5, h6, h7]

/-- A result array after every grid point. -/
theorem result_second (c : Dev nD) : (dats m 0 c).arrAt 7 (cfgs 0).N
    = second (m ((c : Thread nD τ).loc main_arg0)) (m ((c : Thread nD τ).loc main_arg3)) := by
  refine (dats m 0 c).arrAt_eq_of_covers 7 _ (by decide +kernel) fun t _ y => ?_
  blk_simp
  rw [after0_7, out_second, second_at, total_at]
  obtain ⟨h0, h1, h2, h3, h4, h5, h6, h7⟩ := index_at t
  refine congrArg₂ AdamW.second (AdamW.sum_congr fun k => ?_) ?_
  all_goals blk_ext! [iblk, V, h0, h1, h2, h3, h4, h5, h6, h7]

/-- A result array after every grid point. -/
theorem result_delta (c : Dev nD) : (dats m 0 c).arrAt 5 (cfgs 0).N
    = delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5, out_delta, delta_at, total_at]
  obtain ⟨h0, h1, h2, h3, h4, h5, h6, h7⟩ := index_at t
  refine AdamW.delta_congr (AdamW.sum_congr fun k => ?_) ?_ ?_ ?_
  all_goals blk_ext! [iblk, V, h0, h1, h2, h3, h4, h5, h6, h7]

/-- What the reference computes is the same. -/
theorem reference_total (s : FVec Ideal Cert.Reference35Ideal.S1x2x128 .f32)  :
    Host.reduceAdd s (constant Cert.Reference35Ideal.S_ .f32 0x00000000#32) Cert.Reference35Ideal.Gen.reducesTo_S1x2x128_S2x128_d0 Cert.Reference35Ideal.Gen.h_S_ = total s := by
  funext i
  rw [total_at]
  pointwise

/-- What the reference computes is the same. -/
theorem reference_first (s : FVec Ideal Cert.Reference35Ideal.S1x2x128 .f32) (u : FVec Ideal Cert.Reference35Ideal.S2x128 .f32) :
    addf (mulf (broadcastInDim Cert.Reference35Ideal.S2x128 ![] Cert.Reference35Ideal.Gen.bcast_S_S2x128 (constant Cert.Reference35Ideal.S_ .f32 0x3F666666#32)) u) (mulf (broadcastInDim Cert.Reference35Ideal.S2x128 ![] Cert.Reference35Ideal.Gen.bcast_S_S2x128 (constant Cert.Reference35Ideal.S_ .f32 0x3DCCCCCD#32)) (Host.reduceAdd s (constant Cert.Reference35Ideal.S_ .f32 0x00000000#32) Cert.Reference35Ideal.Gen.reducesTo_S1x2x128_S2x128_d0 Cert.Reference35Ideal.Gen.h_S_)) = first s u := by
  funext i
  rw [first_at, total_at, AdamW.first]
  pointwise

/-- What the reference computes is the same. -/
theorem reference_second (s : FVec Ideal Cert.Reference35Ideal.S1x2x128 .f32) (v : FVec Ideal Cert.Reference35Ideal.S2x128 .f32) :
    addf (mulf (broadcastInDim Cert.Reference35Ideal.S2x128 ![] Cert.Reference35Ideal.Gen.bcast_S_S2x128 (constant Cert.Reference35Ideal.S_ .f32 0x3F7FBE77#32)) v) (mulf (broadcastInDim Cert.Reference35Ideal.S2x128 ![] Cert.Reference35Ideal.Gen.bcast_S_S2x128 (constant Cert.Reference35Ideal.S_ .f32 0x3A83126F#32)) (mulf (Host.reduceAdd s (constant Cert.Reference35Ideal.S_ .f32 0x00000000#32) Cert.Reference35Ideal.Gen.reducesTo_S1x2x128_S2x128_d0 Cert.Reference35Ideal.Gen.h_S_) (Host.reduceAdd s (constant Cert.Reference35Ideal.S_ .f32 0x00000000#32) Cert.Reference35Ideal.Gen.reducesTo_S1x2x128_S2x128_d0 Cert.Reference35Ideal.Gen.h_S_))) = second s v := by
  funext i
  rw [second_at, total_at, AdamW.second]
  pointwise

/-- What the reference computes is the same. -/
theorem reference_delta (s : FVec Ideal Cert.Reference35Ideal.S1x2x128 .f32) (w u v : FVec Ideal Cert.Reference35Ideal.S2x128 .f32) :
    mulf (broadcastInDim Cert.Reference35Ideal.S2x128 ![] Cert.Reference35Ideal.Gen.bcast_S_S2x128 (constant Cert.Reference35Ideal.S_ .f32 0xBA83126F#32)) (addf (Host.divf (Host.divf (addf (mulf (broadcastInDim Cert.Reference35Ideal.S2x128 ![] Cert.Reference35Ideal.Gen.bcast_S_S2x128 (constant Cert.Reference35Ideal.S_ .f32 0x3F666666#32)) u) (mulf (broadcastInDim Cert.Reference35Ideal.S2x128 ![] Cert.Reference35Ideal.Gen.bcast_S_S2x128 (constant Cert.Reference35Ideal.S_ .f32 0x3DCCCCCD#32)) (Host.reduceAdd s (constant Cert.Reference35Ideal.S_ .f32 0x00000000#32) Cert.Reference35Ideal.Gen.reducesTo_S1x2x128_S2x128_d0 Cert.Reference35Ideal.Gen.h_S_))) (broadcastInDim Cert.Reference35Ideal.S2x128 ![] Cert.Reference35Ideal.Gen.bcast_S_S2x128 (constant Cert.Reference35Ideal.S_ .f32 0x3F26BD02#32))) (addf (Host.sqrt (Host.divf (addf (mulf (broadcastInDim Cert.Reference35Ideal.S2x128 ![] Cert.Reference35Ideal.Gen.bcast_S_S2x128 (constant Cert.Reference35Ideal.S_ .f32 0x3F7FBE77#32)) v) (mulf (broadcastInDim Cert.Reference35Ideal.S2x128 ![] Cert.Reference35Ideal.Gen.bcast_S_S2x128 (constant Cert.Reference35Ideal.S_ .f32 0x3A83126F#32)) (mulf (Host.reduceAdd s (constant Cert.Reference35Ideal.S_ .f32 0x00000000#32) Cert.Reference35Ideal.Gen.reducesTo_S1x2x128_S2x128_d0 Cert.Reference35Ideal.Gen.h_S_) (Host.reduceAdd s (constant Cert.Reference35Ideal.S_ .f32 0x00000000#32) Cert.Reference35Ideal.Gen.reducesTo_S1x2x128_S2x128_d0 Cert.Reference35Ideal.Gen.h_S_)))) (broadcastInDim Cert.Reference35Ideal.S2x128 ![] Cert.Reference35Ideal.Gen.bcast_S_S2x128 (constant Cert.Reference35Ideal.S_ .f32 0x3C231ACC#32)))) (broadcastInDim Cert.Reference35Ideal.S2x128 ![] Cert.Reference35Ideal.Gen.bcast_S_S2x128 (constant Cert.Reference35Ideal.S_ .f32 0x322BCC77#32)))) (mulf (broadcastInDim Cert.Reference35Ideal.S2x128 ![] Cert.Reference35Ideal.Gen.bcast_S_S2x128 (constant Cert.Reference35Ideal.S_ .f32 0x3C23D70A#32)) w)) = delta s w u v := by
  funext i
  rw [delta_at, total_at, AdamW.delta, AdamW.first, AdamW.second]
  pointwise

theorem frame_kernel : Cert.quiescent_Kernel35 := fun m ρ _ => Cert.Kernel35.Gen.frame m ρ

theorem frame_ideal : Cert.quiescent_Kernel35Ideal := fun m ρ _ => Cert.Kernel35Ideal.Gen.frame m ρ

theorem frame_reference : Cert.quiescent_Reference35Ideal := by
  intro m g _
  hlo_run
  · intro _; simp
  · exact sem_eq_zero_of_no_sems (sig := Cert.Reference35Ideal.sig) (by decide) _

theorem algebraic : Cert.algebraic_Kernel35Ideal_Reference35Ideal := by
  pair_intro
  · run_from Cert.Kernel35Ideal.Gen.run_main m g
  · hlo_run
    · refine Eq.trans ?_ (result_total m c).symm
      exact reference_total _
    · refine Eq.trans ?_ (result_delta m c).symm
      exact reference_delta _ _ _ _
    · refine Eq.trans ?_ (result_first m c).symm
      exact reference_first _ _
    · refine Eq.trans ?_ (result_second m c).symm
      exact reference_second _ _

end Cert.Kernel35Ideal.Product

end
-- ==== Proof.Products.InputTotal.lean ====
/- The devices' sum of the gradient of the input weight (`w_in`): its value and its claims. -/
module

public import proofs.«01_k».proof.Defs
public import proofs.«01_k».proof.Proof.Gen.Kernel36.Frame
public import proofs.«01_k».proof.Proof.Gen.Kernel36Ideal.Frame
public import proofs.«01_k».proof.Proof.Gen.Kernel36Ideal.Points
public import proofs.«01_k».proof.Proof.Gen.Reference36Ideal
public import proofs.«01_k».proof.Proof.Products.AdamW
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel36Ideal.Product

open Cert.Kernel36Ideal Cert.Kernel36Ideal.Gen

variable (m : (ℓ : Loc nD τ sig) → Buf (Elt Ideal) ℓ)

/-- The sum of the devices' shares, entry by entry. -/
def total (s : FVec Ideal S8x1600x1024 .bf16) : FVec Ideal S1600x1024 .f32 := fun i =>
  show EReal from ∑ k : Fin 8, s (ix3 k (i 0) (i 1))

theorem total_at (s : FVec Ideal S8x1600x1024 .bf16) (i : S1600x1024.Idx) : (total s i : EReal) = ∑ k : Fin 8, s (ix3 k (i 0) (i 1)) := rfl

/-- The blocks that a grid point reads and writes. -/
theorem index_at : ∀ t : Fin cfg0.N, win0_0.index t = ![0, t.val, 0] ∧ win0_1.index t = ![t.val, 0] :=
  (by decide +kernel : ∀ t : Fin grid0.N, _)

/-- One point's sum, at an entry. -/
theorem out_total (x0 : FVec Ideal S8x400x1024 .bf16) (y : S400x1024.Idx) :
    (out0_1 (F := Ideal) x0 y : EReal) = ∑ k : Fin 8, x0 (ix3 k (y 0) (y 1)) := by
  unfold out0_1; frame_out
  rw [Fin.sum_univ_eight]
  pointwise [k0_pay1]

/-- The result array after every grid point. -/
theorem result (c : Dev nD) : (dats m 0 c).arrAt 1 (cfgs 0).N = total (m ((c : Thread nD τ).loc main_arg0)) := by
  refine (dats m 0 c).arrAt_eq_of_covers 1 _ (by decide +kernel) fun t _ y => ?_
  blk_simp
  rw [after0_1, out_total, total_at]
  obtain ⟨h0, h1⟩ := index_at t
  refine AdamW.sum_congr fun k => ?_
  all_goals blk_ext! [iblk, V, h0, h1]

/-- What the reference computes is the same. -/
theorem reference_eq (s : FVec Ideal Cert.Reference36Ideal.S8x1600x1024 .bf16) :
    Host.reduceAdd (extf .f32 s Cert.Reference36Ideal.Gen.bitsLt_bf16_f32) (constant Cert.Reference36Ideal.S_ .f32 0x00000000#32) Cert.Reference36Ideal.Gen.reducesTo_S8x1600x1024_S1600x1024_d0 Cert.Reference36Ideal.Gen.h_S_ = total s := by
  funext i
  rw [total_at]
  pointwise

theorem frame_kernel : Cert.quiescent_Kernel36 := fun m ρ _ => Cert.Kernel36.Gen.frame m ρ

theorem frame_ideal : Cert.quiescent_Kernel36Ideal := fun m ρ _ => Cert.Kernel36Ideal.Gen.frame m ρ

theorem frame_reference : Cert.quiescent_Reference36Ideal := by
  intro m g _
  hlo_run
  · intro _; simp
  · exact sem_eq_zero_of_no_sems (sig := Cert.Reference36Ideal.sig) (by decide) _

theorem algebraic : Cert.algebraic_Kernel36Ideal_Reference36Ideal := by
  pair_intro
  · run_from Cert.Kernel36Ideal.Gen.run_main m g
  · hlo_run
    refine Eq.trans ?_ (result m c).symm
    exact reference_eq _

end Cert.Kernel36Ideal.Product

end
-- ==== Proof.Products.UpTotal.lean ====
/- The devices' sum of the gradient of the channel mixer's first weight (`w_up`): its value and its claims. -/
module

public import proofs.«01_k».proof.Defs
public import proofs.«01_k».proof.Proof.Gen.Kernel37.Frame
public import proofs.«01_k».proof.Proof.Gen.Kernel37Ideal.Frame
public import proofs.«01_k».proof.Proof.Gen.Kernel37Ideal.Points
public import proofs.«01_k».proof.Proof.Gen.Reference37Ideal
public import proofs.«01_k».proof.Proof.Products.AdamW
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel37Ideal.Product

open Cert.Kernel37Ideal Cert.Kernel37Ideal.Gen

variable (m : (ℓ : Loc nD τ sig) → Buf (Elt Ideal) ℓ)

/-- The sum of the devices' shares, entry by entry. -/
def total (s : FVec Ideal S8x512x1024 .bf16) : FVec Ideal S512x1024 .f32 := fun i =>
  show EReal from ∑ k : Fin 8, s (ix3 k (i 0) (i 1))

theorem total_at (s : FVec Ideal S8x512x1024 .bf16) (i : S512x1024.Idx) : (total s i : EReal) = ∑ k : Fin 8, s (ix3 k (i 0) (i 1)) := rfl

/-- The blocks that a grid point reads and writes. -/
theorem index_at : ∀ t : Fin cfg0.N, win0_0.index t = ![0, t.val, 0] ∧ win0_1.index t = ![t.val, 0] :=
  (by decide +kernel : ∀ t : Fin grid0.N, _)

/-- One point's sum, at an entry. -/
theorem out_total (x0 : FVec Ideal S8x64x1024 .bf16) (y : S64x1024.Idx) :
    (out0_1 (F := Ideal) x0 y : EReal) = ∑ k : Fin 8, x0 (ix3 k (y 0) (y 1)) := by
  unfold out0_1; frame_out
  rw [Fin.sum_univ_eight]
  pointwise [k0_pay1]

/-- The result array after every grid point. -/
theorem result (c : Dev nD) : (dats m 0 c).arrAt 1 (cfgs 0).N = total (m ((c : Thread nD τ).loc main_arg0)) := by
  refine (dats m 0 c).arrAt_eq_of_covers 1 _ (by decide +kernel) fun t _ y => ?_
  blk_simp
  rw [after0_1, out_total, total_at]
  obtain ⟨h0, h1⟩ := index_at t
  refine AdamW.sum_congr fun k => ?_
  all_goals blk_ext! [iblk, V, h0, h1]

/-- What the reference computes is the same. -/
theorem reference_eq (s : FVec Ideal Cert.Reference37Ideal.S8x512x1024 .bf16) :
    Host.reduceAdd (extf .f32 s Cert.Reference37Ideal.Gen.bitsLt_bf16_f32) (constant Cert.Reference37Ideal.S_ .f32 0x00000000#32) Cert.Reference37Ideal.Gen.reducesTo_S8x512x1024_S512x1024_d0 Cert.Reference37Ideal.Gen.h_S_ = total s := by
  funext i
  rw [total_at]
  pointwise

theorem frame_kernel : Cert.quiescent_Kernel37 := fun m ρ _ => Cert.Kernel37.Gen.frame m ρ

theorem frame_ideal : Cert.quiescent_Kernel37Ideal := fun m ρ _ => Cert.Kernel37Ideal.Gen.frame m ρ

theorem frame_reference : Cert.quiescent_Reference37Ideal := by
  intro m g _
  hlo_run
  · intro _; simp
  · exact sem_eq_zero_of_no_sems (sig := Cert.Reference37Ideal.sig) (by decide) _

theorem algebraic : Cert.algebraic_Kernel37Ideal_Reference37Ideal := by
  pair_intro
  · run_from Cert.Kernel37Ideal.Gen.run_main m g
  · hlo_run
    refine Eq.trans ?_ (result m c).symm
    exact reference_eq _

end Cert.Kernel37Ideal.Product

end
-- ==== Proof.Products.DilatedOutTotal.lean ====
/- The devices' sum of the gradient of the dilated output weight (`w_dil_out`): its value and its claims. -/
module

public import proofs.«01_k».proof.Defs
public import proofs.«01_k».proof.Proof.Gen.Kernel38.Frame
public import proofs.«01_k».proof.Proof.Gen.Kernel38Ideal.Frame
public import proofs.«01_k».proof.Proof.Gen.Kernel38Ideal.Points
public import proofs.«01_k».proof.Proof.Gen.Reference38Ideal
public import proofs.«01_k».proof.Proof.Products.AdamW
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel38Ideal.Product

open Cert.Kernel38Ideal Cert.Kernel38Ideal.Gen

variable (m : (ℓ : Loc nD τ sig) → Buf (Elt Ideal) ℓ)

/-- The sum of the devices' shares, entry by entry. -/
def total (s : FVec Ideal S8x128x512 .bf16) : FVec Ideal S128x512 .f32 := fun i =>
  show EReal from ∑ k : Fin 8, s (ix3 k (i 0) (i 1))

theorem total_at (s : FVec Ideal S8x128x512 .bf16) (i : S128x512.Idx) : (total s i : EReal) = ∑ k : Fin 8, s (ix3 k (i 0) (i 1)) := rfl

/-- The blocks that a grid point reads and writes. -/
theorem index_at : ∀ t : Fin cfg0.N, win0_0.index t = ![0, t.val, 0] ∧ win0_1.index t = ![t.val, 0] :=
  (by decide +kernel : ∀ t : Fin grid0.N, _)

/-- One point's sum, at an entry. -/
theorem out_total (x0 : FVec Ideal S8x128x512 .bf16) (y : S128x512.Idx) :
    (out0_1 (F := Ideal) x0 y : EReal) = ∑ k : Fin 8, x0 (ix3 k (y 0) (y 1)) := by
  unfold out0_1; frame_out
  rw [Fin.sum_univ_eight]
  pointwise [k0_pay1]

/-- The result array after every grid point. -/
theorem result (c : Dev nD) : (dats m 0 c).arrAt 1 (cfgs 0).N = total (m ((c : Thread nD τ).loc main_arg0)) := by
  refine (dats m 0 c).arrAt_eq_of_covers 1 _ (by decide +kernel) fun t _ y => ?_
  blk_simp
  rw [after0_1, out_total, total_at]
  obtain ⟨h0, h1⟩ := index_at t
  refine AdamW.sum_congr fun k => ?_
  all_goals blk_ext! [iblk, V, h0, h1]

/-- What the reference computes is the same. -/
theorem reference_eq (s : FVec Ideal Cert.Reference38Ideal.S8x128x512 .bf16) :
    Host.reduceAdd (extf .f32 s Cert.Reference38Ideal.Gen.bitsLt_bf16_f32) (constant Cert.Reference38Ideal.S_ .f32 0x00000000#32) Cert.Reference38Ideal.Gen.reducesTo_S8x128x512_S128x512_d0 Cert.Reference38Ideal.Gen.h_S_ = total s := by
  funext i
  rw [total_at]
  pointwise

theorem frame_kernel : Cert.quiescent_Kernel38 := fun m ρ _ => Cert.Kernel38.Gen.frame m ρ

theorem frame_ideal : Cert.quiescent_Kernel38Ideal := fun m ρ _ => Cert.Kernel38Ideal.Gen.frame m ρ

theorem frame_reference : Cert.quiescent_Reference38Ideal := by
  intro m g _
  hlo_run
  · intro _; simp
  · exact sem_eq_zero_of_no_sems (sig := Cert.Reference38Ideal.sig) (by decide) _

theorem algebraic : Cert.algebraic_Kernel38Ideal_Reference38Ideal := by
  pair_intro
  · run_from Cert.Kernel38Ideal.Gen.run_main m g
  · hlo_run
    refine Eq.trans ?_ (result m c).symm
    exact reference_eq _

end Cert.Kernel38Ideal.Product

end
-- ==== Proof.Products.EmbeddingTotal.lean ====
/- The devices' sum of the gradient of the embedding's weight (`w_ple_in`): its value and its claims. -/
module

public import proofs.«01_k».proof.Defs
public import proofs.«01_k».proof.Proof.Gen.Kernel39.Frame
public import proofs.«01_k».proof.Proof.Gen.Kernel39Ideal.Frame
public import proofs.«01_k».proof.Proof.Gen.Kernel39Ideal.Points
public import proofs.«01_k».proof.Proof.Gen.Reference39Ideal
public import proofs.«01_k».proof.Proof.Products.AdamW
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel39Ideal.Product

open Cert.Kernel39Ideal Cert.Kernel39Ideal.Gen

variable (m : (ℓ : Loc nD τ sig) → Buf (Elt Ideal) ℓ)

/-- The sum of the devices' shares, entry by entry. -/
def total (s : FVec Ideal S8x128x256 .bf16) : FVec Ideal S128x256 .f32 := fun i =>
  show EReal from ∑ k : Fin 8, s (ix3 k (i 0) (i 1))

theorem total_at (s : FVec Ideal S8x128x256 .bf16) (i : S128x256.Idx) : (total s i : EReal) = ∑ k : Fin 8, s (ix3 k (i 0) (i 1)) := rfl

/-- The blocks that a grid point reads and writes. -/
theorem index_at : ∀ t : Fin cfg0.N, win0_0.index t = ![0, t.val, 0] ∧ win0_1.index t = ![t.val, 0] :=
  (by decide +kernel : ∀ t : Fin grid0.N, _)

/-- One point's sum, at an entry. -/
theorem out_total (x0 : FVec Ideal S8x128x256 .bf16) (y : S128x256.Idx) :
    (out0_1 (F := Ideal) x0 y : EReal) = ∑ k : Fin 8, x0 (ix3 k (y 0) (y 1)) := by
  unfold out0_1; frame_out
  rw [Fin.sum_univ_eight]
  pointwise [k0_pay1]

/-- The result array after every grid point. -/
theorem result (c : Dev nD) : (dats m 0 c).arrAt 1 (cfgs 0).N = total (m ((c : Thread nD τ).loc main_arg0)) := by
  refine (dats m 0 c).arrAt_eq_of_covers 1 _ (by decide +kernel) fun t _ y => ?_
  blk_simp
  rw [after0_1, out_total, total_at]
  obtain ⟨h0, h1⟩ := index_at t
  refine AdamW.sum_congr fun k => ?_
  all_goals blk_ext! [iblk, V, h0, h1]

/-- What the reference computes is the same. -/
theorem reference_eq (s : FVec Ideal Cert.Reference39Ideal.S8x128x256 .bf16) :
    Host.reduceAdd (extf .f32 s Cert.Reference39Ideal.Gen.bitsLt_bf16_f32) (constant Cert.Reference39Ideal.S_ .f32 0x00000000#32) Cert.Reference39Ideal.Gen.reducesTo_S8x128x256_S128x256_d0 Cert.Reference39Ideal.Gen.h_S_ = total s := by
  funext i
  rw [total_at]
  pointwise

theorem frame_kernel : Cert.quiescent_Kernel39 := fun m ρ _ => Cert.Kernel39.Gen.frame m ρ

theorem frame_ideal : Cert.quiescent_Kernel39Ideal := fun m ρ _ => Cert.Kernel39Ideal.Gen.frame m ρ

theorem frame_reference : Cert.quiescent_Reference39Ideal := by
  intro m g _
  hlo_run
  · intro _; simp
  · exact sem_eq_zero_of_no_sems (sig := Cert.Reference39Ideal.sig) (by decide) _

theorem algebraic : Cert.algebraic_Kernel39Ideal_Reference39Ideal := by
  pair_intro
  · run_from Cert.Kernel39Ideal.Gen.run_main m g
  · hlo_run
    refine Eq.trans ?_ (result m c).symm
    exact reference_eq _

end Cert.Kernel39Ideal.Product

end
-- ==== Proof.Products.RowGradient.lean ====
/- The gradient of a root-mean-square normalisation along one row, over the extended reals: the kernel's form of it and the
   form that differentiating the normalisation gives are equal, with no entry assumed finite. -/
module

public import Idealize.ShloMosaic.Lib.Pointwise

@[expose] public section

noncomputable section

namespace Cert.RowGradient

open Idealize.ShloMosaic
open scoped BigOperators

/-- The row's length, as the programs write it. -/
def count : EReal := Ideal.ofBits .f32 0x44800000#32

/-- The constant added under the root. -/
def small : EReal := Ideal.ofBits .f32 0x358637BD#32

theorem count_eq : count = ((1024 : ℝ) : EReal) := by
  unfold count; simp [Ideal.ofBits, Ideal.ieee, -EReal.coe_mul]; norm_num

theorem small_pos : ∃ e : ℝ, 0 < e ∧ small = (e : EReal) := by
  refine ⟨_, ?_, by unfold small; simp [Ideal.ofBits, Ideal.ieee, -EReal.coe_mul]; rfl⟩
  positivity

theorem neg_half_eq : Ideal.ofBits .f32 0xBF000000#32 = ((-(1 / 2) : ℝ) : EReal) := by
  simp [Ideal.ofBits, Ideal.ieee, -EReal.coe_mul]; norm_num

theorem div_count (a : EReal) : Ideal.div a count = a * ((1024⁻¹ : ℝ) : EReal) := by
  unfold Ideal.div
  rw [if_neg (by rw [count_eq]; exact_mod_cast (by norm_num : (1024 : ℝ) ≠ 0)), count_eq, ← EReal.coe_inv]

/-- The mean of the squares, and the constant. -/
def spread (x : Fin 1024 → EReal) : EReal := Ideal.div (∑ k, x k * x k) count + small

/-- The reciprocal root. -/
def scale (x : Fin 1024 → EReal) : EReal := Ideal.rsqrt (spread x)

theorem square_nonneg (a : EReal) : 0 ≤ a * a := by
  induction a with
  | bot => simp
  | top => simp
  | coe a => exact_mod_cast mul_self_nonneg a

/-- Either the mean of the squares is infinite and the scale zero, or both are positive and real. -/
theorem scale_cases (x : Fin 1024 → EReal) : (spread x = ⊤ ∧ scale x = 0)
    ∨ ∃ v : ℝ, 0 < v ∧ spread x = (v : EReal) ∧ scale x = (((Real.sqrt v)⁻¹ : ℝ) : EReal) := by
  obtain ⟨e, he, hs⟩ := small_pos
  have h0 : 0 ≤ ∑ k, x k * x k := Finset.sum_nonneg fun k _ => square_nonneg (x k)
  unfold scale spread
  rw [div_count, hs]
  generalize (∑ k, x k * x k) = q at h0
  induction q with
  | bot => simp at h0
  | top => left; rw [EReal.top_mul_coe_of_pos (by norm_num)]; exact ⟨by simp, by rw [EReal.top_add_coe]; rfl⟩
  | coe q =>
    right
    have hq : 0 ≤ q := by exact_mod_cast h0
    have hv : 0 < q * 1024⁻¹ + e := by positivity
    refine ⟨q * 1024⁻¹ + e, hv, by push_cast; rfl, ?_⟩
    rw [← EReal.coe_mul, ← EReal.coe_add]
    show (if q * 1024⁻¹ + e < 0 then (⊥ : EReal) else if q * 1024⁻¹ + e = 0 then ⊤ else _) = _
    rw [if_neg (not_lt.mpr hv.le), if_neg hv.ne']

theorem add_mul_real (a b : EReal) {r : ℝ} (hr : 0 ≤ r) : (a + b) * (r : EReal) = a * r + b * r :=
  EReal.right_distrib_of_nonneg_of_ne_top (by exact_mod_cast hr) (EReal.coe_ne_top r) a b

theorem sum_mul_real {n : ℕ} (f : Fin n → EReal) {r : ℝ} (hr : 0 ≤ r) : (∑ k, f k) * (r : EReal) = ∑ k, f k * r := by
  induction n with
  | zero => simp
  | succ n ih => rw [Fin.sum_univ_succ, Fin.sum_univ_succ, add_mul_real _ _ hr, ih]

/-- The kernel's form of the gradient's entry. -/
def kernelForm (x t : Fin 1024 → EReal) (j : Fin 1024) : EReal :=
  scale x * (t j - x j * scale x * Ideal.div (∑ k, t k * (x k * scale x)) count)

/-- The factor that the row's entries share. -/
def shared (x t : Fin 1024 → EReal) : EReal :=
  Ideal.div ((∑ k, x k * t k) * (Ideal.ofBits .f32 0xBF000000#32 * Ideal.div (scale x) (spread x))) count

/-- The two forms are equal. -/
theorem kernelForm_eq (x t : Fin 1024 → EReal) (j : Fin 1024) :
    kernelForm x t j = t j * scale x + x j * shared x t + shared x t * x j := by
  unfold kernelForm shared
  rcases scale_cases x with ⟨hv, hr⟩ | ⟨v, hv, hs, hr⟩
  · have hc : count ≠ 0 := by rw [count_eq]; exact_mod_cast (by norm_num : (1024 : ℝ) ≠ 0)
    rw [hr, hv]; simp [Ideal.div, hc]
  · rw [hr, hs, neg_half_eq]
    set r : ℝ := (Real.sqrt v)⁻¹ with hrdef
    have hr0 : 0 < r := inv_pos.mpr (Real.sqrt_pos.mpr hv)
    have hrr : r * r = v⁻¹ := by
      rw [hrdef, ← mul_inv, Real.mul_self_sqrt hv.le]
    have hsum : ∑ k, t k * (x k * (r : EReal)) = (∑ k, x k * t k) * r := by
      rw [sum_mul_real _ hr0.le]
      exact Finset.sum_congr rfl fun k _ => by rw [mul_left_comm, ← mul_assoc]
    have hdiv : Ideal.div (r : EReal) (v : EReal) = ((r * v⁻¹ : ℝ) : EReal) := by
      unfold Ideal.div
      rw [if_neg (by exact_mod_cast hv.ne'), ← EReal.coe_inv, ← EReal.coe_mul]
    rw [hsum, hdiv, div_count, div_count]
    generalize (∑ k, x k * t k) = a
    generalize x j = b
    generalize t j = d
    have hc : 0 ≤ r * v⁻¹ * 1024⁻¹ / 2 := by positivity
    have e1 : b * (r : EReal) * (a * r * ((1024⁻¹ : ℝ) : EReal)) = b * a * ((r * r * 1024⁻¹ : ℝ) : EReal) := by
      push_cast
      ac_rfl
    have e2 : a * (((-(1 / 2) : ℝ) : EReal) * ((r * v⁻¹ : ℝ) : EReal)) * ((1024⁻¹ : ℝ) : EReal)
        = -a * ((r * v⁻¹ * 1024⁻¹ / 2 : ℝ) : EReal) := by
      rw [← EReal.coe_mul, mul_assoc, ← EReal.coe_mul, neg_mul a, ← mul_neg a, ← EReal.coe_neg]
      congr 2; ring
    rw [e1, e2, sub_eq_add_neg, mul_comm (r : EReal), add_mul_real _ _ hr0.le, add_assoc]
    congr 1
    have e3 : b * (-a * ((r * v⁻¹ * 1024⁻¹ / 2 : ℝ) : EReal)) = -(b * a) * ((r * v⁻¹ * 1024⁻¹ / 2 : ℝ) : EReal) := by
      rw [← mul_assoc, mul_neg]
    rw [mul_comm (-a * _) b, e3]
    have e4 : ∀ y : EReal, y * ((r * v⁻¹ * 1024⁻¹ / 2 : ℝ) : EReal) + y * ((r * v⁻¹ * 1024⁻¹ / 2 : ℝ) : EReal)
        = y * ((r * v⁻¹ * 1024⁻¹ : ℝ) : EReal) := by
      intro y
      rw [← EReal.left_distrib_of_nonneg (by exact_mod_cast hc) (by exact_mod_cast hc), ← EReal.coe_add]
      congr 2; ring
    rw [e4, ← neg_mul, mul_assoc, ← EReal.coe_mul, ← hrr]
    congr 2; ring

end Cert.RowGradient

end
-- ==== Proof.Products.StepInputStage.lean ====
/- The gradient of the step's input: what the call reads back from the array in which it interleaves the rows of an
   input gradient whose rows are grouped by their remainder. -/
module

public import proofs.«01_k».proof.Proof.Gen.Kernel40Ideal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel40Ideal.Stage

open Cert.Kernel40Ideal Cert.Kernel40Ideal.Gen

/-- One store into the array. -/
abbrev Store := View.Piece (Elt Ideal) S8x512x128 .f32

/-- A store that agrees with `G` where it writes, and writes the rows of column block `b` with remainder `r` modulo `d`. -/
structure Good (d : Nat) (G : S8x512x128.Idx → Elt Ideal .f32) (b r : Nat) (p : Store) : Prop where
  agree : ∀ x : p.1.shape.Idx, p.2 x = G (p.1.emb x)
  cover : ∀ y : S8x512x128.Idx, (y 0).val = b → (y 1).val % d = r → y ∈ p.1.set

/-- The latest stores of a list are good ones, for the column blocks and remainders listed. -/
inductive Latest (d : Nat) (G : S8x512x128.Idx → Elt Ideal .f32) : List (Nat × Nat) → List Store → Prop
  | nil (L : List Store) : Latest d G [] L
  | cons {b r : Nat} {p : Store} {ks : List (Nat × Nat)} {L : List Store} (h : Good d G b r p) (hs : Latest d G ks L) :
      Latest d G ((b, r) :: ks) (p :: L)

/-- An entry that one of the latest good stores writes holds the value of `G`. -/
theorem Latest.canon_eq {d : Nat} {G : S8x512x128.Idx → Elt Ideal .f32} {ks : List (Nat × Nat)} {L : List Store}
    (h : Latest d G ks L) (y : S8x512x128.Idx) (hy : ((y 0).val, (y 1).val % d) ∈ ks) : View.canon L y = G y := by
  induction h with
  | nil L => exact absurd hy List.not_mem_nil
  | @cons b r p ks L hp hs ih =>
    by_cases hm : y ∈ p.1.set
    · obtain ⟨x, rfl⟩ := p.1.exists_idx_of_mem hm
      rw [show p.1.idx x = p.1.emb x from rfl, View.canon_cons_emb]
      exact hp.agree x
    · rw [View.canon_cons_of_not_mem _ _ hm]
      refine ih ?_
      rcases List.mem_cons.mp hy with e | e
      · exact absurd (hp.cover y (congrArg Prod.fst e) (congrArg Prod.snd e)) hm
      · exact e

/-- A column block read back. -/
theorem Latest.read_eq {d : Nat} {G : S8x512x128.Idx → Elt Ideal .f32} {ks : List (Nat × Nat)} {L : List Store}
    (h : Latest d G ks L) (hk : ∀ (b : Fin 8) (r : Nat), r < d → (b.val, r) ∈ ks) (hd : 0 < d)
    (b : Fin 8) (inb : ∀ a, (![b.val, 0, 0] : Fin 3 → Nat) a + (![1, 512, 128] : Fin 3 → Nat) a ≤ S8x512x128.size a) (r : Fin 512) (l : Fin 128) :
    (View.whole cc0_scratch0).readCov L (Rect.unit (s := S8x512x128) ![b.val, 0, 0] ![1, 512, 128] inb).toLoadRect (ix3 (0 : Fin 1) r l)
      = G (ix3 b r l) := by
  rw [View.readCov_eq_canon']
  have e : (Rect.unit (s := S8x512x128) ![b.val, 0, 0] ![1, 512, 128] inb).toLoadRect.idx (ix3 (0 : Fin 1) r l) = (ix3 b r l : S8x512x128.Idx) := by
    funext a
    match a with
    | ⟨0, _⟩ => exact Fin.ext (show b.val + 1 * 0 = b.val by omega)
    | ⟨1, _⟩ => exact Fin.ext (show 0 + 1 * r.val = r.val by omega)
    | ⟨2, _⟩ => exact Fin.ext (show 0 + 1 * l.val = l.val by omega)
  show View.canon L _ = _
  rw [e]
  exact h.canon_eq _ (hk b _ (Nat.mod_lt _ hd))

/-- The rows of an input gradient kept in four groups, interleaved. -/
def rows4 (X : FVec Ideal S4x128x1024 .bf16) : S8x512x128.Idx → Elt Ideal .f32 := fun y =>
  show EReal from X (ix3 (⟨(y 1).val % 4, Nat.mod_lt _ (by decide)⟩ : Fin 4)
    (⟨(y 1).val / 4, by have : (y 1).val < 512 := (y 1).isLt; omega⟩ : Fin 128)
    (⟨(y 0).val * 128 + (y 2).val, by have : (y 0).val < 8 := (y 0).isLt; have : (y 2).val < 128 := (y 2).isLt; omega⟩ : Fin 1024))

/-- The rows of an input gradient kept in sixteen groups, interleaved. -/
def rows16 (X : FVec Ideal S16x32x1024 .bf16) : S8x512x128.Idx → Elt Ideal .f32 := fun y =>
  show EReal from X (ix3 (⟨(y 1).val % 16, Nat.mod_lt _ (by decide)⟩ : Fin 16)
    (⟨(y 1).val / 16, by have : (y 1).val < 512 := (y 1).isLt; omega⟩ : Fin 32)
    (⟨(y 0).val * 128 + (y 2).val, by have : (y 0).val < 8 := (y 0).isLt; have : (y 2).val < 128 := (y 2).isLt; omega⟩ : Fin 1024))

/-- A column block of one group of four, at an entry. -/
theorem part4 (X : FVec Ideal S4x128x1024 .bf16) (c o : Nat) (inb : ∀ a, (![c, 0, 0] : Fin 3 → Nat) a + (![1, 128, 1024] : Fin 3 → Nat) a ≤ S4x128x1024.size a)
    (h1 : S1x128x1024.ShapeCasts S128x1024) (hb) (h2 : S128x1024.Slices ![0, o] S128x128) (h3 : S128x128.ShapeCasts S128x128)
    (j : S128x128.Idx) (k : S4x128x1024.Idx) (k0 : (k 0).val = c) (k1 : (k 1).val = (j 0).val) (k2 : (k 2).val = o + (j 1).val) :
    shapeCast S128x128 (extractStridedSlice S128x128 ![0, o] (extf (F := Ideal) (φ := .bf16) .f32 (shapeCast S128x1024
      (View.ld (e' := .bf16) (Val := Elt Ideal) X (Rect.unit (s := S4x128x1024) ![c, 0, 0] ![1, 128, 1024] inb)) h1) hb) h2) h3 j = X k := by
  rw [shapeCast_self]
  have hj : (j 1).val + o < 1024 := by rw [Nat.add_comm, ← k2]; exact (k 2).isLt
  refine (extractStridedSlice_apply _ _ _ j (ix2 (j 0) (⟨(j 1).val + o, hj⟩ : Fin 1024)) (fun a => match a with
    | ⟨0, _⟩ => by show (j 0).val = 0 + (j 0).val; omega
    | ⟨1, _⟩ => by show (j 1).val + o = o + (j 1).val; omega)).trans ?_
  refine (shapeCast_dropUnit_apply ![128, 1024] (View.ld (e' := .bf16) (Val := Elt Ideal) X (Rect.unit (s := S4x128x1024) ![c, 0, 0] ![1, 128, 1024] inb)) h1 (ix2 (j 0) (⟨(j 1).val + o, hj⟩ : Fin 1024))).trans ?_
  refine congrArg X (funext fun a => Fin.ext ?_)
  match a with
  | ⟨0, _⟩ => show c + 1 * 0 = (k 0).val; omega
  | ⟨1, _⟩ => show 0 + 1 * (j 0).val = (k 1).val; omega
  | ⟨2, _⟩ => show 0 + 1 * ((j 1).val + o) = (k 2).val; omega

/-- A column block of one group of sixteen, at an entry. -/
theorem part16 (X : FVec Ideal S16x32x1024 .bf16) (c o : Nat) (inb : ∀ a, (![c, 0, 0] : Fin 3 → Nat) a + (![1, 32, 1024] : Fin 3 → Nat) a ≤ S16x32x1024.size a)
    (h1 : S1x32x1024.ShapeCasts S32x1024) (hb) (h2 : S32x1024.Slices ![0, o] S32x128) (h3 : S32x128.ShapeCasts S32x128)
    (j : S32x128.Idx) (k : S16x32x1024.Idx) (k0 : (k 0).val = c) (k1 : (k 1).val = (j 0).val) (k2 : (k 2).val = o + (j 1).val) :
    shapeCast S32x128 (extractStridedSlice S32x128 ![0, o] (extf (F := Ideal) (φ := .bf16) .f32 (shapeCast S32x1024
      (View.ld (e' := .bf16) (Val := Elt Ideal) X (Rect.unit (s := S16x32x1024) ![c, 0, 0] ![1, 32, 1024] inb)) h1) hb) h2) h3 j = X k := by
  rw [shapeCast_self]
  have hj : (j 1).val + o < 1024 := by rw [Nat.add_comm, ← k2]; exact (k 2).isLt
  refine (extractStridedSlice_apply _ _ _ j (ix2 (j 0) (⟨(j 1).val + o, hj⟩ : Fin 1024)) (fun a => match a with
    | ⟨0, _⟩ => by show (j 0).val = 0 + (j 0).val; omega
    | ⟨1, _⟩ => by show (j 1).val + o = o + (j 1).val; omega)).trans ?_
  refine (shapeCast_dropUnit_apply ![32, 1024] (View.ld (e' := .bf16) (Val := Elt Ideal) X (Rect.unit (s := S16x32x1024) ![c, 0, 0] ![1, 32, 1024] inb)) h1 (ix2 (j 0) (⟨(j 1).val + o, hj⟩ : Fin 1024))).trans ?_
  refine congrArg X (funext fun a => Fin.ext ?_)
  match a with
  | ⟨0, _⟩ => show c + 1 * 0 = (k 0).val; omega
  | ⟨1, _⟩ => show 0 + 1 * (j 0).val = (k 1).val; omega
  | ⟨2, _⟩ => show 0 + 1 * ((j 1).val + o) = (k 2).val; omega

/-- The store of a column block of one group of four. -/
theorem good4 (X : FVec Ideal S4x128x1024 .bf16) (b c o : Nat) (ho : b * 128 = o) (hc : c < 4)
    (i1 : ∀ a, (![b, 0, 0] : Fin 3 → Nat) a + (![1, 512, 128] : Fin 3 → Nat) a ≤ S8x512x128.size a) (i2) (i3) (h0) (hs) (hu) (hR)
    (inb : ∀ a, (![c, 0, 0] : Fin 3 → Nat) a + (![1, 128, 1024] : Fin 3 → Nat) a ≤ S4x128x1024.size a)
    (h1 : S1x128x1024.ShapeCasts S128x1024) (hb) (h2 : S128x1024.Slices ![0, o] S128x128) (h3 : S128x128.ShapeCasts S128x128) :
    Good 4 (rows4 X) b c ⟨(Rect.unit (s := S8x512x128) ![b, 0, 0] ![1, 512, 128] i1).within
      (Rect.consLift ({ off := ![c, 0], size := ![128, 128], stride := ![4, 1], inb := i2, stride_pos := i3 } : Rect S512x128) ![1, 512, 128] h0 hs) hu,
      Rect.payAlong (r := ({ off := ![c, 0], size := ![128, 128], stride := ![4, 1], inb := i2, stride_pos := i3 } : Rect S512x128)) hR
        (shapeCast S128x128 (extractStridedSlice S128x128 ![0, o] (extf (F := Ideal) (φ := .bf16) .f32 (shapeCast S128x1024
      (View.ld (e' := .bf16) (Val := Elt Ideal) X (Rect.unit (s := S4x128x1024) ![c, 0, 0] ![1, 128, 1024] inb)) h1) hb) h2) h3)⟩ where
  agree x := by
    have e := Rect.reshapeEquiv_consLift_succ ({ off := ![c, 0], size := ![128, 128], stride := ![4, 1], inb := i2, stride_pos := i3 } : Rect S512x128) ![1, 512, 128] h0 hs x
    have x0 : (x 0).val < 1 := (x 0).isLt
    have e0 := e 0
    have e1 := e 1
    have r1 : (x 1).val < 128 := (x 1).isLt
    have r2 : (x 2).val < 128 := (x 2).isLt
    refine part4 X c o inb h1 hb h2 h3 _ _ ?_ ?_ ?_
    · show (0 + c + 4 * (x 1).val) % 4 = c; omega
    · refine Eq.trans ?_ e0
      show (0 + c + 4 * (x 1).val) / 4 = (x 1).val; omega
    · refine Eq.trans ?_ (congrArg (o + ·) e1)
      show (b + 0 + 1 * (x 0).val) * 128 + (0 + 0 + 1 * (x 2).val) = o + (x 2).val; omega
  cover y y0 y1 := by
    have r1 : (y 1).val < 512 := (y 1).isLt
    rw [LoadRect.mem_set]
    intro a
    match a with
    | ⟨0, _⟩ => exact ⟨0, Nat.one_pos, show (y 0).val = b + 0 + 1 * 0 by omega⟩
    | ⟨1, _⟩ => exact ⟨(y 1).val / 4, show (y 1).val / 4 < 128 by omega, show (y 1).val = 0 + c + 4 * ((y 1).val / 4) by omega⟩
    | ⟨2, _⟩ => exact ⟨(y 2).val, (y 2).isLt, show (y 2).val = 0 + 0 + 1 * (y 2).val by omega⟩

/-- The store of a column block of one group of sixteen. -/
theorem good16 (X : FVec Ideal S16x32x1024 .bf16) (b c o : Nat) (ho : b * 128 = o) (hc : c < 16)
    (i1 : ∀ a, (![b, 0, 0] : Fin 3 → Nat) a + (![1, 512, 128] : Fin 3 → Nat) a ≤ S8x512x128.size a) (i2) (i3) (h0) (hs) (hu) (hR)
    (inb : ∀ a, (![c, 0, 0] : Fin 3 → Nat) a + (![1, 32, 1024] : Fin 3 → Nat) a ≤ S16x32x1024.size a)
    (h1 : S1x32x1024.ShapeCasts S32x1024) (hb) (h2 : S32x1024.Slices ![0, o] S32x128) (h3 : S32x128.ShapeCasts S32x128) :
    Good 16 (rows16 X) b c ⟨(Rect.unit (s := S8x512x128) ![b, 0, 0] ![1, 512, 128] i1).within
      (Rect.consLift ({ off := ![c, 0], size := ![32, 128], stride := ![16, 1], inb := i2, stride_pos := i3 } : Rect S512x128) ![1, 512, 128] h0 hs) hu,
      Rect.payAlong (r := ({ off := ![c, 0], size := ![32, 128], stride := ![16, 1], inb := i2, stride_pos := i3 } : Rect S512x128)) hR
        (shapeCast S32x128 (extractStridedSlice S32x128 ![0, o] (extf (F := Ideal) (φ := .bf16) .f32 (shapeCast S32x1024
      (View.ld (e' := .bf16) (Val := Elt Ideal) X (Rect.unit (s := S16x32x1024) ![c, 0, 0] ![1, 32, 1024] inb)) h1) hb) h2) h3)⟩ where
  agree x := by
    have e := Rect.reshapeEquiv_consLift_succ ({ off := ![c, 0], size := ![32, 128], stride := ![16, 1], inb := i2, stride_pos := i3 } : Rect S512x128) ![1, 512, 128] h0 hs x
    have x0 : (x 0).val < 1 := (x 0).isLt
    have e0 := e 0
    have e1 := e 1
    have r1 : (x 1).val < 32 := (x 1).isLt
    have r2 : (x 2).val < 128 := (x 2).isLt
    refine part16 X c o inb h1 hb h2 h3 _ _ ?_ ?_ ?_
    · show (0 + c + 16 * (x 1).val) % 16 = c; omega
    · refine Eq.trans ?_ e0
      show (0 + c + 16 * (x 1).val) / 16 = (x 1).val; omega
    · refine Eq.trans ?_ (congrArg (o + ·) e1)
      show (b + 0 + 1 * (x 0).val) * 128 + (0 + 0 + 1 * (x 2).val) = o + (x 2).val; omega
  cover y y0 y1 := by
    have r1 : (y 1).val < 512 := (y 1).isLt
    rw [LoadRect.mem_set]
    intro a
    match a with
    | ⟨0, _⟩ => exact ⟨0, Nat.one_pos, show (y 0).val = b + 0 + 1 * 0 by omega⟩
    | ⟨1, _⟩ => exact ⟨(y 1).val / 16, show (y 1).val / 16 < 32 by omega, show (y 1).val = 0 + c + 16 * ((y 1).val / 16) by omega⟩
    | ⟨2, _⟩ => exact ⟨(y 2).val, (y 2).isLt, show (y 2).val = 0 + 0 + 1 * (y 2).val by omega⟩

end Cert.Kernel40Ideal.Stage

end
-- ==== Proof.Products.StepInputParts.lean ====
/- The gradient of the step's input: what one grid point computes from the blocks it reads, entry by entry. -/
module

public import proofs.«01_k».proof.Proof.Products.RowGradient
public import proofs.«01_k».proof.Proof.Products.StepInputStage
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open scoped BigOperators

namespace Cert.Kernel40Ideal.Stage

open Cert.Kernel40Ideal Cert.Kernel40Ideal.Gen

/-- A column block without its leading axis. -/
theorem drop_at (a : FVec Ideal S1x512x128 .f32) (h : S1x512x128.ShapeCasts S512x128) (n : Fin 512) (l : Fin 128) :
    shapeCast S512x128 a h (ix2 n l) = a (ix3 (0 : Fin 1) n l) := by
  refine (shapeCast_dropUnit_apply ![512, 128] a h (ix2 n l)).trans (congrArg a (funext fun k => ?_))
  match k with
  | ⟨0, _⟩ => rfl
  | ⟨1, _⟩ => rfl
  | ⟨2, _⟩ => rfl

/-- The column blocks of an array side by side, added to a block. -/
theorem joined_at (v : FVec Ideal S512x1024 .f32) (a0 a1 a2 a3 a4 a5 a6 a7 : FVec Ideal S1x512x128 .f32) (G : S8x512x128.Idx → Elt Ideal .f32)
    (h0 : ∀ (n : Fin 512) (l : Fin 128), a0 (ix3 (0 : Fin 1) n l) = G (ix3 (0 : Fin 8) n l))
    (h1 : ∀ (n : Fin 512) (l : Fin 128), a1 (ix3 (0 : Fin 1) n l) = G (ix3 (1 : Fin 8) n l))
    (h2 : ∀ (n : Fin 512) (l : Fin 128), a2 (ix3 (0 : Fin 1) n l) = G (ix3 (2 : Fin 8) n l))
    (h3 : ∀ (n : Fin 512) (l : Fin 128), a3 (ix3 (0 : Fin 1) n l) = G (ix3 (3 : Fin 8) n l))
    (h4 : ∀ (n : Fin 512) (l : Fin 128), a4 (ix3 (0 : Fin 1) n l) = G (ix3 (4 : Fin 8) n l))
    (h5 : ∀ (n : Fin 512) (l : Fin 128), a5 (ix3 (0 : Fin 1) n l) = G (ix3 (5 : Fin 8) n l))
    (h6 : ∀ (n : Fin 512) (l : Fin 128), a6 (ix3 (0 : Fin 1) n l) = G (ix3 (6 : Fin 8) n l))
    (h7 : ∀ (n : Fin 512) (l : Fin 128), a7 (ix3 (0 : Fin 1) n l) = G (ix3 (7 : Fin 8) n l))
    (n : Fin 512) (b : Fin 8) (l : Fin 128) (j : Fin 1024) (hj : j.val = b.val * 128 + l.val) :
    (k0_pay46 (F := Ideal) v a0 a1 a2 a3 a4 a5 a6 a7 (ix2 n j) : EReal) = v (ix2 n j) + G (ix3 b n l) := by
  refine congrArg (v (ix2 n j) + ·) ?_
  have off : ∀ k : Fin 2, k ≠ (1 : Fin 2) → ((ix2 n l : S512x128.Idx) k).val = ((ix2 n j : S512x1024.Idx) k).val := fun k hk => by
    match k with
    | ⟨0, _⟩ => rfl
    | ⟨1, _⟩ => exact absurd rfl hk
  match b with
  | ⟨0, _⟩ => exact ((concatenate_apply_piece 1 _ _ (ix2 n j) 0 (by simp) S512x128 _ rfl rfl 0 rfl (ix2 n l) off hj.symm).trans (drop_at a0 _ n l)).trans (h0 n l)
  | ⟨1, _⟩ => exact ((concatenate_apply_piece 1 _ _ (ix2 n j) 1 (by simp) S512x128 _ rfl rfl 128 rfl (ix2 n l) off hj.symm).trans (drop_at a1 _ n l)).trans (h1 n l)
  | ⟨2, _⟩ => exact ((concatenate_apply_piece 1 _ _ (ix2 n j) 2 (by simp) S512x128 _ rfl rfl 256 rfl (ix2 n l) off hj.symm).trans (drop_at a2 _ n l)).trans (h2 n l)
  | ⟨3, _⟩ => exact ((concatenate_apply_piece 1 _ _ (ix2 n j) 3 (by simp) S512x128 _ rfl rfl 384 rfl (ix2 n l) off hj.symm).trans (drop_at a3 _ n l)).trans (h3 n l)
  | ⟨4, _⟩ => exact ((concatenate_apply_piece 1 _ _ (ix2 n j) 4 (by simp) S512x128 _ rfl rfl 512 rfl (ix2 n l) off hj.symm).trans (drop_at a4 _ n l)).trans (h4 n l)
  | ⟨5, _⟩ => exact ((concatenate_apply_piece 1 _ _ (ix2 n j) 5 (by simp) S512x128 _ rfl rfl 640 rfl (ix2 n l) off hj.symm).trans (drop_at a5 _ n l)).trans (h5 n l)
  | ⟨6, _⟩ => exact ((concatenate_apply_piece 1 _ _ (ix2 n j) 6 (by simp) S512x128 _ rfl rfl 768 rfl (ix2 n l) off hj.symm).trans (drop_at a6 _ n l)).trans (h6 n l)
  | ⟨7, _⟩ => exact ((concatenate_apply_piece 1 _ _ (ix2 n j) 7 (by simp) S512x128 _ rfl rfl 896 rfl (ix2 n l) off hj.symm).trans (drop_at a7 _ n l)).trans (h7 n l)

/-- The sum of the input gradients of the branches, at an entry of a point's block. -/
def part (a b c : FVec Ideal S512x1024 .bf16) (X : FVec Ideal S4x128x1024 .bf16) (Y : FVec Ideal S16x32x1024 .bf16)
    (n : Fin 512) (j : Fin 1024) : EReal :=
  a (ix2 n j) + b (ix2 n j) + c (ix2 n j)
    + X (ix3 (⟨n.val % 4, Nat.mod_lt _ (by decide)⟩ : Fin 4) (⟨n.val / 4, by omega⟩ : Fin 128) j)
    + Y (ix3 (⟨n.val % 16, Nat.mod_lt _ (by decide)⟩ : Fin 16) (⟨n.val / 16, by omega⟩ : Fin 32) j)

/-- The column blocks and the remainders modulo four, the latest store first. -/
abbrev keys4 : List (Nat × Nat) :=
  [(7, 3), (6, 3), (5, 3), (4, 3), (3, 3), (2, 3), (1, 3), (0, 3),
   (7, 2), (6, 2), (5, 2), (4, 2), (3, 2), (2, 2), (1, 2), (0, 2),
   (7, 1), (6, 1), (5, 1), (4, 1), (3, 1), (2, 1), (1, 1), (0, 1),
   (7, 0), (6, 0), (5, 0), (4, 0), (3, 0), (2, 0), (1, 0), (0, 0)]

/-- The column blocks and the remainders modulo sixteen, the latest store first. -/
abbrev keys16 : List (Nat × Nat) :=
  [(7, 15), (6, 15), (5, 15), (4, 15), (3, 15), (2, 15), (1, 15), (0, 15),
   (7, 14), (6, 14), (5, 14), (4, 14), (3, 14), (2, 14), (1, 14), (0, 14),
   (7, 13), (6, 13), (5, 13), (4, 13), (3, 13), (2, 13), (1, 13), (0, 13),
   (7, 12), (6, 12), (5, 12), (4, 12), (3, 12), (2, 12), (1, 12), (0, 12),
   (7, 11), (6, 11), (5, 11), (4, 11), (3, 11), (2, 11), (1, 11), (0, 11),
   (7, 10), (6, 10), (5, 10), (4, 10), (3, 10), (2, 10), (1, 10), (0, 10),
   (7, 9), (6, 9), (5, 9), (4, 9), (3, 9), (2, 9), (1, 9), (0, 9),
   (7, 8), (6, 8), (5, 8), (4, 8), (3, 8), (2, 8), (1, 8), (0, 8),
   (7, 7), (6, 7), (5, 7), (4, 7), (3, 7), (2, 7), (1, 7), (0, 7),
   (7, 6), (6, 6), (5, 6), (4, 6), (3, 6), (2, 6), (1, 6), (0, 6),
   (7, 5), (6, 5), (5, 5), (4, 5), (3, 5), (2, 5), (1, 5), (0, 5),
   (7, 4), (6, 4), (5, 4), (4, 4), (3, 4), (2, 4), (1, 4), (0, 4),
   (7, 3), (6, 3), (5, 3), (4, 3), (3, 3), (2, 3), (1, 3), (0, 3),
   (7, 2), (6, 2), (5, 2), (4, 2), (3, 2), (2, 2), (1, 2), (0, 2),
   (7, 1), (6, 1), (5, 1), (4, 1), (3, 1), (2, 1), (1, 1), (0, 1),
   (7, 0), (6, 0), (5, 0), (4, 0), (3, 0), (2, 0), (1, 0), (0, 0)]

theorem mem_keys4 : ∀ (b : Fin 8) (r : Fin 4), (b.val, r.val) ∈ keys4 := by decide +kernel

theorem mem_keys16 : ∀ (b : Fin 8) (r : Fin 16), (b.val, r.val) ∈ keys16 := by decide +kernel

/-- A column block as the call reads it. -/
abbrev block (L : List Store) (b : Fin 8) (inb : ∀ a, (![b.val, 0, 0] : Fin 3 → Nat) a + (![1, 512, 128] : Fin 3 → Nat) a ≤ S8x512x128.size a) :
    FVec Ideal S1x512x128 .f32 :=
  (View.whole cc0_scratch0).readCov L (Rect.unit (s := S8x512x128) ![b.val, 0, 0] ![1, 512, 128] inb).toLoadRect

/-- The sum that the call forms. -/
theorem sum_at (a b c : FVec Ideal S512x1024 .bf16) (X : FVec Ideal S4x128x1024 .bf16) (Y : FVec Ideal S16x32x1024 .bf16)
    {L M : List Store} (hL : Latest 4 (rows4 X) keys4 L) (hM : Latest 16 (rows16 Y) keys16 M)
    (i0 i1 i2 i3 i4 i5 i6 i7) (j0 j1 j2 j3 j4 j5 j6 j7) (n : Fin 512) (j : Fin 1024) :
    (k0_pay217 (F := Ideal) (k0_pay46 (F := Ideal) (k0_pay3 (F := Ideal) a b c) (block L 0 i0) (block L 1 i1) (block L 2 i2) (block L 3 i3)
        (block L 4 i4) (block L 5 i5) (block L 6 i6) (block L 7 i7))
      (block M 0 j0) (block M 1 j1) (block M 2 j2) (block M 3 j3) (block M 4 j4) (block M 5 j5) (block M 6 j6) (block M 7 j7) (ix2 n j) : EReal)
      = part a b c X Y n j := by
  have hk' : ∀ (b : Fin 8) (r : Nat), r < 4 → (b.val, r) ∈ keys4 := fun b r h => mem_keys4 b ⟨r, h⟩
  have hl' : ∀ (b : Fin 8) (r : Nat), r < 16 → (b.val, r) ∈ keys16 := fun b r h => mem_keys16 b ⟨r, h⟩
  have rX := hL.read_eq hk' (by decide)
  have rY := hM.read_eq hl' (by decide)
  have hj : j.val = (⟨j.val / 128, by omega⟩ : Fin 8).val * 128 + (⟨j.val % 128, by omega⟩ : Fin 128).val := by
    show j.val = j.val / 128 * 128 + j.val % 128; omega
  refine (joined_at _ _ _ _ _ _ _ _ _ _ (rY 0 j0) (rY 1 j1) (rY 2 j2) (rY 3 j3) (rY 4 j4) (rY 5 j5) (rY 6 j6) (rY 7 j7) n _ _ j hj).trans ?_
  rw [joined_at _ _ _ _ _ _ _ _ _ _ (rX 0 i0) (rX 1 i1) (rX 2 i2) (rX 3 i3) (rX 4 i4) (rX 5 i5) (rX 6 i6) (rX 7 i7) n _ _ j hj]
  have e : (⟨j.val / 128 * 128 + j.val % 128, by omega⟩ : Fin 1024) = j := Fin.ext (by show j.val / 128 * 128 + j.val % 128 = j.val; omega)
  show (a (ix2 n j) + b (ix2 n j) + c (ix2 n j) : EReal) + X (ix3 _ _ (⟨j.val / 128 * 128 + j.val % 128, _⟩ : Fin 1024))
    + Y (ix3 _ _ (⟨j.val / 128 * 128 + j.val % 128, _⟩ : Fin 1024)) = _
  rw [e]
  rfl

/-- The scale of a row. -/
theorem scale_at (x : FVec Ideal S512x1024 .f32) (n : Fin 512) :
    (k0_pay218 (F := Ideal) x (ix2 n (0 : Fin 1)) : EReal) = RowGradient.scale (fun k => x (ix2 n k)) := by
  unfold RowGradient.scale RowGradient.spread RowGradient.count RowGradient.small
  pointwise [k0_pay218]

/-- The gradient of the input, at an entry. -/
theorem out_at (x dh : FVec Ideal S512x1024 .f32) (u : FVec Ideal S512x1024 .f32) (g : FVec Ideal S1x1024 .f32) (n : Fin 512) (j : Fin 1024) :
    (k0_pay222 (F := Ideal) (k0_pay218 (F := Ideal) x) (k0_pay219 (F := Ideal) x)
      (mulf (F := Ideal) (φ := .f32) u (broadcastTo S512x1024 g broadcasts_S1x1024_S512x1024)) dh (ix2 n j) : EReal)
      = dh (ix2 n j) + RowGradient.kernelForm (fun k => x (ix2 n k)) (fun k => u (ix2 n k) * g (ix2 (0 : Fin 1) k)) j := by
  unfold RowGradient.kernelForm RowGradient.count
  rw [← scale_at x n]
  pointwise [k0_pay222, k0_pay219]

/-- A point's addition to the gradient of the norm's weight. -/
theorem weight_at (x u : FVec Ideal S512x1024 .f32) (acc : FVec Ideal S1x1024 .f32) (j : Fin 1024) :
    (k0_pay2 (F := Ideal) (k0_pay221 (F := Ideal) u (k0_pay219 (F := Ideal) x)) acc (ix2 (0 : Fin 1) j) : EReal)
      = acc (ix2 (0 : Fin 1) j) + ∑ n : Fin 512, u (ix2 n j) * (x (ix2 n j) * RowGradient.scale (fun k => x (ix2 n k))) := by
  have e : (∑ n : Fin 512, u (ix2 n j) * (x (ix2 n j) * RowGradient.scale (fun k => x (ix2 n k))) : EReal)
      = ∑ n : Fin 512, u (ix2 n j) * (x (ix2 n j) * k0_pay218 (F := Ideal) x (ix2 n (0 : Fin 1))) :=
    congrArg (fun f : Fin 512 → EReal => ∑ n, f n) (funext fun n => by rw [← scale_at x n])
  rw [e]
  pointwise [k0_pay2, k0_pay221, k0_pay219]

/-- The gradient of the input that a point stores, at an entry. -/
theorem point_out (x dh : FVec Ideal S512x1024 .f32) (g : FVec Ideal S1x1024 .f32)
    (a b c : FVec Ideal S512x1024 .bf16) (X : FVec Ideal S4x128x1024 .bf16) (Y : FVec Ideal S16x32x1024 .bf16)
    {L M : List Store} (hL : Latest 4 (rows4 X) keys4 L) (hM : Latest 16 (rows16 Y) keys16 M)
    (i0 i1 i2 i3 i4 i5 i6 i7) (j0 j1 j2 j3 j4 j5 j6 j7) (n : Fin 512) (j : Fin 1024) :
    (k0_pay222 (F := Ideal) (k0_pay218 (F := Ideal) x) (k0_pay219 (F := Ideal) x) (k0_pay220 (F := Ideal)
      (k0_pay46 (F := Ideal) (k0_pay3 (F := Ideal) a b c) (block L 0 i0) (block L 1 i1) (block L 2 i2)
        (block L 3 i3) (block L 4 i4) (block L 5 i5) (block L 6 i6) (block L 7 i7))
      (block M 0 j0) (block M 1 j1) (block M 2 j2) (block M 3 j3) (block M 4 j4) (block M 5 j5) (block M 6 j6) (block M 7 j7) g) dh (ix2 n j) : EReal)
      = dh (ix2 n j) + RowGradient.kernelForm (fun k => x (ix2 n k)) (fun k => part a b c X Y n k * g (ix2 (0 : Fin 1) k)) j := by
  refine (out_at x dh (k0_pay217 (F := Ideal) (k0_pay46 (F := Ideal) (k0_pay3 (F := Ideal) a b c) (block L 0 i0) (block L 1 i1) (block L 2 i2)
        (block L 3 i3) (block L 4 i4) (block L 5 i5) (block L 6 i6) (block L 7 i7))
      (block M 0 j0) (block M 1 j1) (block M 2 j2) (block M 3 j3) (block M 4 j4) (block M 5 j5) (block M 6 j6) (block M 7 j7)) g n j).trans ?_
  refine congrArg (fun f : Fin 1024 → EReal => dh (ix2 n j) + RowGradient.kernelForm (fun k => x (ix2 n k)) f j) (funext fun k => ?_)
  exact congrArg (· * g (ix2 (0 : Fin 1) k)) (sum_at a b c X Y hL hM i0 i1 i2 i3 i4 i5 i6 i7 j0 j1 j2 j3 j4 j5 j6 j7 n k)

/-- The gradient of the norm's weight after a point, at an entry. -/
theorem point_weight (x : FVec Ideal S512x1024 .f32) (acc : FVec Ideal S1x1024 .f32)
    (a b c : FVec Ideal S512x1024 .bf16) (X : FVec Ideal S4x128x1024 .bf16) (Y : FVec Ideal S16x32x1024 .bf16)
    {L M : List Store} (hL : Latest 4 (rows4 X) keys4 L) (hM : Latest 16 (rows16 Y) keys16 M)
    (i0 i1 i2 i3 i4 i5 i6 i7) (j0 j1 j2 j3 j4 j5 j6 j7) (j : Fin 1024) :
    (k0_pay2 (F := Ideal) (k0_pay221 (F := Ideal) (k0_pay217 (F := Ideal)
      (k0_pay46 (F := Ideal) (k0_pay3 (F := Ideal) a b c) (block L 0 i0) (block L 1 i1) (block L 2 i2)
        (block L 3 i3) (block L 4 i4) (block L 5 i5) (block L 6 i6) (block L 7 i7))
      (block M 0 j0) (block M 1 j1) (block M 2 j2) (block M 3 j3) (block M 4 j4) (block M 5 j5) (block M 6 j6) (block M 7 j7)) (k0_pay219 (F := Ideal) x)) acc (ix2 (0 : Fin 1) j) : EReal)
      = acc (ix2 (0 : Fin 1) j)
        + ∑ n : Fin 512, part a b c X Y n j * (x (ix2 n j) * RowGradient.scale (fun k => x (ix2 n k))) := by
  refine (weight_at x (k0_pay217 (F := Ideal) (k0_pay46 (F := Ideal) (k0_pay3 (F := Ideal) a b c) (block L 0 i0) (block L 1 i1) (block L 2 i2)
        (block L 3 i3) (block L 4 i4) (block L 5 i5) (block L 6 i6) (block L 7 i7))
      (block M 0 j0) (block M 1 j1) (block M 2 j2) (block M 3 j3) (block M 4 j4) (block M 5 j5) (block M 6 j6) (block M 7 j7)) acc j).trans ?_
  refine congrArg (fun f : Fin 512 → EReal => acc (ix2 (0 : Fin 1) j) + ∑ n, f n) (funext fun n => ?_)
  exact congrArg (· * (x (ix2 n j) * RowGradient.scale (fun k => x (ix2 n k))))
    (sum_at a b c X Y hL hM i0 i1 i2 i3 i4 i5 i6 i7 j0 j1 j2 j3 j4 j5 j6 j7 n j)

end Cert.Kernel40Ideal.Stage

end
-- ==== Proof.Products.StepInputReference.lean ====
/- The gradient at the step's input, as the reference computes it: its parts, entry by entry. -/
module

public import proofs.«01_k».proof.Proof.Gen.Reference40Ideal
public import proofs.«01_k».proof.Proof.Products.RowGradient
public import Idealize.ShloMosaic.Lib.Pointwise

@[expose] public section

set_option maxRecDepth 16384

noncomputable section

open Idealize.ShloMosaic
open scoped BigOperators

namespace Cert.Reference40Ideal.Value

open Cert.Reference40Ideal Cert.Reference40Ideal.Gen

/-- The five branches' gradients, summed; the last two are put back in the order of the tokens. -/
def branches (a b c d e : FVec Ideal S16384x1024 .bf16) : FVec Ideal S16384x1024 .f32 :=
  addf (addf (addf (addf (extf .f32 a bitsLt_bf16_f32) (extf .f32 b bitsLt_bf16_f32)) (extf .f32 c bitsLt_bf16_f32))
    (shapeCast S16384x1024 (transpose S4096x4x1024 [1, 0, 2] (shapeCast S4x4096x1024 (extf .f32 d bitsLt_bf16_f32)
      shapeCasts_S16384x1024_S4x4096x1024) transposes_S4x4096x1024_S4096x4x1024_1_0_2) shapeCasts_S4096x4x1024_S16384x1024))
    (shapeCast S16384x1024 (transpose S1024x16x1024 [1, 0, 2] (shapeCast S16x1024x1024 (extf .f32 e bitsLt_bf16_f32)
      shapeCasts_S16384x1024_S16x1024x1024) transposes_S16x1024x1024_S1024x16x1024_1_0_2) shapeCasts_S1024x16x1024_S16384x1024)

/-- The same sum at one entry. -/
def branch (a b c d e : FVec Ideal S16384x1024 .bf16) (n : Fin 16384) (j : Fin 1024) : EReal :=
  a (ix2 n j) + b (ix2 n j) + c (ix2 n j)
    + d (ix2 (⟨n.val % 4 * 4096 + n.val / 4, by omega⟩ : Fin 16384) j)
    + e (ix2 (⟨n.val % 16 * 1024 + n.val / 16, by omega⟩ : Fin 16384) j)

theorem branches_at (a b c d e : FVec Ideal S16384x1024 .bf16) (n : Fin 16384) (j : Fin 1024) :
    (branches a b c d e (ix2 n j) : EReal) = branch a b c d e n j := by
  unfold branch
  pointwise [branches]

/-- The mean of every row's squares, and the constant. -/
def spreads (x : FVec Ideal S16384x1024 .f32) : FVec Ideal S16384x1 .f32 :=
  addf (Host.divf (broadcastInDim S16384x1 ![0] bcast_S16384_S16384x1_0 (Host.reduceAdd (mulf x x)
      (constant S_ .f32 0x00000000#32) reducesTo_S16384x1024_S16384_d1 h_S_))
      (broadcastInDim S16384x1 ![] bcast_S_S16384x1 (constant S_ .f32 0x44800000#32)))
    (broadcastInDim S16384x1 ![] bcast_S_S16384x1 (constant S_ .f32 0x358637BD#32))

theorem spreads_at (x : FVec Ideal S16384x1024 .f32) (n : Fin 16384) :
    (spreads x (ix2 n 0) : EReal) = RowGradient.spread (fun k => x (ix2 n k)) := by
  unfold RowGradient.spread RowGradient.count RowGradient.small
  pointwise [spreads]

def scales (x : FVec Ideal S16384x1024 .f32) : FVec Ideal S16384x1 .f32 := Host.rsqrt (spreads x)

theorem scales_at (x : FVec Ideal S16384x1024 .f32) (n : Fin 16384) :
    (scales x (ix2 n 0) : EReal) = RowGradient.scale (fun k => x (ix2 n k)) := by
  unfold RowGradient.scale
  rw [← spreads_at]
  pointwise [scales]

/-- The gradient of the norm's weights. -/
def weights (x u : FVec Ideal S16384x1024 .f32) : FVec Ideal S1x1024 .f32 :=
  shapeCast S1x1024 (Host.reduceAdd (mulf (mulf x (broadcastInDim S16384x1024 ![0, 1] bcast_S16384x1_S16384x1024_0_1 (scales x))) u)
    (constant S_ .f32 0x00000000#32) reducesTo_S16384x1024_S1024_d0 h_S_) shapeCasts_S1024_S1x1024

theorem weights_at (x u : FVec Ideal S16384x1024 .f32) (j : Fin 1024) :
    (weights x u (ix2 0 j) : EReal)
      = ∑ n : Fin 16384, x (ix2 n j) * RowGradient.scale (fun k => x (ix2 n k)) * u (ix2 n j) := by
  simp only [← scales_at x]
  pointwise [weights]

def weighted (u : FVec Ideal S16384x1024 .f32) (g : FVec Ideal S1x1024 .f32) : FVec Ideal S16384x1024 .f32 :=
  mulf u (broadcastInDim S16384x1024 ![0, 1] bcast_S1x1024_S16384x1024_0_1 g)

theorem weighted_at (u : FVec Ideal S16384x1024 .f32) (g : FVec Ideal S1x1024 .f32) (n : Fin 16384) (j : Fin 1024) :
    (weighted u g (ix2 n j) : EReal) = u (ix2 n j) * g (ix2 0 j) := by
  pointwise [weighted]

/-- The factor that every row's entries share. -/
def shares (x t : FVec Ideal S16384x1024 .f32) : FVec Ideal S16384 .f32 :=
  Host.reduceAdd (Host.divf (mulf (shapeCast S16384x1 (Host.reduceAdd (mulf x t)
      (constant S_ .f32 0x00000000#32) reducesTo_S16384x1024_S16384_d1 h_S_) shapeCasts_S16384_S16384x1)
      (mulf (broadcastInDim S16384x1 ![] bcast_S_S16384x1 (constant S_ .f32 0xBF000000#32)) (Host.divf (scales x) (spreads x))))
      (broadcastInDim S16384x1 ![] bcast_S_S16384x1 (constant S_ .f32 0x44800000#32)))
    (constant S_ .f32 0x00000000#32) reducesTo_S16384x1_S16384_d1 h_S_

theorem shares_at (x t : FVec Ideal S16384x1024 .f32) (n : Fin 16384) :
    (shares x t (ix1 n) : EReal) = RowGradient.shared (fun k => x (ix2 n k)) (fun k => t (ix2 n k)) := by
  unfold RowGradient.shared RowGradient.count
  rw [← scales_at x n, ← spreads_at x n]
  pointwise [shares]
  exact Fin.sum_univ_one _

/-- The gradient at the step's input. -/
def inputs (x h t : FVec Ideal S16384x1024 .f32) : FVec Ideal S16384x1024 .f32 :=
  addf h (addf (addf (mulf t (broadcastInDim S16384x1024 ![0, 1] bcast_S16384x1_S16384x1024_0_1 (scales x)))
    (mulf x (broadcastInDim S16384x1024 ![0] bcast_S16384_S16384x1024_0 (shares x t))))
    (mulf (broadcastInDim S16384x1024 ![0] bcast_S16384_S16384x1024_0 (shares x t)) x))

theorem inputs_at (x h t : FVec Ideal S16384x1024 .f32) (n : Fin 16384) (j : Fin 1024) :
    (inputs x h t (ix2 n j) : EReal)
      = h (ix2 n j) + RowGradient.kernelForm (fun k => x (ix2 n k)) (fun k => t (ix2 n k)) j := by
  rw [RowGradient.kernelForm_eq, ← scales_at x n, ← shares_at x t n]
  pointwise [inputs]

end Cert.Reference40Ideal.Value

end
-- ==== Proof.Products.StepInput.lean ====
/- The gradient of the step's input (`grad_x`) and of the first norm's weight: the values that the call stores and its claims. -/
module

public import proofs.«01_k».proof.Defs
public import proofs.«01_k».proof.Proof.Gen.Kernel40.Frame
public import proofs.«01_k».proof.Proof.Gen.Kernel40Ideal.Frame
public import proofs.«01_k».proof.Proof.Gen.Kernel40Ideal.Points
public import proofs.«01_k».proof.Proof.Gen.Reference40Ideal
public import proofs.«01_k».proof.Proof.Products.StepInputParts
public import proofs.«01_k».proof.Proof.Products.StepInputReference
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)
open scoped BigOperators

namespace Cert.Kernel40Ideal.Product

open Cert.Kernel40Ideal Cert.Kernel40Ideal.Gen Cert.Kernel40Ideal.Stage

variable (m : (ℓ : Loc nD τ sig) → Buf (Elt Ideal) ℓ)

/-- The blocks that a grid point reads and writes. -/
theorem index_at : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, t.val, 0] ∧ win0_6.index t = ![0, t.val, 0]
    ∧ win0_7.index t = ![0, 0] ∧ win0_8.index t = ![t.val, 0] ∧ win0_9.index t = ![0, 0] :=
  (by decide +kernel : ∀ t : Fin grid0.N, _)

/-- An entry of a point's block of the input. -/
def xs (c : Dev nD) (t : Fin cfg0.N) (n : Fin 512) (j : Fin 1024) : EReal := show EReal from iblk m c 0 t (ix2 n j)

/-- An entry of a point's block of the gradient that is added. -/
def hs (c : Dev nD) (t : Fin cfg0.N) (n : Fin 512) (j : Fin 1024) : EReal := show EReal from iblk m c 1 t (ix2 n j)

/-- An entry of the norm's weight. -/
def gs (c : Dev nD) (t : Fin cfg0.N) (j : Fin 1024) : EReal := show EReal from iblk m c 7 t (ix2 (0 : Fin 1) j)

/-- The sum of the branches' input gradients, at an entry of a point's block. -/
def sums (c : Dev nD) (t : Fin cfg0.N) (n : Fin 512) (j : Fin 1024) : EReal :=
  part (iblk m c 2 t) (iblk m c 3 t) (iblk m c 4 t) (iblk m c 5 t) (iblk m c 6 t) n j

set_option maxHeartbeats 4000000 in
/-- What a point stores of the gradient of the input. -/
theorem stored_at (c : Dev nD) (t : Fin cfg0.N) (n : Fin 512) (j : Fin 1024) :
    ((outsAt0 m c t.val t.isLt).1 (ix2 n j) : EReal) = hs m c t n j
      + RowGradient.kernelForm (xs m c t n) (fun k => sums m c t n k * gs m c t k) j := by
  by_cases h : t.val % 32 = 0
  · rw [outsAt0_A m c t h]; frame_out
    refine point_out (iblk m c 0 t) (iblk m c 1 t) (iblk m c 7 t) (iblk m c 2 t) (iblk m c 3 t) (iblk m c 4 t) (iblk m c 5 t) (iblk m c 6 t)
      ?hL ?hM _ _ _ _ _ _ _ _ _ _ _ _ _ _ _ _ n j
    case hL =>
      iterate 32 (apply Latest.cons; (· refine good4 _ _ _ _ ?_ ?_ _ _ _ _ _ _ _ ?_ ?_ ?_ ?_ ?_ <;> decide))
      exact Latest.nil _
    case hM =>
      iterate 128 (apply Latest.cons; (· refine good16 _ _ _ _ ?_ ?_ _ _ _ _ _ _ _ ?_ ?_ ?_ ?_ ?_ <;> decide))
      exact Latest.nil _
  · rw [outsAt0_B m c t h]; frame_out
    refine point_out (iblk m c 0 t) (iblk m c 1 t) (iblk m c 7 t) (iblk m c 2 t) (iblk m c 3 t) (iblk m c 4 t) (iblk m c 5 t) (iblk m c 6 t)
      ?hL ?hM _ _ _ _ _ _ _ _ _ _ _ _ _ _ _ _ n j
    case hL =>
      iterate 32 (apply Latest.cons; (· refine good4 _ _ _ _ ?_ ?_ _ _ _ _ _ _ _ ?_ ?_ ?_ ?_ ?_ <;> decide))
      exact Latest.nil _
    case hM =>
      iterate 128 (apply Latest.cons; (· refine good16 _ _ _ _ ?_ ?_ _ _ _ _ _ _ _ ?_ ?_ ?_ ?_ ?_ <;> decide))
      exact Latest.nil _

/-- A point's addition to the gradient of the norm's weight. -/
def added (c : Dev nD) (t : Fin cfg0.N) (j : Fin 1024) : EReal :=
  ∑ n : Fin 512, sums m c t n j * (xs m c t n j * RowGradient.scale (xs m c t n))

set_option maxHeartbeats 4000000 in
/-- The first point sets the gradient of the norm's weight to its addition. -/
theorem first_at (c : Dev nD) (t : Fin cfg0.N) (h : t.val % 32 = 0) (j : Fin 1024) :
    ((outsAt0 m c t.val t.isLt).2 (ix2 (0 : Fin 1) j) : EReal) = 0 + added m c t j := by
  rw [outsAt0_A m c t h]; frame_out
  refine (point_weight (iblk m c 0 t) _ (iblk m c 2 t) (iblk m c 3 t) (iblk m c 4 t) (iblk m c 5 t) (iblk m c 6 t)
    ?hL ?hM _ _ _ _ _ _ _ _ _ _ _ _ _ _ _ _ j).trans ?_
  case hL =>
    iterate 32 (apply Latest.cons; (· refine good4 _ _ _ _ ?_ ?_ _ _ _ _ _ _ _ ?_ ?_ ?_ ?_ ?_ <;> decide))
    exact Latest.nil _
  case hM =>
    iterate 128 (apply Latest.cons; (· refine good16 _ _ _ _ ?_ ?_ _ _ _ _ _ _ _ ?_ ?_ ?_ ?_ ?_ <;> decide))
    exact Latest.nil _
  refine congrArg (· + added m c t j) ?_
  pointwise [k0_pay1]

set_option maxHeartbeats 4000000 in
/-- Every other point adds its addition. -/
theorem step_at (c : Dev nD) (t : Fin cfg0.N) (h : ¬ t.val % 32 = 0) (j : Fin 1024) :
    ((outsAt0 m c t.val t.isLt).2 (ix2 (0 : Fin 1) j) : EReal)
      = (outsAt0 m c (t.val - 1) (Nat.lt_of_le_of_lt (Nat.sub_le _ _) t.isLt)).2 (ix2 (0 : Fin 1) j) + added m c t j := by
  rw [outsAt0_B m c t h]; frame_out
  refine (point_weight (iblk m c 0 t) _ (iblk m c 2 t) (iblk m c 3 t) (iblk m c 4 t) (iblk m c 5 t) (iblk m c 6 t)
    ?hL ?hM _ _ _ _ _ _ _ _ _ _ _ _ _ _ _ _ j).trans ?_
  case hL =>
    iterate 32 (apply Latest.cons; (· refine good4 _ _ _ _ ?_ ?_ _ _ _ _ _ _ _ ?_ ?_ ?_ ?_ ?_ <;> decide))
    exact Latest.nil _
  case hM =>
    iterate 128 (apply Latest.cons; (· refine good16 _ _ _ _ ?_ ?_ _ _ _ _ _ _ _ ?_ ?_ ?_ ?_ ?_ <;> decide))
    exact Latest.nil _
  rfl

/-- The rows of a point's blocks are rows of the arguments. -/
theorem xs_eq (c : Dev nD) (t : Fin cfg0.N) (n : Fin 512) (j : Fin 1024) (k : Fin 16384) (hk : k.val = t.val * 512 + n.val) :
    xs m c t n j = (m ((c : Thread nD τ).loc main_arg0) : FVec Ideal S16384x1024 .f32) (ix2 k j) := by
  obtain ⟨h0, h1, h2, h3, h4, h5, h6, h7, h8, h9⟩ := index_at t
  unfold xs
  blk_point [iblk, V, h0]

theorem hs_eq (c : Dev nD) (t : Fin cfg0.N) (n : Fin 512) (j : Fin 1024) (k : Fin 16384) (hk : k.val = t.val * 512 + n.val) :
    hs m c t n j = (m ((c : Thread nD τ).loc main_arg1) : FVec Ideal S16384x1024 .f32) (ix2 k j) := by
  obtain ⟨h0, h1, h2, h3, h4, h5, h6, h7, h8, h9⟩ := index_at t
  unfold hs
  blk_point [iblk, V, h1]

theorem gs_eq (c : Dev nD) (t : Fin cfg0.N) (j : Fin 1024) :
    gs m c t j = (m ((c : Thread nD τ).loc main_arg7) : FVec Ideal S1x1024 .f32) (ix2 (0 : Fin 1) j) := by
  obtain ⟨h0, h1, h2, h3, h4, h5, h6, h7, h8, h9⟩ := index_at t
  unfold gs
  blk_point [iblk, V, h7]

theorem sums_eq (c : Dev nD) (t : Fin cfg0.N) (n : Fin 512) (j : Fin 1024) (k : Fin 16384) (hk : k.val = t.val * 512 + n.val) :
    sums m c t n j = Cert.Reference40Ideal.Value.branch (m ((c : Thread nD τ).loc main_arg2)) (m ((c : Thread nD τ).loc main_arg3))
      (m ((c : Thread nD τ).loc main_arg4)) (m ((c : Thread nD τ).loc main_arg5)) (m ((c : Thread nD τ).loc main_arg6)) k j := by
  obtain ⟨h0, h1, h2, h3, h4, h5, h6, h7, h8, h9⟩ := index_at t
  unfold sums part Cert.Reference40Ideal.Value.branch
  have e2 : (show EReal from iblk m c 2 t (ix2 n j)) = (m ((c : Thread nD τ).loc main_arg2) : FVec Ideal S16384x1024 .bf16) (ix2 k j) := by
    blk_point [iblk, V, h2]
  have e3 : (show EReal from iblk m c 3 t (ix2 n j)) = (m ((c : Thread nD τ).loc main_arg3) : FVec Ideal S16384x1024 .bf16) (ix2 k j) := by
    blk_point [iblk, V, h3]
  have e4 : (show EReal from iblk m c 4 t (ix2 n j)) = (m ((c : Thread nD τ).loc main_arg4) : FVec Ideal S16384x1024 .bf16) (ix2 k j) := by
    blk_point [iblk, V, h4]
  have e5 : (show EReal from iblk m c 5 t (ix3 (⟨n.val % 4, Nat.mod_lt _ (by decide)⟩ : Fin 4) (⟨n.val / 4, by omega⟩ : Fin 128) j))
      = (m ((c : Thread nD τ).loc main_arg5) : FVec Ideal S16384x1024 .bf16) (ix2 (⟨k.val % 4 * 4096 + k.val / 4, by omega⟩ : Fin 16384) j) := by
    blk_point [iblk, V, h5]
  have e6 : (show EReal from iblk m c 6 t (ix3 (⟨n.val % 16, Nat.mod_lt _ (by decide)⟩ : Fin 16) (⟨n.val / 16, by omega⟩ : Fin 32) j))
      = (m ((c : Thread nD τ).loc main_arg6) : FVec Ideal S16384x1024 .bf16) (ix2 (⟨k.val % 16 * 1024 + k.val / 16, by omega⟩ : Fin 16384) j) := by
    blk_point [iblk, V, h6]
  exact congrArg₂ (· + ·) (congrArg₂ (· + ·) (congrArg₂ (· + ·) (congrArg₂ (· + ·) e2 e3) e4) e5) e6

/-- The gradient at the step's input: the gradient at the first sum, and the first norm's share. -/
def inputValue (x h : FVec Ideal S16384x1024 .f32) (a b c d e : FVec Ideal S16384x1024 .bf16) (g : FVec Ideal S1x1024 .f32) :
    FVec Ideal S16384x1024 .f32 := fun i =>
  show EReal from h (ix2 (i 0) (i 1)) + RowGradient.kernelForm (fun k => x (ix2 (i 0) k))
    (fun k => Cert.Reference40Ideal.Value.branch a b c d e (i 0) k * g (ix2 (0 : Fin 1) k)) (i 1)

/-- The gradient of the first norm's weight. -/
def weightValue (x : FVec Ideal S16384x1024 .f32) (a b c d e : FVec Ideal S16384x1024 .bf16) : FVec Ideal S1x1024 .f32 := fun i =>
  show EReal from ∑ n : Fin 16384, Cert.Reference40Ideal.Value.branch a b c d e n (i 1)
    * (x (ix2 n (i 1)) * RowGradient.scale (fun k => x (ix2 n k)))

/-- The reference's gradient at the step's input, written per row. -/
theorem inputs_eq (x h : FVec Ideal S16384x1024 .f32) (a b c d e : FVec Ideal S16384x1024 .bf16) (g : FVec Ideal S1x1024 .f32) :
    Cert.Reference40Ideal.Value.inputs x h (Cert.Reference40Ideal.Value.weighted (Cert.Reference40Ideal.Value.branches a b c d e) g)
      = inputValue x h a b c d e g := by
  refine funext fun i => ?_
  have hi : i = ix2 (i 0) (i 1) := Shape.idx_ext₂ rfl rfl
  refine (congrArg (Cert.Reference40Ideal.Value.inputs x h _) hi).trans ?_
  refine (Cert.Reference40Ideal.Value.inputs_at x h _ (i 0) (i 1)).trans ?_
  refine congrArg (fun f : Fin 1024 → EReal => h (ix2 (i 0) (i 1)) + RowGradient.kernelForm (fun k => x (ix2 (i 0) k)) f (i 1)) (funext fun k => ?_)
  exact (Cert.Reference40Ideal.Value.weighted_at _ g (i 0) k).trans
    (congrArg (· * g (ix2 (0 : Fin 1) k)) (Cert.Reference40Ideal.Value.branches_at a b c d e (i 0) k))

/-- The reference's gradient of the norm's weight, written per column. -/
theorem weights_eq (x : FVec Ideal S16384x1024 .f32) (a b c d e : FVec Ideal S16384x1024 .bf16) :
    Cert.Reference40Ideal.Value.weights x (Cert.Reference40Ideal.Value.branches a b c d e) = weightValue x a b c d e := by
  refine funext fun i => ?_
  have h0 : (i 0).val = 0 := by have : (i 0).val < 1 := (i 0).isLt; omega
  have hi : i = ix2 (0 : Fin 1) (i 1) := Shape.idx_ext₂ h0 rfl
  refine (congrArg (Cert.Reference40Ideal.Value.weights x _) hi).trans ?_
  refine (Cert.Reference40Ideal.Value.weights_at x _ (i 1)).trans ?_
  refine congrArg (fun f : Fin 16384 → EReal => ∑ n, f n) (funext fun n => ?_)
  refine (mul_comm _ _).trans (congrArg (· * (x (ix2 n (i 1)) * RowGradient.scale (fun k => x (ix2 n k)))) ?_)
  exact Cert.Reference40Ideal.Value.branches_at a b c d e n (i 1)

/-- The array that the call leaves as the gradient at the step's input. -/
theorem result_input (c : Dev nD) : (dats m 0 c).arrAt 8 (cfgs 0).N
    = inputValue (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  refine (dats m 0 c).arrAt_eq_of_covers 8 _ (by decide +kernel) fun t _ y => ?_
  blk_simp
  rw [after0_8]
  obtain ⟨h0, h1, h2, h3, h4, h5, h6, h7, h8, h9⟩ := index_at t
  have y0 : (y 0).val < 512 := (y 0).isLt
  have ht : t.val < 32 := t.isLt
  have e : ((win0_8.blk t).view.emb y : S16384x1024.Idx) = ix2 (⟨t.val * 512 + (y 0).val, by omega⟩ : Fin 16384) (y 1) := by
    blk_ext [h8]
  refine (congrArg (outsAt0 m c t.val t.isLt).1 (show y = ix2 (y 0) (y 1) from Shape.idx_ext₂ rfl rfl)).trans ?_
  refine (stored_at m c t (y 0) (y 1)).trans ?_
  refine Eq.trans ?_ (congrArg (inputValue _ _ _ _ _ _ _ _) e.symm)
  show (_ : EReal) = _ + RowGradient.kernelForm _ _ _
  rw [hs_eq m c t (y 0) (y 1) (⟨t.val * 512 + (y 0).val, by omega⟩ : Fin 16384) rfl,
    show xs m c t (y 0) = _ from funext fun k => xs_eq m c t (y 0) k (⟨t.val * 512 + (y 0).val, by omega⟩ : Fin 16384) rfl]
  refine congrArg (fun f : Fin 1024 → EReal => _ + RowGradient.kernelForm _ f _) (funext fun k => ?_)
  exact congrArg₂ (· * ·) (sums_eq m c t (y 0) k _ rfl) (gs_eq m c t k)

/-- The gradient of the norm's weight after the last point, at an entry. -/
theorem total_at (c : Dev nD) (t : Fin cfg0.N) (hl : t.val % 32 = 31) (j : Fin 1024) :
    ((outsAt0 m c t.val t.isLt).2 (ix2 (0 : Fin 1) j) : EReal)
      = weightValue (m ((c : Thread nD τ).loc main_arg0)) (m ((c : Thread nD τ).loc main_arg2))
      (m ((c : Thread nD τ).loc main_arg3)) (m ((c : Thread nD τ).loc main_arg4)) (m ((c : Thread nD τ).loc main_arg5))
      (m ((c : Thread nD τ).loc main_arg6)) (ix2 (0 : Fin 1) j) := by
  refine (Pipeline.eq_sum_fin_of_reset_step_apply_of_flush (fun n h (j : Fin 1024) => ((outsAt0 m c n h).2 (ix2 (0 : Fin 1) j) : EReal)) 32
    (fun _ => (0 : EReal)) (added m c) (fun t h j => first_at m c t h j) (fun t h j => step_at m c t h j) t hl j).trans ?_
  rw [zero_add]
  unfold added
  show _ = ∑ n : Fin 16384, Cert.Reference40Ideal.Value.branch _ _ _ _ _ n j * ((_ : EReal) * RowGradient.scale _)
  have ht : t.val < 32 := t.isLt
  refine Fin.sum_mul_add_congr fun s k hk => ?_
  have hk' : s.val * 512 + k.val = (32 * (t.val / 32) + s.val) * 512 + k.val := by
    rw [Nat.div_eq_of_lt ht, Nat.mul_zero, Nat.zero_add]
  have hx : ∀ i, xs m c ⟨32 * (t.val / 32) + s.val, Pipeline.run_point_lt_of_flush t hl s⟩ k i = _ :=
    fun i => xs_eq m c _ k i ⟨s.val * 512 + k.val, hk⟩ hk'
  refine congrArg₂ (· * ·) (sums_eq m c _ k j ⟨s.val * 512 + k.val, hk⟩ hk') (congrArg₂ (· * ·) (hx j) ?_)
  exact congrArg RowGradient.scale (funext hx)

/-- The array that the call leaves as the gradient of the norm's weight. -/
theorem result_weight (c : Dev nD) : (dats m 0 c).arrAt 9 (cfgs 0).N
    = weightValue (m ((c : Thread nD τ).loc main_arg0)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 9 _ (by decide +kernel) fun t hf y => ?_
  blk_simp
  have hl : t.val % 32 = 31 := (flush0_9 t).mp hf
  rw [after0_9]
  have y0 : (y 0).val = 0 := by have : (y 0).val < 1 := (y 0).isLt; omega
  obtain ⟨h0, h1, h2, h3, h4, h5, h6, h7, h8, h9⟩ := index_at t
  have e : ((win0_9.blk t).view.emb y : S1x1024.Idx) = ix2 (0 : Fin 1) (y 1) := by
    blk_ext [h9]
  refine (congrArg (outsAt0 m c t.val t.isLt).2 (show y = ix2 (0 : Fin 1) (y 1) from Shape.idx_ext₂ y0 rfl)).trans ?_
  exact (total_at m c t hl (y 1)).trans (congrArg (weightValue _ _ _ _ _ _) e.symm)

/-- Every run of the translated kernel returns and leaves its arguments as they were. -/
theorem frame_kernel : Cert.quiescent_Kernel40 := fun m ρ _ => Cert.Kernel40.Gen.frame m ρ

/-- Every run of the idealized kernel returns and leaves its arguments as they were. -/
theorem frame_ideal : Cert.quiescent_Kernel40Ideal := fun m ρ _ => Cert.Kernel40Ideal.Gen.frame m ρ

set_option maxHeartbeats 4000000 in
/-- Every run of the reference returns and leaves its arguments as they were. -/
theorem frame_reference : Cert.quiescent_Reference40Ideal := by
  intro m g _
  hlo_run
  · intro _; simp
  · exact sem_eq_zero_of_no_sems (sig := Cert.Reference40Ideal.sig) (by decide) _

set_option maxHeartbeats 4000000 in
/-- The idealized kernel and the reference compute the same two gradients. -/
theorem algebraic : Cert.algebraic_Kernel40Ideal_Reference40Ideal := by
  pair_intro
  · run_from Cert.Kernel40Ideal.Gen.run_main m g
  · hlo_run
    · refine Eq.trans ?_ (result_input m c).symm
      exact inputs_eq _ _ _ _ _ _ _ _
    · refine Eq.trans ?_ (result_weight m c).symm
      exact weights_eq _ _ _ _ _ _

end Cert.Kernel40Ideal.Product

end
-- ==== Proof.lean ====
module

public import proofs.«01_k».proof.Defs
public import proofs.«01_k».proof.Proof.Gen.KernelIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.Reference4Ideal
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6Ideal
public import proofs.«01_k».proof.Proof.Gen.Reference6Ideal
public import proofs.«01_k».proof.Proof.Gen.Kernel7
public import proofs.«01_k».proof.Proof.Gen.Kernel7Ideal
public import proofs.«01_k».proof.Proof.Gen.Reference7Ideal
public import proofs.«01_k».proof.Proof.Gen.Kernel8
public import proofs.«01_k».proof.Proof.Gen.Kernel8Ideal
public import proofs.«01_k».proof.Proof.Gen.Reference8Ideal
public import proofs.«01_k».proof.Proof.Gen.Kernel9
public import proofs.«01_k».proof.Proof.Gen.Kernel9Ideal
public import proofs.«01_k».proof.Proof.Gen.Reference9Ideal
public import proofs.«01_k».proof.Proof.Gen.Kernel10
public import proofs.«01_k».proof.Proof.Gen.Kernel10Ideal
public import proofs.«01_k».proof.Proof.Gen.Reference10Ideal
public import proofs.«01_k».proof.Proof.Gen.Kernel11
public import proofs.«01_k».proof.Proof.Gen.Kernel11Ideal
public import proofs.«01_k».proof.Proof.Gen.Reference11Ideal
public import proofs.«01_k».proof.Proof.Gen.Kernel12
public import proofs.«01_k».proof.Proof.Gen.Kernel12Ideal
public import proofs.«01_k».proof.Proof.Gen.Reference12Ideal
public import proofs.«01_k».proof.Proof.Gen.Kernel13
public import proofs.«01_k».proof.Proof.Gen.Kernel13Ideal
public import proofs.«01_k».proof.Proof.Gen.Reference13Ideal
public import proofs.«01_k».proof.Proof.Gen.Kernel14
public import proofs.«01_k».proof.Proof.Gen.Kernel14Ideal
public import proofs.«01_k».proof.Proof.Gen.Reference14Ideal
public import proofs.«01_k».proof.Proof.Gen.Kernel15
public import proofs.«01_k».proof.Proof.Gen.Kernel15Ideal
public import proofs.«01_k».proof.Proof.Gen.Reference15Ideal
public import proofs.«01_k».proof.Proof.Gen.Kernel16
public import proofs.«01_k».proof.Proof.Gen.Kernel16Ideal
public import proofs.«01_k».proof.Proof.Gen.Reference16Ideal
public import proofs.«01_k».proof.Proof.Gen.Kernel17
public import proofs.«01_k».proof.Proof.Gen.Kernel17Ideal
public import proofs.«01_k».proof.Proof.Gen.Reference17Ideal
public import proofs.«01_k».proof.Proof.Gen.Kernel18
public import proofs.«01_k».proof.Proof.Gen.Kernel18Ideal
public import proofs.«01_k».proof.Proof.Gen.Reference18Ideal
public import proofs.«01_k».proof.Proof.Gen.Kernel19
public import proofs.«01_k».proof.Proof.Gen.Kernel19Ideal
public import proofs.«01_k».proof.Proof.Gen.Reference19Ideal
public import proofs.«01_k».proof.Proof.Gen.Kernel20
public import proofs.«01_k».proof.Proof.Gen.Kernel20Ideal
public import proofs.«01_k».proof.Proof.Gen.Reference20Ideal
public import proofs.«01_k».proof.Proof.Gen.Kernel21
public import proofs.«01_k».proof.Proof.Gen.Kernel21Ideal
public import proofs.«01_k».proof.Proof.Gen.Reference21Ideal
public import proofs.«01_k».proof.Proof.Gen.Kernel22
public import proofs.«01_k».proof.Proof.Gen.Kernel22Ideal
public import proofs.«01_k».proof.Proof.Gen.Reference22Ideal
public import proofs.«01_k».proof.Proof.Gen.Kernel23
public import proofs.«01_k».proof.Proof.Gen.Kernel23Ideal
public import proofs.«01_k».proof.Proof.Gen.Reference23Ideal
public import proofs.«01_k».proof.Proof.Gen.Kernel24
public import proofs.«01_k».proof.Proof.Gen.Kernel24Ideal
public import proofs.«01_k».proof.Proof.Gen.Reference24Ideal
public import proofs.«01_k».proof.Proof.Gen.Kernel25
public import proofs.«01_k».proof.Proof.Gen.Kernel25Ideal
public import proofs.«01_k».proof.Proof.Gen.Reference25Ideal
public import proofs.«01_k».proof.Proof.Gen.Kernel26
public import proofs.«01_k».proof.Proof.Gen.Kernel26Ideal
public import proofs.«01_k».proof.Proof.Gen.Reference26Ideal
public import proofs.«01_k».proof.Proof.Gen.Kernel27
public import proofs.«01_k».proof.Proof.Gen.Kernel27Ideal
public import proofs.«01_k».proof.Proof.Gen.Reference27Ideal
public import proofs.«01_k».proof.Proof.Gen.Kernel28
public import proofs.«01_k».proof.Proof.Gen.Kernel28Ideal
public import proofs.«01_k».proof.Proof.Gen.Reference28Ideal
public import proofs.«01_k».proof.Proof.Gen.Kernel29
public import proofs.«01_k».proof.Proof.Gen.Kernel29Ideal
public import proofs.«01_k».proof.Proof.Gen.Reference29Ideal
public import proofs.«01_k».proof.Proof.Gen.Kernel30
public import proofs.«01_k».proof.Proof.Gen.Kernel30Ideal
public import proofs.«01_k».proof.Proof.Gen.Reference30Ideal
public import proofs.«01_k».proof.Proof.Gen.Kernel31
public import proofs.«01_k».proof.Proof.Gen.Kernel31Ideal
public import proofs.«01_k».proof.Proof.Gen.Reference31Ideal
public import proofs.«01_k».proof.Proof.Gen.Kernel32
public import proofs.«01_k».proof.Proof.Gen.Kernel32Ideal
public import proofs.«01_k».proof.Proof.Gen.Reference32Ideal
public import proofs.«01_k».proof.Proof.Gen.Kernel33
public import proofs.«01_k».proof.Proof.Gen.Kernel33Ideal
public import proofs.«01_k».proof.Proof.Gen.Reference33Ideal
public import proofs.«01_k».proof.Proof.Gen.Kernel34
public import proofs.«01_k».proof.Proof.Gen.Kernel34Ideal
public import proofs.«01_k».proof.Proof.Gen.Reference34Ideal
public import proofs.«01_k».proof.Proof.Gen.Kernel35
public import proofs.«01_k».proof.Proof.Gen.Kernel35Ideal
public import proofs.«01_k».proof.Proof.Gen.Reference35Ideal
public import proofs.«01_k».proof.Proof.Gen.Kernel36
public import proofs.«01_k».proof.Proof.Gen.Kernel36Ideal
public import proofs.«01_k».proof.Proof.Gen.Reference36Ideal
public import proofs.«01_k».proof.Proof.Gen.Kernel37
public import proofs.«01_k».proof.Proof.Gen.Kernel37Ideal
public import proofs.«01_k».proof.Proof.Gen.Reference37Ideal
public import proofs.«01_k».proof.Proof.Gen.Kernel38
public import proofs.«01_k».proof.Proof.Gen.Kernel38Ideal
public import proofs.«01_k».proof.Proof.Gen.Reference38Ideal
public import proofs.«01_k».proof.Proof.Gen.Kernel39
public import proofs.«01_k».proof.Proof.Gen.Kernel39Ideal
public import proofs.«01_k».proof.Proof.Gen.Reference39Ideal
public import proofs.«01_k».proof.Proof.Gen.Kernel40
public import proofs.«01_k».proof.Proof.Gen.Kernel40Ideal
public import proofs.«01_k».proof.Proof.Gen.Reference40Ideal
public import proofs.«01_k».proof.Proof.Retention
public import proofs.«01_k».proof.Proof.Products.DownClaim
public import proofs.«01_k».proof.Proof.Products.ActClaim
public import proofs.«01_k».proof.Proof.Products.Up
public import proofs.«01_k».proof.Proof.Products.UpInput
public import proofs.«01_k».proof.Proof.Products.Retention
public import proofs.«01_k».proof.Proof.Products.RetentionInput
public import proofs.«01_k».proof.Proof.Products.Gate
public import proofs.«01_k».proof.Proof.Products.GateInput
public import proofs.«01_k».proof.Proof.Products.Dilated
public import proofs.«01_k».proof.Proof.Products.DilatedInput
public import proofs.«01_k».proof.Proof.Products.RetentionOut
public import proofs.«01_k».proof.Proof.Products.RetentionOutInput
public import proofs.«01_k».proof.Proof.Products.Mix
public import proofs.«01_k».proof.Proof.Products.MixInput
public import proofs.«01_k».proof.Proof.Products.DilatedOut
public import proofs.«01_k».proof.Proof.Products.DilatedOutInput
public import proofs.«01_k».proof.Proof.Products.Embedding
public import proofs.«01_k».proof.Proof.Products.RetentionForward
public import proofs.«01_k».proof.Proof.Products.UpForward
public import proofs.«01_k».proof.Proof.Products.DownForward
public import proofs.«01_k».proof.Proof.Products.GateForward
public import proofs.«01_k».proof.Proof.Products.RetentionOutForward
public import proofs.«01_k».proof.Proof.Products.MixForward
public import proofs.«01_k».proof.Proof.Products.DilatedOutForward
public import proofs.«01_k».proof.Proof.Products.EmbeddingForward
public import proofs.«01_k».proof.Proof.Products.RetentionOutStep
public import proofs.«01_k».proof.Proof.Products.MixStep
public import proofs.«01_k».proof.Proof.Products.DownStep
public import proofs.«01_k».proof.Proof.Products.VectorsStep
public import proofs.«01_k».proof.Proof.Products.InputStep
public import proofs.«01_k».proof.Proof.Products.UpStep
public import proofs.«01_k».proof.Proof.Products.DilatedOutStep
public import proofs.«01_k».proof.Proof.Products.EmbeddingStep
public import proofs.«01_k».proof.Proof.Products.BiasStep
public import proofs.«01_k».proof.Proof.Products.InputTotal
public import proofs.«01_k».proof.Proof.Products.UpTotal
public import proofs.«01_k».proof.Proof.Products.DilatedOutTotal
public import proofs.«01_k».proof.Proof.Products.EmbeddingTotal
public import proofs.«01_k».proof.Proof.Products.StepInput

@[expose] public section

noncomputable section

namespace Cert.Proof

theorem claim : Cert.Claim :=
  ⟨Cert.KernelIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts,
   Cert.KernelIdeal.Whole.frame_ideal,
   Cert.Kernel2Ideal.Product.frame_kernel,
   Cert.Kernel2Ideal.Product.frame_ideal,
   Cert.Kernel2Ideal.Product.frame_reference,
   Cert.Kernel3Ideal.Product.frame_kernel,
   Cert.Kernel3Ideal.Product.frame_ideal,
   Cert.Kernel3Ideal.Product.frame_reference,
   Cert.Kernel4Ideal.Product.frame_kernel,
   Cert.Kernel4Ideal.Product.frame_ideal,
   Cert.Kernel4Ideal.Product.frame_reference,
   Cert.Kernel5Ideal.Product.frame_kernel,
   Cert.Kernel5Ideal.Product.frame_ideal,
   Cert.Kernel5Ideal.Product.frame_reference,
   Cert.Kernel6Ideal.Product.frame_kernel,
   Cert.Kernel6Ideal.Product.frame_ideal,
   Cert.Kernel6Ideal.Product.frame_reference,
   Cert.Kernel7Ideal.Product.frame_kernel,
   Cert.Kernel7Ideal.Product.frame_ideal,
   Cert.Kernel7Ideal.Product.frame_reference,
   Cert.Kernel8Ideal.Product.frame_kernel,
   Cert.Kernel8Ideal.Product.frame_ideal,
   Cert.Kernel8Ideal.Product.frame_reference,
   Cert.Kernel9Ideal.Product.frame_kernel,
   Cert.Kernel9Ideal.Product.frame_ideal,
   Cert.Kernel9Ideal.Product.frame_reference,
   Cert.Kernel10Ideal.Product.frame_kernel,
   Cert.Kernel10Ideal.Product.frame_ideal,
   Cert.Kernel10Ideal.Product.frame_reference,
   Cert.Kernel11Ideal.Product.frame_kernel,
   Cert.Kernel11Ideal.Product.frame_ideal,
   Cert.Kernel11Ideal.Product.frame_reference,
   Cert.Kernel12Ideal.Product.frame_kernel,
   Cert.Kernel12Ideal.Product.frame_ideal,
   Cert.Kernel12Ideal.Product.frame_reference,
   Cert.Kernel13Ideal.Product.frame_kernel,
   Cert.Kernel13Ideal.Product.frame_ideal,
   Cert.Kernel13Ideal.Product.frame_reference,
   Cert.Kernel14Ideal.Product.frame_kernel,
   Cert.Kernel14Ideal.Product.frame_ideal,
   Cert.Kernel14Ideal.Product.frame_reference,
   Cert.Kernel15Ideal.Product.frame_kernel,
   Cert.Kernel15Ideal.Product.frame_ideal,
   Cert.Kernel15Ideal.Product.frame_reference,
   Cert.Kernel16Ideal.Product.frame_kernel,
   Cert.Kernel16Ideal.Product.frame_ideal,
   Cert.Kernel16Ideal.Product.frame_reference,
   Cert.Kernel17Ideal.Product.frame_kernel,
   Cert.Kernel17Ideal.Product.frame_ideal,
   Cert.Kernel17Ideal.Product.frame_reference,
   Cert.Kernel18Ideal.Product.frame_kernel,
   Cert.Kernel18Ideal.Product.frame_ideal,
   Cert.Kernel18Ideal.Product.frame_reference,
   Cert.Kernel19Ideal.Product.frame_kernel,
   Cert.Kernel19Ideal.Product.frame_ideal,
   Cert.Kernel19Ideal.Product.frame_reference,
   Cert.Kernel20Ideal.Product.frame_kernel,
   Cert.Kernel20Ideal.Product.frame_ideal,
   Cert.Kernel20Ideal.Product.frame_reference,
   Cert.Kernel21Ideal.Product.frame_kernel,
   Cert.Kernel21Ideal.Product.frame_ideal,
   Cert.Kernel21Ideal.Product.frame_reference,
   Cert.Kernel22Ideal.Product.frame_kernel,
   Cert.Kernel22Ideal.Product.frame_ideal,
   Cert.Kernel22Ideal.Product.frame_reference,
   Cert.Kernel23Ideal.Product.frame_kernel,
   Cert.Kernel23Ideal.Product.frame_ideal,
   Cert.Kernel23Ideal.Product.frame_reference,
   Cert.Kernel24Ideal.Product.frame_kernel,
   Cert.Kernel24Ideal.Product.frame_ideal,
   Cert.Kernel24Ideal.Product.frame_reference,
   Cert.Kernel25Ideal.Product.frame_kernel,
   Cert.Kernel25Ideal.Product.frame_ideal,
   Cert.Kernel25Ideal.Product.frame_reference,
   Cert.Kernel26Ideal.Product.frame_kernel,
   Cert.Kernel26Ideal.Product.frame_ideal,
   Cert.Kernel26Ideal.Product.frame_reference,
   Cert.Kernel27Ideal.Product.frame_kernel,
   Cert.Kernel27Ideal.Product.frame_ideal,
   Cert.Kernel27Ideal.Product.frame_reference,
   Cert.Kernel28Ideal.Product.frame_kernel,
   Cert.Kernel28Ideal.Product.frame_ideal,
   Cert.Kernel28Ideal.Product.frame_reference,
   Cert.Kernel29Ideal.Product.frame_kernel,
   Cert.Kernel29Ideal.Product.frame_ideal,
   Cert.Kernel29Ideal.Product.frame_reference,
   Cert.Kernel30Ideal.Product.frame_kernel,
   Cert.Kernel30Ideal.Product.frame_ideal,
   Cert.Kernel30Ideal.Product.frame_reference,
   Cert.Kernel31Ideal.Product.frame_kernel,
   Cert.Kernel31Ideal.Product.frame_ideal,
   Cert.Kernel31Ideal.Product.frame_reference,
   Cert.Kernel32Ideal.Product.frame_kernel,
   Cert.Kernel32Ideal.Product.frame_ideal,
   Cert.Kernel32Ideal.Product.frame_reference,
   Cert.Kernel33Ideal.Product.frame_kernel,
   Cert.Kernel33Ideal.Product.frame_ideal,
   Cert.Kernel33Ideal.Product.frame_reference,
   Cert.Kernel34Ideal.Product.frame_kernel,
   Cert.Kernel34Ideal.Product.frame_ideal,
   Cert.Kernel34Ideal.Product.frame_reference,
   Cert.Kernel35Ideal.Product.frame_kernel,
   Cert.Kernel35Ideal.Product.frame_ideal,
   Cert.Kernel35Ideal.Product.frame_reference,
   Cert.Kernel36Ideal.Product.frame_kernel,
   Cert.Kernel36Ideal.Product.frame_ideal,
   Cert.Kernel36Ideal.Product.frame_reference,
   Cert.Kernel37Ideal.Product.frame_kernel,
   Cert.Kernel37Ideal.Product.frame_ideal,
   Cert.Kernel37Ideal.Product.frame_reference,
   Cert.Kernel38Ideal.Product.frame_kernel,
   Cert.Kernel38Ideal.Product.frame_ideal,
   Cert.Kernel38Ideal.Product.frame_reference,
   Cert.Kernel39Ideal.Product.frame_kernel,
   Cert.Kernel39Ideal.Product.frame_ideal,
   Cert.Kernel39Ideal.Product.frame_reference,
   Cert.Kernel40Ideal.Product.frame_kernel,
   Cert.Kernel40Ideal.Product.frame_ideal,
   Cert.Kernel40Ideal.Product.frame_reference,
   trivial,
   Cert.Kernel2Ideal.Product.algebraic,
   trivial,
   Cert.Kernel3Ideal.Product.algebraic,
   trivial,
   Cert.Kernel4Ideal.Product.algebraic,
   trivial,
   Cert.Kernel5Ideal.Product.algebraic,
   trivial,
   Cert.Kernel6Ideal.Product.algebraic,
   trivial,
   Cert.Kernel7Ideal.Product.algebraic,
   trivial,
   Cert.Kernel8Ideal.Product.algebraic,
   trivial,
   Cert.Kernel9Ideal.Product.algebraic,
   trivial,
   Cert.Kernel10Ideal.Product.algebraic,
   trivial,
   Cert.Kernel11Ideal.Product.algebraic,
   trivial,
   Cert.Kernel12Ideal.Product.algebraic,
   trivial,
   Cert.Kernel13Ideal.Product.algebraic,
   trivial,
   Cert.Kernel14Ideal.Product.algebraic,
   trivial,
   Cert.Kernel15Ideal.Product.algebraic,
   trivial,
   Cert.Kernel16Ideal.Product.algebraic,
   trivial,
   Cert.Kernel17Ideal.Product.algebraic,
   trivial,
   Cert.Kernel18Ideal.Product.algebraic,
   trivial,
   Cert.Kernel19Ideal.Product.algebraic,
   trivial,
   Cert.Kernel20Ideal.Product.algebraic,
   trivial,
   Cert.Kernel21Ideal.Product.algebraic,
   trivial,
   Cert.Kernel22Ideal.Product.algebraic,
   trivial,
   Cert.Kernel23Ideal.Product.algebraic,
   trivial,
   Cert.Kernel24Ideal.Product.algebraic,
   trivial,
   Cert.Kernel25Ideal.Product.algebraic,
   trivial,
   Cert.Kernel26Ideal.Product.algebraic,
   trivial,
   Cert.Kernel27Ideal.Product.algebraic,
   trivial,
   Cert.Kernel28Ideal.Product.algebraic,
   trivial,
   Cert.Kernel29Ideal.Product.algebraic,
   trivial,
   Cert.Kernel30Ideal.Product.algebraic,
   trivial,
   Cert.Kernel31Ideal.Product.algebraic,
   trivial,
   Cert.Kernel32Ideal.Product.algebraic,
   trivial,
   Cert.Kernel33Ideal.Product.algebraic,
   trivial,
   Cert.Kernel34Ideal.Product.algebraic,
   trivial,
   Cert.Kernel35Ideal.Product.algebraic,
   trivial,
   Cert.Kernel36Ideal.Product.algebraic,
   trivial,
   Cert.Kernel37Ideal.Product.algebraic,
   trivial,
   Cert.Kernel38Ideal.Product.algebraic,
   trivial,
   Cert.Kernel39Ideal.Product.algebraic,
   trivial,
   Cert.Kernel40Ideal.Product.algebraic⟩

end Cert.Proof

end
